-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 1024, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 1024, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 1024, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.blockN ⟨4, ![2, 256, 8, 64]⟩ ⟨4, ![2, 1024, 8, 64]⟩ (Layout.meshBlock [2, 2, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_qk_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .bf16) (main_arg1 : FVec F S2x1024x8x64 .bf16) (main_arg2 : FVec F S2x1024x8x64 .bf16) : IVec S2x1024x8x64 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_v3 : FVec F S2x1024x8x64 .bf16 := Host.absf main_arg1
  let main_cst_0 : FVec F S_ .bf16 := constant S_ .bf16 0x7F80#16
  let main_v4 : FVec F S2x1024x8x64 .bf16 := broadcastInDim S2x1024x8x64 ![] bcast_S_S2x1024x8x64 main_cst_0
  let main_v5 : IVec S2x1024x8x64 1 := cmpf .olt main_v3 main_v4
  let main_v6 : IVec S2x1024x8x64 1 := andi main_v2 main_v5
  main_v6
-- ==== Kernel.lean ====
abbrev S2x256x8x64 : Shape := ⟨4, ![2, 256, 8, 64]⟩
abbrev S2x8x256x64 : Shape := ⟨4, ![2, 8, 256, 64]⟩
abbrev S16x256x64 : Shape := ⟨3, ![16, 256, 64]⟩
abbrev S4x4x256x64 : Shape := ⟨4, ![4, 4, 256, 64]⟩
abbrev S4x1x4x256x64 : Shape := ⟨5, ![4, 1, 4, 256, 64]⟩
abbrev S4x2x4x256x64 : Shape := ⟨5, ![4, 2, 4, 256, 64]⟩
abbrev S4x4x2x4x256x64 : Shape := ⟨6, ![4, 4, 2, 4, 256, 64]⟩
abbrev S4 : Shape := ⟨1, ![4]⟩
abbrev S_ : Shape := ⟨0, ![]⟩
abbrev S1 : Shape := ⟨1, ![1]⟩
abbrev S1x1x2x4x256x64 : Shape := ⟨6, ![1, 1, 2, 4, 256, 64]⟩
abbrev S2x4x256x64 : Shape := ⟨4, ![2, 4, 256, 64]⟩
abbrev S1x2x4x256x64 : Shape := ⟨5, ![1, 2, 4, 256, 64]⟩
abbrev S1x1x1x4x256x64 : Shape := ⟨6, ![1, 1, 1, 4, 256, 64]⟩
abbrev S4x256x64 : Shape := ⟨3, ![4, 256, 64]⟩
abbrev S1x256x64 : Shape := ⟨3, ![1, 256, 64]⟩
abbrev S256x64 : Shape := ⟨2, ![256, 64]⟩
abbrev S1x1x1x256x64 : Shape := ⟨5, ![1, 1, 1, 256, 64]⟩
abbrev S256x256 : Shape := ⟨2, ![256, 256]⟩
abbrev S256 : Shape := ⟨1, ![256]⟩
abbrev S256x1 : Shape := ⟨2, ![256, 1]⟩
abbrev S1x1x1x1x256x64 : Shape := ⟨6, ![1, 1, 1, 1, 256, 64]⟩

abbrev nBuf : Space → Nat
  | .hbm => 17
  | .vmem => 4
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x8x256x64, .bf16⟩
  | .hbm, ⟨4, _⟩ => ⟨S16x256x64, .bf16⟩
  | .hbm, ⟨5, _⟩ => ⟨S2x8x256x64, .bf16⟩
  | .hbm, ⟨6, _⟩ => ⟨S16x256x64, .bf16⟩
  | .hbm, ⟨7, _⟩ => ⟨S4x4x256x64, .bf16⟩
  | .hbm, ⟨8, _⟩ => ⟨S2x8x256x64, .bf16⟩
  | .hbm, ⟨9, _⟩ => ⟨S16x256x64, .bf16⟩
  | .hbm, ⟨10, _⟩ => ⟨S4x4x256x64, .bf16⟩
  | .hbm, ⟨11, _⟩ => ⟨S4x1x4x256x64, .bf16⟩
  | .hbm, ⟨12, _⟩ => ⟨S4x1x4x256x64, .bf16⟩
  | .hbm, ⟨13, _⟩ => ⟨S4x2x4x256x64, .bf16⟩
  | .hbm, ⟨14, _⟩ => ⟨S16x256x64, .f32⟩
  | .hbm, ⟨15, _⟩ => ⟨S2x8x256x64, .f32⟩
  | .hbm, ⟨16, _⟩ => ⟨S2x256x8x64, .f32⟩
  | .local _ .vmem, ⟨0, _⟩ => ⟨S16x256x64, .bf16⟩
  | .local _ .vmem, ⟨1, _⟩ => ⟨S4x2x4x256x64, .bf16⟩
  | .local _ .vmem, ⟨2, _⟩ => ⟨S16x256x64, .f32⟩
  | .local _ .vmem, ⟨3, _⟩ => ⟨S4x4x2x4x256x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v22 : BitVec 32 := Scalar.muli v2 c8_i32_12
  let v23 : BitVec 32 := Scalar.addi c0_i32 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v24 : BitVec 32 := Scalar.muli v5 c4_i32_13
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.addi v8 c1_i32_9
  let c4_i32_10 : BitVec 32 := 4#32
  let v21 : BitVec 32 := Scalar.remsi v20 c4_i32_10
  let c1_i32_14 : BitVec 32 := 1#32
  let v26 : BitVec 32 := Scalar.muli v21 c1_i32_14
  let v27 : BitVec 32 := Scalar.addi v25 v26
  v27.toNat
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v30 : BitVec 32 := Scalar.muli v2 c8_i32_18
  let v31 : BitVec 32 := Scalar.addi c0_i32_19 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v32 : BitVec 32 := Scalar.muli v5 c4_i32_20
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let v28 : BitVec 32 := Scalar.addi v8 c2_i32_15
  let c4_i32_16 : BitVec 32 := 4#32
  let v29 : BitVec 32 := Scalar.remsi v28 c4_i32_16
  let c1_i32_21 : BitVec 32 := 1#32
  let v34 : BitVec 32 := Scalar.muli v29 c1_i32_21
  let v35 : BitVec 32 := Scalar.addi v33 v34
  v35.toNat
def k0_dev3 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v38 : BitVec 32 := Scalar.muli v2 c8_i32_24
  let v39 : BitVec 32 := Scalar.addi c0_i32_25 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v40 : BitVec 32 := Scalar.muli v5 c4_i32_26
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v36 : BitVec 32 := Scalar.addi v8 c3_i32
  let c4_i32_22 : BitVec 32 := 4#32
  let v37 : BitVec 32 := Scalar.remsi v36 c4_i32_22
  let c1_i32_27 : BitVec 32 := 1#32
  let v42 : BitVec 32 := Scalar.muli v37 c1_i32_27
  let v43 : BitVec 32 := Scalar.addi v41 v42
  v43.toNat
def k0_dev4 (d0 : Dev nD) : Nat :=
  let c0_i32_30 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_29 : BitVec 32 := 8#32
  let v44 : BitVec 32 := Scalar.muli v17 c8_i32_29
  let v45 : BitVec 32 := Scalar.addi c0_i32_30 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v46 : BitVec 32 := Scalar.muli v5 c4_i32_31
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v48 : BitVec 32 := Scalar.muli v8 c1_i32_32
  let v49 : BitVec 32 := Scalar.addi v47 v48
  v49.toNat
def k0_dev5 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v50 : BitVec 32 := Scalar.muli v2 c8_i32_34
  let v51 : BitVec 32 := Scalar.addi c0_i32_35 v50
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_36 : BitVec 32 := 4#32
  let v52 : BitVec 32 := Scalar.muli v18 c4_i32_36
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v54 : BitVec 32 := Scalar.muli v8 c1_i32_37
  let v55 : BitVec 32 := Scalar.addi v53 v54
  v55.toNat
def k0_off1 (d0 : Dev nD) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_46 : BitVec 32 := 0#32
  let c0_i32_47 : BitVec 32 := 0#32
  let c0_i32_48 : BitVec 32 := 0#32
  let c0_i32_49 : BitVec 32 := 0#32
  ![v8.toNat, v10.toNat, 0, 0, 0, 0]
def k0_off2 (d0 : Dev nD) : Fin 5 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_50 : BitVec 32 := 0#32
  let c0_i32_51 : BitVec 32 := 0#32
  let c0_i32_52 : BitVec 32 := 0#32
  let c0_i32_53 : BitVec 32 := 0#32
  ![v10.toNat, 0, 0, 0, 0]
def k0_dev6 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v58 : BitVec 32 := Scalar.muli v2 c8_i32_42
  let v59 : BitVec 32 := Scalar.addi c0_i32_43 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v60 : BitVec 32 := Scalar.muli v5 c4_i32_44
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.addi v8 c1_i32_38
  let c4_i32_39 : BitVec 32 := 4#32
  let v57 : BitVec 32 := Scalar.remsi v56 c4_i32_39
  let c1_i32_45 : BitVec 32 := 1#32
  let v62 : BitVec 32 := Scalar.muli v57 c1_i32_45
  let v63 : BitVec 32 := Scalar.addi v61 v62
  v63.toNat
def k0_dev7 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v74 : BitVec 32 := Scalar.muli v2 c8_i32_58
  let v75 : BitVec 32 := Scalar.addi c0_i32_59 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v76 : BitVec 32 := Scalar.muli v5 c4_i32_60
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_54 : BitVec 32 := 2#32
  let v72 : BitVec 32 := Scalar.addi v8 c2_i32_54
  let c4_i32_55 : BitVec 32 := 4#32
  let v73 : BitVec 32 := Scalar.remsi v72 c4_i32_55
  let c1_i32_61 : BitVec 32 := 1#32
  let v78 : BitVec 32 := Scalar.muli v73 c1_i32_61
  let v79 : BitVec 32 := Scalar.addi v77 v78
  v79.toNat
def k0_dev8 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v90 : BitVec 32 := Scalar.muli v2 c8_i32_74
  let v91 : BitVec 32 := Scalar.addi c0_i32_75 v90
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v92 : BitVec 32 := Scalar.muli v5 c4_i32_76
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_70 : BitVec 32 := 3#32
  let v88 : BitVec 32 := Scalar.addi v8 c3_i32_70
  let c4_i32_71 : BitVec 32 := 4#32
  let v89 : BitVec 32 := Scalar.remsi v88 c4_i32_71
  let c1_i32_77 : BitVec 32 := 1#32
  let v94 : BitVec 32 := Scalar.muli v89 c1_i32_77
  let v95 : BitVec 32 := Scalar.addi v93 v94
  v95.toNat
def k0_off3 (d0 : Dev nD) (c1_i32_86 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v104 : BitVec 32 := Scalar.addi v8 c1_i32_86
  let c4_i32_87 : BitVec 32 := 4#32
  let v105 : BitVec 32 := Scalar.remsi v104 c4_i32_87
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_94 : BitVec 32 := 0#32
  let c0_i32_95 : BitVec 32 := 0#32
  let c0_i32_96 : BitVec 32 := 0#32
  let c0_i32_97 : BitVec 32 := 0#32
  ![v105.toNat, v10.toNat, 0, 0, 0, 0]
def k0_dev9 (d0 : Dev nD) : Nat :=
  let c0_i32_105 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_104 : BitVec 32 := 8#32
  let v118 : BitVec 32 := Scalar.muli v17 c8_i32_104
  let v119 : BitVec 32 := Scalar.addi c0_i32_105 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v120 : BitVec 32 := Scalar.muli v5 c4_i32_106
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v122 : BitVec 32 := Scalar.muli v8 c1_i32_107
  let v123 : BitVec 32 := Scalar.addi v121 v122
  v123.toNat
def k0_dev10 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v132 : BitVec 32 := Scalar.muli v2 c8_i32_118
  let v133 : BitVec 32 := Scalar.addi c0_i32_119 v132
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_120 : BitVec 32 := 4#32
  let v134 : BitVec 32 := Scalar.muli v18 c4_i32_120
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v136 : BitVec 32 := Scalar.muli v8 c1_i32_121
  let v137 : BitVec 32 := Scalar.addi v135 v136
  v137.toNat
def k0_dev11 (d0 : Dev nD) : Nat :=
  let c0_i32_149 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_148 : BitVec 32 := 8#32
  let v160 : BitVec 32 := Scalar.muli v17 c8_i32_148
  let v161 : BitVec 32 := Scalar.addi c0_i32_149 v160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v162 : BitVec 32 := Scalar.muli v5 c4_i32_150
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v164 : BitVec 32 := Scalar.muli v8 c1_i32_151
  let v165 : BitVec 32 := Scalar.addi v163 v164
  v165.toNat
def k0_dev12 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v174 : BitVec 32 := Scalar.muli v2 c8_i32_162
  let v175 : BitVec 32 := Scalar.addi c0_i32_163 v174
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_164 : BitVec 32 := 4#32
  let v176 : BitVec 32 := Scalar.muli v18 c4_i32_164
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v178 : BitVec 32 := Scalar.muli v8 c1_i32_165
  let v179 : BitVec 32 := Scalar.addi v177 v178
  v179.toNat
def k0_dev13 (d0 : Dev nD) : Nat :=
  let c0_i32_193 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_192 : BitVec 32 := 8#32
  let v202 : BitVec 32 := Scalar.muli v17 c8_i32_192
  let v203 : BitVec 32 := Scalar.addi c0_i32_193 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v204 : BitVec 32 := Scalar.muli v5 c4_i32_194
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v206 : BitVec 32 := Scalar.muli v8 c1_i32_195
  let v207 : BitVec 32 := Scalar.addi v205 v206
  v207.toNat
def k0_dev14 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v216 : BitVec 32 := Scalar.muli v2 c8_i32_206
  let v217 : BitVec 32 := Scalar.addi c0_i32_207 v216
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_208 : BitVec 32 := 4#32
  let v218 : BitVec 32 := Scalar.muli v18 c4_i32_208
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v220 : BitVec 32 := Scalar.muli v8 c1_i32_209
  let v221 : BitVec 32 := Scalar.addi v219 v220
  v221.toNat
def k0_off4 (d0 : Dev nD) (c1_i32_218 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_218
  let c4_i32_219 : BitVec 32 := 4#32
  let v231 : BitVec 32 := Scalar.remsi v230 c4_i32_219
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c2_i32_4 : BitVec 32 := 2#32
  let v12 : BitVec 32 := Scalar.muli v11 c2_i32_4
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c0_i32_226 : BitVec 32 := 0#32
  let c0_i32_227 : BitVec 32 := 0#32
  let c0_i32_228 : BitVec 32 := 0#32
  let c0_i32_229 : BitVec 32 := 0#32
  ![v231.toNat, v13.toNat, 0, 0, 0, 0]
def k0_off5 (d0 : Dev nD) (c1_i32_218 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_218
  let c4_i32_219 : BitVec 32 := 4#32
  let v231 : BitVec 32 := Scalar.remsi v230 c4_i32_219
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let c2_i32_4 : BitVec 32 := 2#32
  let v12 : BitVec 32 := Scalar.muli v11 c2_i32_4
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1_i32_235 : BitVec 32 := 1#32
  let c0_i32_242 : BitVec 32 := 0#32
  let c0_i32_243 : BitVec 32 := 0#32
  let c0_i32_244 : BitVec 32 := 0#32
  ![v231.toNat, v13.toNat, 1, 0, 0, 0]
def k0_dev15 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_238 : BitVec 32 := 8#32
  let v244 : BitVec 32 := Scalar.muli v2 c8_i32_238
  let v245 : BitVec 32 := Scalar.addi c0_i32_239 v244
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_240 : BitVec 32 := 4#32
  let v246 : BitVec 32 := Scalar.muli v18 c4_i32_240
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v248 : BitVec 32 := Scalar.muli v8 c1_i32_241
  let v249 : BitVec 32 := Scalar.addi v247 v248
  v249.toNat
def k0_off6 (d0 : Dev nD) (c1_i32_218 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_218
  let c4_i32_219 : BitVec 32 := 4#32
  let v231 : BitVec 32 := Scalar.remsi v230 c4_i32_219
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_5 : BitVec 32 := 2#32
  let v14 : BitVec 32 := Scalar.muli v2 c2_i32_5
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c0_i32_254 : BitVec 32 := 0#32
  let c0_i32_255 : BitVec 32 := 0#32
  let c0_i32_256 : BitVec 32 := 0#32
  let c0_i32_257 : BitVec 32 := 0#32
  ![v231.toNat, v16.toNat, 0, 0, 0, 0]
def k0_off7 (d0 : Dev nD) (c1_i32_218 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_218
  let c4_i32_219 : BitVec 32 := 4#32
  let v231 : BitVec 32 := Scalar.remsi v230 c4_i32_219
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_5 : BitVec 32 := 2#32
  let v14 : BitVec 32 := Scalar.muli v2 c2_i32_5
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c0_i32_263 : BitVec 32 := 0#32
  let c0_i32_270 : BitVec 32 := 0#32
  let c0_i32_271 : BitVec 32 := 0#32
  let c0_i32_272 : BitVec 32 := 0#32
  ![v231.toNat, v16.toNat, 0, 0, 0, 0]
def k0_dev16 (d0 : Dev nD) : Nat :=
  let c0_i32_267 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_266 : BitVec 32 := 8#32
  let v270 : BitVec 32 := Scalar.muli v17 c8_i32_266
  let v271 : BitVec 32 := Scalar.addi c0_i32_267 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_268 : BitVec 32 := 4#32
  let v272 : BitVec 32 := Scalar.muli v5 c4_i32_268
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v274 : BitVec 32 := Scalar.muli v8 c1_i32_269
  let v275 : BitVec 32 := Scalar.addi v273 v274
  v275.toNat
def k0_dev17 (d0 : Dev nD) : Nat :=
  let c0_i32_364 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_363 : BitVec 32 := 8#32
  let v370 : BitVec 32 := Scalar.muli v2 c8_i32_363
  let v371 : BitVec 32 := Scalar.addi c0_i32_364 v370
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_365 : BitVec 32 := 4#32
  let v372 : BitVec 32 := Scalar.muli v18 c4_i32_365
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v374 : BitVec 32 := Scalar.muli v8 c1_i32_366
  let v375 : BitVec 32 := Scalar.addi v373 v374
  v375.toNat
def k0_dev18 (d0 : Dev nD) : Nat :=
  let c0_i32_392 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_391 : BitVec 32 := 8#32
  let v396 : BitVec 32 := Scalar.muli v17 c8_i32_391
  let v397 : BitVec 32 := Scalar.addi c0_i32_392 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_393 : BitVec 32 := 4#32
  let v398 : BitVec 32 := Scalar.muli v5 c4_i32_393
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v400 : BitVec 32 := Scalar.muli v8 c1_i32_394
  let v401 : BitVec 32 := Scalar.addi v399 v400
  v401.toNat
def k0_dev19 (d0 : Dev nD) : Nat :=
  let c0_i32_490 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_489 : BitVec 32 := 8#32
  let v496 : BitVec 32 := Scalar.muli v2 c8_i32_489
  let v497 : BitVec 32 := Scalar.addi c0_i32_490 v496
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_491 : BitVec 32 := 4#32
  let v498 : BitVec 32 := Scalar.muli v18 c4_i32_491
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v500 : BitVec 32 := Scalar.muli v8 c1_i32_492
  let v501 : BitVec 32 := Scalar.addi v499 v500
  v501.toNat
def k0_dev20 (d0 : Dev nD) : Nat :=
  let c0_i32_518 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_517 : BitVec 32 := 8#32
  let v522 : BitVec 32 := Scalar.muli v17 c8_i32_517
  let v523 : BitVec 32 := Scalar.addi c0_i32_518 v522
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_519 : BitVec 32 := 4#32
  let v524 : BitVec 32 := Scalar.muli v5 c4_i32_519
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v526 : BitVec 32 := Scalar.muli v8 c1_i32_520
  let v527 : BitVec 32 := Scalar.addi v525 v526
  v527.toNat
def k0_off8 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_666 : BitVec 32 := 0#32
  let c0_i32_673 : BitVec 32 := 0#32
  let c0_i32_674 : BitVec 32 := 0#32
  let c0_i32_675 : BitVec 32 := 0#32
  ![v681.toNat, v10.toNat, 0, 0, 0, 0]
def k0_off9 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_680 : BitVec 32 := 1#32
  let c0_i32_687 : BitVec 32 := 0#32
  let c0_i32_688 : BitVec 32 := 0#32
  let c0_i32_689 : BitVec 32 := 0#32
  ![v681.toNat, v10.toNat, 1, 0, 0, 0]
def k0_off10 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v708 : Index := Scalar.indexCast v681
  let c0_696 : Index := 0#32
  let c0_697 : Index := 0#32
  let c0_698 : Index := 0#32
  let c0_699 : Index := 0#32
  let c0_700 : Index := 0#32
  ![v708.toNat, 0, 0, 0, 0, 0]
def k0_off11 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v711 : Index := Scalar.indexCast v681
  let c0_701 : Index := 0#32
  let c1_702 : Index := 1#32
  let c0_703 : Index := 0#32
  let c0_704 : Index := 0#32
  let c0_705 : Index := 0#32
  ![v711.toNat, 0, 1, 0, 0, 0]
def k0_off12 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v736 : Index := Scalar.indexCast v681
  let c0_714 : Index := 0#32
  let c0_715 : Index := 0#32
  let c1_716 : Index := 1#32
  let c0_717 : Index := 0#32
  let c0_718 : Index := 0#32
  ![v736.toNat, 0, 0, 1, 0, 0]
def k0_off13 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v739 : Index := Scalar.indexCast v681
  let c0_719 : Index := 0#32
  let c1_720 : Index := 1#32
  let c1_721 : Index := 1#32
  let c0_722 : Index := 0#32
  let c0_723 : Index := 0#32
  ![v739.toNat, 0, 1, 1, 0, 0]
def k0_off14 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v764 : Index := Scalar.indexCast v681
  let c0_732 : Index := 0#32
  let c0_733 : Index := 0#32
  let c2_734 : Index := 2#32
  let c0_735 : Index := 0#32
  let c0_736 : Index := 0#32
  ![v764.toNat, 0, 0, 2, 0, 0]
def k0_off15 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v767 : Index := Scalar.indexCast v681
  let c0_737 : Index := 0#32
  let c1_738 : Index := 1#32
  let c2_739 : Index := 2#32
  let c0_740 : Index := 0#32
  let c0_741 : Index := 0#32
  ![v767.toNat, 0, 1, 2, 0, 0]
def k0_off16 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v792 : Index := Scalar.indexCast v681
  let c0_750 : Index := 0#32
  let c0_751 : Index := 0#32
  let c3_752 : Index := 3#32
  let c0_753 : Index := 0#32
  let c0_754 : Index := 0#32
  ![v792.toNat, 0, 0, 3, 0, 0]
def k0_off17 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v795 : Index := Scalar.indexCast v681
  let c0_755 : Index := 0#32
  let c1_756 : Index := 1#32
  let c3_757 : Index := 3#32
  let c0_758 : Index := 0#32
  let c0_759 : Index := 0#32
  ![v795.toNat, 0, 1, 3, 0, 0]
def k0_off18 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v820 : Index := Scalar.indexCast v681
  let c1_768 : Index := 1#32
  let c0_769 : Index := 0#32
  let c0_770 : Index := 0#32
  let c0_771 : Index := 0#32
  let c0_772 : Index := 0#32
  ![v820.toNat, 1, 0, 0, 0, 0]
def k0_off19 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v823 : Index := Scalar.indexCast v681
  let c1_773 : Index := 1#32
  let c1_774 : Index := 1#32
  let c0_775 : Index := 0#32
  let c0_776 : Index := 0#32
  let c0_777 : Index := 0#32
  ![v823.toNat, 1, 1, 0, 0, 0]
def k0_off20 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v848 : Index := Scalar.indexCast v681
  let c1_786 : Index := 1#32
  let c0_787 : Index := 0#32
  let c1_788 : Index := 1#32
  let c0_789 : Index := 0#32
  let c0_790 : Index := 0#32
  ![v848.toNat, 1, 0, 1, 0, 0]
def k0_off21 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v851 : Index := Scalar.indexCast v681
  let c1_791 : Index := 1#32
  let c1_792 : Index := 1#32
  let c1_793 : Index := 1#32
  let c0_794 : Index := 0#32
  let c0_795 : Index := 0#32
  ![v851.toNat, 1, 1, 1, 0, 0]
def k0_off22 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v876 : Index := Scalar.indexCast v681
  let c1_804 : Index := 1#32
  let c0_805 : Index := 0#32
  let c2_806 : Index := 2#32
  let c0_807 : Index := 0#32
  let c0_808 : Index := 0#32
  ![v876.toNat, 1, 0, 2, 0, 0]
def k0_off23 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v879 : Index := Scalar.indexCast v681
  let c1_809 : Index := 1#32
  let c1_810 : Index := 1#32
  let c2_811 : Index := 2#32
  let c0_812 : Index := 0#32
  let c0_813 : Index := 0#32
  ![v879.toNat, 1, 1, 2, 0, 0]
def k0_off24 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v904 : Index := Scalar.indexCast v681
  let c1_822 : Index := 1#32
  let c0_823 : Index := 0#32
  let c3_824 : Index := 3#32
  let c0_825 : Index := 0#32
  let c0_826 : Index := 0#32
  ![v904.toNat, 1, 0, 3, 0, 0]
def k0_off25 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v907 : Index := Scalar.indexCast v681
  let c1_827 : Index := 1#32
  let c1_828 : Index := 1#32
  let c3_829 : Index := 3#32
  let c0_830 : Index := 0#32
  let c0_831 : Index := 0#32
  ![v907.toNat, 1, 1, 3, 0, 0]
def k0_off26 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v932 : Index := Scalar.indexCast v681
  let c2_840 : Index := 2#32
  let c0_841 : Index := 0#32
  let c0_842 : Index := 0#32
  let c0_843 : Index := 0#32
  let c0_844 : Index := 0#32
  ![v932.toNat, 2, 0, 0, 0, 0]
def k0_off27 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v935 : Index := Scalar.indexCast v681
  let c2_845 : Index := 2#32
  let c1_846 : Index := 1#32
  let c0_847 : Index := 0#32
  let c0_848 : Index := 0#32
  let c0_849 : Index := 0#32
  ![v935.toNat, 2, 1, 0, 0, 0]
def k0_off28 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v960 : Index := Scalar.indexCast v681
  let c2_858 : Index := 2#32
  let c0_859 : Index := 0#32
  let c1_860 : Index := 1#32
  let c0_861 : Index := 0#32
  let c0_862 : Index := 0#32
  ![v960.toNat, 2, 0, 1, 0, 0]
def k0_off29 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v963 : Index := Scalar.indexCast v681
  let c2_863 : Index := 2#32
  let c1_864 : Index := 1#32
  let c1_865 : Index := 1#32
  let c0_866 : Index := 0#32
  let c0_867 : Index := 0#32
  ![v963.toNat, 2, 1, 1, 0, 0]
def k0_off30 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v988 : Index := Scalar.indexCast v681
  let c2_876 : Index := 2#32
  let c0_877 : Index := 0#32
  let c2_878 : Index := 2#32
  let c0_879 : Index := 0#32
  let c0_880 : Index := 0#32
  ![v988.toNat, 2, 0, 2, 0, 0]
def k0_off31 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v991 : Index := Scalar.indexCast v681
  let c2_881 : Index := 2#32
  let c1_882 : Index := 1#32
  let c2_883 : Index := 2#32
  let c0_884 : Index := 0#32
  let c0_885 : Index := 0#32
  ![v991.toNat, 2, 1, 2, 0, 0]
def k0_off32 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1016 : Index := Scalar.indexCast v681
  let c2_894 : Index := 2#32
  let c0_895 : Index := 0#32
  let c3_896 : Index := 3#32
  let c0_897 : Index := 0#32
  let c0_898 : Index := 0#32
  ![v1016.toNat, 2, 0, 3, 0, 0]
def k0_off33 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1019 : Index := Scalar.indexCast v681
  let c2_899 : Index := 2#32
  let c1_900 : Index := 1#32
  let c3_901 : Index := 3#32
  let c0_902 : Index := 0#32
  let c0_903 : Index := 0#32
  ![v1019.toNat, 2, 1, 3, 0, 0]
def k0_off34 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1044 : Index := Scalar.indexCast v681
  let c3_912 : Index := 3#32
  let c0_913 : Index := 0#32
  let c0_914 : Index := 0#32
  let c0_915 : Index := 0#32
  let c0_916 : Index := 0#32
  ![v1044.toNat, 3, 0, 0, 0, 0]
def k0_off35 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1047 : Index := Scalar.indexCast v681
  let c3_917 : Index := 3#32
  let c1_918 : Index := 1#32
  let c0_919 : Index := 0#32
  let c0_920 : Index := 0#32
  let c0_921 : Index := 0#32
  ![v1047.toNat, 3, 1, 0, 0, 0]
def k0_off36 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1072 : Index := Scalar.indexCast v681
  let c3_930 : Index := 3#32
  let c0_931 : Index := 0#32
  let c1_932 : Index := 1#32
  let c0_933 : Index := 0#32
  let c0_934 : Index := 0#32
  ![v1072.toNat, 3, 0, 1, 0, 0]
def k0_off37 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1075 : Index := Scalar.indexCast v681
  let c3_935 : Index := 3#32
  let c1_936 : Index := 1#32
  let c1_937 : Index := 1#32
  let c0_938 : Index := 0#32
  let c0_939 : Index := 0#32
  ![v1075.toNat, 3, 1, 1, 0, 0]
def k0_off38 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1100 : Index := Scalar.indexCast v681
  let c3_948 : Index := 3#32
  let c0_949 : Index := 0#32
  let c2_950 : Index := 2#32
  let c0_951 : Index := 0#32
  let c0_952 : Index := 0#32
  ![v1100.toNat, 3, 0, 2, 0, 0]
def k0_off39 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1103 : Index := Scalar.indexCast v681
  let c3_953 : Index := 3#32
  let c1_954 : Index := 1#32
  let c2_955 : Index := 2#32
  let c0_956 : Index := 0#32
  let c0_957 : Index := 0#32
  ![v1103.toNat, 3, 1, 2, 0, 0]
def k0_off40 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1128 : Index := Scalar.indexCast v681
  let c3_966 : Index := 3#32
  let c0_967 : Index := 0#32
  let c3_968 : Index := 3#32
  let c0_969 : Index := 0#32
  let c0_970 : Index := 0#32
  ![v1128.toNat, 3, 0, 3, 0, 0]
def k0_off41 (d0 : Dev nD) (c1_i32_663 : BitVec 32) : Fin 6 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v680 : BitVec 32 := Scalar.addi v8 c1_i32_663
  let c4_i32_664 : BitVec 32 := 4#32
  let v681 : BitVec 32 := Scalar.remsi v680 c4_i32_664
  let v1131 : Index := Scalar.indexCast v681
  let c3_971 : Index := 3#32
  let c1_972 : Index := 1#32
  let c3_973 : Index := 3#32
  let c0_974 : Index := 0#32
  let c0_975 : Index := 0#32
  ![v1131.toNat, 3, 1, 3, 0, 0]
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x4x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x8x1024x1024, .f32⟩
  | .hbm, ⟨6, _⟩ => ⟨S_, .f32⟩
  | .hbm, ⟨7, _⟩ => ⟨S2x8x1024x1024, .f32⟩
  | .hbm, ⟨8, _⟩ => ⟨S2x8x1024x1024, .f32⟩
  | .hbm, ⟨9, _⟩ => ⟨S_, .f32⟩
  | .hbm, ⟨10, _⟩ => ⟨S2x8x1024, .f32⟩
  | .hbm, ⟨11, _⟩ => ⟨S2x8x1024x1, .f32⟩
  | .hbm, ⟨12, _⟩ => ⟨S2x8x1024x1024, .f32⟩
  | .hbm, ⟨13, _⟩ => ⟨S2x8x1024x1024, .f32⟩
  | .hbm, ⟨14, _⟩ => ⟨S2x8x1024x1024, .f32⟩
  | .hbm, ⟨15, _⟩ => ⟨S_, .f32⟩
  | .hbm, ⟨16, _⟩ => ⟨S2x8x1024, .f32⟩
  | .hbm, ⟨17, _⟩ => ⟨S2x8x1024x1, .f32⟩
  | .hbm, ⟨18, _⟩ => ⟨S2x8x1024x1024, .f32⟩
  | .hbm, ⟨19, _⟩ => ⟨S2x8x1024x1024, .f32⟩
  | .hbm, ⟨20, _⟩ => ⟨S2x1024x8x64, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Base.lean ====
/-
The 2 × 2 × 4 mesh of the kernel, the forty-one semaphore cells of a device, the twenty payments a device makes to its
peers, and the schedule that says what each payment hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The mesh -/

/-- The place of device `c` on the `z` axis. -/
def zc (c : Dev nD) : Fin 4 := ⟨c.val % 4, Nat.mod_lt _ (by decide)⟩
/-- The role of device `c`: its place `2 x + y` in the `x`/`y` plane. -/
def me (c : Dev nD) : Fin 4 := ⟨c.val / 4, by have := c.isLt; have h : nD = 16 := rfl; omega⟩
/-- The device with place `o` on the `z` axis and role `r`. -/
def dv (o r : Fin 4) : Dev nD := ⟨4 * r.val + o.val, by have := o.isLt; have := r.isLt; have h : nD = 16 := rfl; omega⟩
/-- The role of the neighbour along `x`. -/
def rX (c : Dev nD) : Fin 4 := ![2, 3, 0, 1] (me c)
/-- The role of the neighbour along `y`. -/
def rY (c : Dev nD) : Fin 4 := ![1, 0, 3, 2] (me c)
/-- The role of the device across both. -/
def rD (c : Dev nD) : Fin 4 := ![3, 2, 1, 0] (me c)
/-- The neighbour along `x`. -/
def xn (c : Dev nD) : Dev nD := dv (zc c) (rX c)
/-- The neighbour along `y`. -/
def yn (c : Dev nD) : Dev nD := dv (zc c) (rY c)
/-- The device `k` steps up the `z` axis. -/
def zn (c : Dev nD) (k : Fin 4) : Dev nD := dv (zc c + k) (me c)

/-! ## The memrefs -/

abbrev qM : Memref sig .tc .vmem S16x256x64 .bf16 := Memref.whole cc0_stg0_0
abbrev sM : Memref sig .tc .vmem S4x2x4x256x64 .bf16 := Memref.whole cc0_stg1_0
abbrev oM : Memref sig .tc .vmem S16x256x64 .f32 := Memref.whole cc0_stg2_0
abbrev kM : Memref sig .tc .vmem S4x4x2x4x256x64 .bf16 := Memref.whole cc0_scratch0

/-- The part of the gathered buffer whose slab, role and key/value coordinates satisfy `p`. -/
def R3 (p : Fin 4 → Fin 4 → Fin 2 → Bool) : Finset S4x4x2x4x256x64.Idx :=
  Finset.univ.filter fun i => p (i (0 : Fin 6)) (i (1 : Fin 6)) (i (2 : Fin 6)) = true
/-- The part of a device's own block whose role coordinate is `r`. -/
def R1 (r : Fin 4) : Finset S4x2x4x256x64.Idx := Finset.univ.filter fun i => (i (0 : Fin 5)).val = r.val

/-! ## The payments -/

/-- Who receives payment `e` of device `c`: five barrier signals, three sends along `z`, and the forwards along `x` and `y`
in the order they are made. -/
def evT (c : Dev nD) : Fin 20 → Dev nD :=
  ![zn c 1, zn c 2, zn c 3, xn c, yn c, zn c 1, zn c 2, zn c 3, xn c, yn c, xn c, yn c, xn c, yn c, yn c, xn c, yn c, xn c, yn c, xn c]
/-- The cell of the receiver that payment `e` raises. -/
def evR : Fin 20 → Fin 41 := ![0, 0, 0, 0, 0, 8, 7, 6, 14, 22, 15, 23, 16, 24, 38, 30, 39, 31, 40, 32]
/-- The cell of the sender that transfer `e` raises. -/
def evS : Fin 20 → Fin 41 := ![1, 1, 1, 1, 1, 2, 3, 4, 10, 18, 11, 19, 12, 20, 34, 26, 35, 27, 36, 28]
/-- Which of the cell's contributors payment `e` is. -/
def evD : Fin 20 → Fin 5 := ![0, 1, 2, 3, 4, 0, 0, 0, 0, 0, 0, 0, 0, 0, 0, 0, 0, 0, 0, 0]
/-- The transfer that raises receive cell `i`. -/
def recvEv (i : Fin 41) : Option (Fin 20) := (List.finRange 20).find? fun e => decide (5 ≤ e.val ∧ evR e = i)
/-- The transfer that raises send cell `i`. -/
def sendEv (i : Fin 41) : Option (Fin 20) := (List.finRange 20).find? fun e => decide (5 ≤ e.val ∧ evS e = i)

theorem recvEv_evR : ∀ e : Fin 20, 5 ≤ e.val → recvEv (evR e) = some e := by decide
theorem sendEv_evS : ∀ e : Fin 20, 5 ≤ e.val → sendEv (evS e) = some e := by decide
theorem recvEv_evS : ∀ e : Fin 20, 5 ≤ e.val → recvEv (evS e) = none := by decide
theorem evR_ne_zero : ∀ e : Fin 20, 5 ≤ e.val → evR e ≠ 0 := by decide
theorem evS_ne_zero : ∀ e : Fin 20, evS e ≠ 0 := by decide

/-- The part of the gathered buffer that belongs to payment `e`: for a barrier signal the part of its own buffer device `c`
opens to the receiver; for a transfer the part of device `c`'s buffer that the incoming transfer `e` fills. -/
def gotP (c : Dev nD) (e : Fin 20) (o r : Fin 4) (h : Fin 2) : Bool :=
  match e with
  | 0 => o == zc c + 1 && r == me c
  | 1 => o == zc c + 2 && r == me c
  | 2 => o == zc c + 3 && r == me c
  | 3 => o != zc c && (r == rX c || (r == rD c && h == 0))
  | 4 => o != zc c && (r == rY c || (r == rD c && h == 1))
  | 5 => o == zc c + 3 && r == me c
  | 6 => o == zc c + 2 && r == me c
  | 7 => o == zc c + 1 && r == me c
  | 8 => o == zc c + 1 && r == rX c
  | 9 => o == zc c + 1 && r == rY c
  | 10 => o == zc c + 2 && r == rX c
  | 11 => o == zc c + 2 && r == rY c
  | 12 => o == zc c + 3 && r == rX c
  | 13 => o == zc c + 3 && r == rY c
  | 14 => o == zc c + 1 && r == rD c && h == 1
  | 15 => o == zc c + 1 && r == rD c && h == 0
  | 16 => o == zc c + 2 && r == rD c && h == 1
  | 17 => o == zc c + 2 && r == rD c && h == 0
  | 18 => o == zc c + 3 && r == rD c && h == 1
  | _ => o == zc c + 3 && r == rD c && h == 0

/-- The part of the gathered buffer device `c` reads for the forward `e`. -/
def srcP (c : Dev nD) (e : Fin 20) (o r : Fin 4) (h : Fin 2) : Bool :=
  match e with
  | 8 => o == zc c + 1 && r == me c
  | 9 => o == zc c + 1 && r == me c
  | 10 => o == zc c + 2 && r == me c
  | 11 => o == zc c + 2 && r == me c
  | 12 => o == zc c + 3 && r == me c
  | 13 => o == zc c + 3 && r == me c
  | 14 => o == zc c + 1 && r == rX c && h == 1
  | 15 => o == zc c + 1 && r == rY c && h == 0
  | 16 => o == zc c + 2 && r == rX c && h == 1
  | 17 => o == zc c + 2 && r == rY c && h == 0
  | 18 => o == zc c + 3 && r == rX c && h == 1
  | 19 => o == zc c + 3 && r == rY c && h == 0
  | _ => false

/-- A forward lands where the receiver expects it: the same coordinates on both devices. -/
theorem srcP_gotP : ∀ (c : Dev nD) (e : Fin 20), 8 ≤ e.val → ∀ (o r : Fin 4) (h : Fin 2), srcP c e o r h = gotP (evT c e) e o r h := by decide +kernel

/-- The share of its source that transfer `e` lends. -/
def shr : Fin 20 → PosShare TreeShare :=
  let L := (fullShare.right : PosShare TreeShare).left
  let R := (fullShare.right : PosShare TreeShare).right
  let H := (fullShare : PosShare TreeShare).right
  ![L, L, L, L, L, L, R.left, R.right, L, R, L, R, L, R, H, H, H, H, H, H]

/-! ## The cells -/

/-- The forty-one cells of a device: the barrier, then the four semaphores of each of the ten arrays. -/
def csem (i : Fin 41) : SemLoc sig := if i = 0 then .reg barrier0 else .dma ⟨2 + i.val, by have := i.isLt; have h : sig.nDmaSem = 43 := rfl; omega⟩
/-- The index of a semaphore among the forty-one. -/
def sidx : SemLoc sig → Option (Fin 41)
  | .reg _ => some 0
  | .dma s => if h : 3 ≤ s.val then some ⟨s.val - 2, by have := s.isLt; have h : sig.nDmaSem = 43 := rfl; omega⟩ else none

theorem sidx_csem : ∀ i : Fin 41, sidx (csem i) = some i := by decide
theorem csem_injective : Function.Injective csem := fun i j h => by
  have := congrArg sidx h; rw [sidx_csem, sidx_csem] at this; exact Option.some.inj this

abbrev cell (x : Dev nD × Fin 41) : GSem nD τ sig := ((x.1 : Thread nD τ), csem x.2)
theorem cell_injective : Function.Injective cell := by
  rintro ⟨c, k⟩ ⟨c', k'⟩ h
  have h1 : c = c' := congrArg (fun g : GSem nD τ sig => g.1.1) h
  subst h1
  have h2 : k = k' := csem_injective (congrArg Prod.snd h)
  subst h2; rfl

/-- The credit of a transfer of a whole piece. -/
abbrev N2 : ℕ := ((kM.slice (Rect.unit (s := S4x4x2x4x256x64) (k0_off1 0) S1x1x2x4x256x64.size (k0_off1_inb 0)) (fun _ => rfl)).squeeze S2x4x256x64 squeezes_S1x1x2x4x256x64_S2x4x256x64).view.dmaCredit
/-- The credit of a transfer of half a piece. -/
abbrev N1 : ℕ := ((kM.slice (Rect.unit (s := S4x4x2x4x256x64) (k0_off5 0 1#32) S1x1x1x4x256x64.size (k0_off5_inb 0 0)) (fun _ => rfl)).squeeze S4x256x64 squeezes_S1x1x1x4x256x64_S4x256x64).view.dmaCredit

/-- The units a contribution to cell `i` brings. -/
def amt (i : Fin 41) : ℕ := if i = 0 then 1 else if 25 ≤ i.val then N1 else N2
theorem amt_pos (i : Fin 41) : 0 < amt i := by
  unfold amt; split
  · exact Nat.one_pos
  · split
    · exact View.dmaCredit_pos _ (by decide)
    · exact View.dmaCredit_pos _ (by decide)

/-! ## The contents and the pieces -/

section Contents

variable (KV : (c : Dev nD) → (cc0_stg1_0 : Ref sig .tc).ty.Contents (Elt F))

/-- The gathered contents: slab `o`, role `r` holds role `r` of the block that the device of place `o` and role `r` came with. -/
def G : (cc0_scratch0 : Ref sig .tc).ty.Contents (Elt F) := fun i =>
  KV (dv (i (0 : Fin 6)) (i (1 : Fin 6))) (fun a : Fin 5 => i a.succ)

/-- Part of a device's gathered buffer. -/
def kvP (c : Dev nD) (p : Fin 4 → Fin 4 → Fin 2 → Bool) (q : PosShare TreeShare) (f : (cc0_scratch0 : Ref sig .tc).ty.Contents (Elt F)) : sProp 𝕄 :=
  kM.view.loc (c : Thread nD τ) ↦[R3 p]{q} f
/-- Part of a device's own block. -/
def ownP (c : Dev nD) (r : Fin 4) (q : PosShare TreeShare) : sProp 𝕄 :=
  sM.view.loc (c : Thread nD τ) ↦[R1 r]{q} KV c

omit [FloatOps F] in
instance kvP_storable (c : Dev nD) (p q f) : BI.Storable (upEmb : UEmb _ 𝕄) (kvP (F := F) c p q f) := by unfold kvP; infer_instance
omit [FloatOps F] in
instance ownP_storable (c : Dev nD) (r q) : BI.Storable (upEmb : UEmb _ 𝕄) (ownP (F := F) KV c r q) := by unfold ownP; infer_instance

/-- What transfer `e` brings to device `c`. -/
def got (c : Dev nD) (e : Fin 20) : sProp 𝕄 := kvP c (gotP c e) fullShare (G KV)
/-- What transfer `e` of device `c` reads from. -/
def srcI (c : Dev nD) (e : Fin 20) : sProp 𝕄 :=
  if e.val < 8 then ownP KV c (me c) (shr e) else kvP c (srcP c e) (shr e) (G KV)
/-- The device that pays contributor slot `j` of device `c`'s barrier. -/
def payer (c : Dev nD) : Fin 5 → Dev nD := ![zn c 3, zn c 2, zn c 1, xn c, yn c]
/-- The first round of every cell of device `c` has begun. -/
def begun (c : Dev nD) : sProp 𝕄 := bigSep Finset.univ fun i : Fin 41 => reached ER (cell (c, i)) 0
instance begun_persistent (c : Dev nD) : BI.Persistent (begun (F := F) c) := by unfold begun; infer_instance
omit [FloatOps F] in
theorem begun_at (c : Dev nD) (i : Fin 41) : begun (F := F) c ⊢ reached ER (cell (c, i)) 0 := by
  unfold begun; exact bigSep_elim (Finset.mem_univ i)
/-- What device `c` opens with barrier signal `e`: the part of its own buffer the receiver will write, and that its cells'
first round has begun. -/
def opn (c : Dev nD) (e : Fin 20) : sProp 𝕄 := iprop((∃ f, kvP c (gotP c e) fullShare f) ∗ begun c)

omit [FloatOps F] in
instance got_storable (c : Dev nD) (e) : BI.Storable (upEmb : UEmb _ 𝕄) (got (F := F) KV c e) := by unfold got; infer_instance
omit [FloatOps F] in
instance srcI_storable (c : Dev nD) (e) : BI.Storable (upEmb : UEmb _ 𝕄) (srcI (F := F) KV c e) := by unfold srcI; split <;> infer_instance
omit [FloatOps F] in
instance opn_storable (c : Dev nD) (e) : BI.Storable (upEmb : UEmb _ 𝕄) (opn (F := F) c e) := by unfold opn begun; infer_instance

/-- What contribution `d` to cell `i` of device `c` hands over. -/
def pay (c : Dev nD) (i : Fin 41) (d : Fin 5) : sProp 𝕄 :=
  if i = 0 then opn (payer c d) ⟨d.val, by omega⟩
  else match recvEv i with
    | some e => got KV c e
    | none => match sendEv i with
      | some e => srcI KV c e
      | none => iprop(emp)

/-- The contributors of cell `i`. -/
def dset (i : Fin 41) : Finset (Fin 5) := if i = 0 then Finset.univ else if (recvEv i).isSome || (sendEv i).isSome then {0} else ∅

/-- The schedule: one round, in which each cell's contributors hand over what `pay` says. -/
def Rd : Rounds.Schedule (GSem nD τ sig) (Fin 5) 𝕄 where
  duties g r := if r = 0 ∧ g.1.2 = .tc then (sidx g.2).elim ∅ dset else ∅
  unitless _ := False
  amount g _ _ := (sidx g.2).elim 1 amt
  payload g _ d := (sidx g.2).elim iprop(emp) fun i => pay KV g.1.1 i d
  amount_pos g _ _ _ := by
    cases h : sidx g.2 with
    | none => exact Nat.one_pos
    | some i => exact amt_pos i

instance Rd_storable (g : GSem nD τ sig) (r : ℕ) (d : Fin 5) : BI.Storable (upEmb : UEmb _ 𝕄) ((Rd (F := F) KV).payload g r d) := by
  show BI.Storable upEmb ((sidx g.2).elim iprop(emp) fun i => pay KV g.1.1 i d)
  cases sidx g.2 with
  | none => show BI.Storable upEmb iprop(emp); infer_instance
  | some i =>
    show BI.Storable upEmb (pay KV g.1.1 i d)
    unfold pay
    split
    · infer_instance
    · split
      · infer_instance
      · split <;> infer_instance

variable (c : Dev nD)

omit [FloatOps F] in
theorem duties_cell (i : Fin 41) : (Rd (F := F) KV).duties (cell (c, i)) 0 = dset i := by
  dsimp only [Rd]; rw [if_pos ⟨rfl, rfl⟩, sidx_csem]; rfl
omit [FloatOps F] in
theorem duties_later (g : GSem nD τ sig) : ∀ r, 1 ≤ r → (Rd (F := F) KV).duties g r = ∅ :=
  fun r hr => by dsimp only [Rd]; exact if_neg fun h => by omega
omit [FloatOps F] in
theorem amount_cell (i : Fin 41) (r : ℕ) (d : Fin 5) : (Rd (F := F) KV).amount (cell (c, i)) r d = amt i := by
  dsimp only [Rd]; rw [sidx_csem]; rfl
omit [FloatOps F] in
theorem payload_cell (i : Fin 41) (r : ℕ) (d : Fin 5) : (Rd (F := F) KV).payload (cell (c, i)) r d = pay KV c i d := by
  dsimp only [Rd]; rw [sidx_csem]; rfl
omit [FloatOps F] in
theorem expect_bar : (Rd (F := F) KV).expect (cell (c, 0)) 0 = 5 := by
  unfold Schedule.expect Schedule.amountOf
  rw [duties_cell, Finset.sum_congr rfl (fun d _ => amount_cell KV c 0 0 d)]; rfl
theorem dset_recv : ∀ e : Fin 20, 5 ≤ e.val → dset (evR e) = {0} := by decide
theorem dset_send : ∀ e : Fin 20, 5 ≤ e.val → dset (evS e) = {0} := by decide
theorem evD_mem : ∀ e : Fin 20, evD e ∈ dset (evR e) := by decide
theorem evD_dma : ∀ e : Fin 20, 5 ≤ e.val → evD e = 0 := by decide
omit [FloatOps F] in
theorem expect_one (i : Fin 41) (h : dset i = {0}) : (Rd (F := F) KV).expect (cell (c, i)) 0 = amt i := by
  unfold Schedule.expect Schedule.amountOf
  rw [duties_cell, h, Finset.sum_singleton, amount_cell]
omit [FloatOps F] in
theorem pay_recv (e : Fin 20) (h : 5 ≤ e.val) (d : Fin 5) : pay (F := F) KV c (evR e) d = got KV c e := by
  unfold pay; rw [if_neg (evR_ne_zero e h), recvEv_evR e h]
omit [FloatOps F] in
theorem pay_send (e : Fin 20) (h : 5 ≤ e.val) (d : Fin 5) : pay (F := F) KV c (evS e) d = srcI KV c e := by
  unfold pay; rw [if_neg (evS_ne_zero e), recvEv_evS e h, sendEv_evS e h]
omit [FloatOps F] in
theorem rest_recv (e : Fin 20) (h : 5 ≤ e.val) :
    bigSep ((Rd (F := F) KV).duties (cell (c, evR e)) 0 \ ∅) (fun d => (Rd (F := F) KV).payload (cell (c, evR e)) 0 d) = got KV c e := by
  rw [Finset.sdiff_empty, duties_cell, dset_recv e h, bigSep_singleton, payload_cell, pay_recv KV c e h]
omit [FloatOps F] in
theorem rest_send (e : Fin 20) (h : 5 ≤ e.val) :
    bigSep ((Rd (F := F) KV).duties (cell (c, evS e)) 0 \ ∅) (fun d => (Rd (F := F) KV).payload (cell (c, evS e)) 0 d) = srcI KV c e := by
  rw [Finset.sdiff_empty, duties_cell, dset_send e h, bigSep_singleton, payload_cell, pay_send KV c e h]
theorem univ5 : (Finset.univ : Finset (Fin 5)) = insert 0 (insert 1 (insert 2 (insert 3 {4}))) := by decide
omit [FloatOps F] in
theorem rest_bar :
    bigSep ((Rd (F := F) KV).duties (cell (c, 0)) 0 \ ∅) (fun d => (Rd (F := F) KV).payload (cell (c, 0)) 0 d)
      = iprop(opn (zn c 3) 0 ∗ opn (zn c 2) 1 ∗ opn (zn c 1) 2 ∗ opn (xn c) 3 ∗ opn (yn c) 4) := by
  rw [Finset.sdiff_empty, duties_cell, show dset 0 = Finset.univ from rfl]
  simp only [payload_cell]
  exact bigSep_univ_eq_bigSepL [0, 1, 2, 3, 4] (by decide) (by decide) _

end Contents

/-! ## What a device owes; the levels -/

/-- The debt of the payments in `l`. -/
def osumL (c : Dev nD) : List (Fin 20) → CellTallies nD τ sig Unit
  | [] => 0
  | e :: l => osumL c l + tallyAt (cell (evT c e, evR e)) () (amt (evR e))
/-- The debt of device `c` once its first `n` payments are made. -/
def osum (c : Dev nD) (n : ℕ) : CellTallies nD τ sig Unit := osumL c ((List.finRange 20).drop n)

theorem osum_succ (c : Dev nD) (e : Fin 20) : osum c e.val = osum c (e.val + 1) + tallyAt (cell (evT c e, evR e)) () (amt (evR e)) := by
  have h : (List.finRange 20).drop e.val = e :: (List.finRange 20).drop (e.val + 1) := by revert e; decide
  unfold osum; rw [h]; rfl
theorem osum_end (c : Dev nD) : osum c 20 = 0 := rfl

/-- The level of cell `i`. -/
def clv (i : Fin 41) : ℕ :=
  if i = 0 then 1 else if i.val < 5 then 0 else if i.val < 9 then 2
  else if (13 ≤ i.val ∧ i.val < 17) ∨ (21 ≤ i.val ∧ i.val < 25) then 3
  else if (29 ≤ i.val ∧ i.val < 33) ∨ 37 ≤ i.val then 4 else 0
def L (g : GSem nD τ sig) : Finset Unit := if g.1.2 = .tc then {()} else ∅
def lv (g : GSem nD τ sig) (_ : Unit) : ℕ := (sidx g.2).elim 0 clv
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Fin 41) (u : Unit) : lv (cell (c, i)) u = clv i := by unfold lv; rw [sidx_csem]; rfl

theorem osumL_pos (c : Dev nD) {g : GSem nD τ sig} {u : Unit} : ∀ l : List (Fin 20), 0 < osumL c l g u → ∃ e ∈ l, g = cell (evT c e, evR e)
  | [], h => absurd h (Nat.lt_irrefl 0)
  | e :: l, h => by
    rw [osumL, Pi.add_apply, Finsupp.add_apply, tallyAt_apply] at h
    by_cases hg : g = cell (evT c e, evR e) ∧ u = ()
    · exact ⟨e, List.mem_cons_self, hg.1⟩
    · rw [if_neg hg, Nat.add_zero] at h
      obtain ⟨e', he', hg'⟩ := osumL_pos c l h
      exact ⟨e', List.mem_cons_of_mem _ he', hg'⟩

omit [FloatOps F] in
/-- A device may wait for a cell when everything it still owes is of a higher level. -/
theorem mayWait (c : Dev nD) (sm : SemLoc sig) (n : ℕ)
    (hl : ∀ e ∈ (List.finRange 20).drop n, lv ((c : Thread nD τ), sm) () < clv (evR e)) :
    (levAts L lv : sProp 𝕄) ⊢ MayWait (c : Thread nD τ) sm () (osum c n) := by
  refine MayOwe.of_cut (L := L) (lev := lv) (lv ((c : Thread nD τ), sm) ())
    (fun p hp => by rw [Finset.mem_singleton.mp hp, L_tc]; exact Finset.mem_singleton_self _)
    (fun g u hg => by obtain ⟨e, -, rfl⟩ := osumL_pos c _ hg; rw [L_tc]; exact Finset.mem_singleton_self _)
    (fun p hp => by rw [Finset.mem_singleton.mp hp])
    (fun g u hg => by obtain ⟨e, he, rfl⟩ := osumL_pos c _ hg; rw [lv_cell]; exact hl e he)

end Cert.MeshAttn

end
-- ==== Proof.Steps.lean ====
/-
A device's run as a sequence of steps over a set of named resources: which resources there are, what taking and returning
them means, and one rule for each kind of operation of the kernel.
-/
module

public import proofs.«01_k».proof.Proof.Base

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kind and the number of a resource. -/
abbrev Item : Type := Fin 16 × Fin 21
def code (x : Item) : ℕ := 21 * x.1.val + x.2.val
theorem code_injective : Function.Injective code := fun x y h => by
  obtain ⟨a, b⟩ := x; obtain ⟨a', b'⟩ := y
  have := b.isLt; have := b'.isLt
  simp only [code] at h
  exact Prod.ext (Fin.ext (by show a.val = a'.val; omega)) (Fin.ext (by show b.val = b'.val; omega))

/-- The resources listed can be taken out of the set `S`; what is left. -/
def takeL : List Item → ℕ → Option ℕ
  | [], S => some S
  | x :: l, S => if S.testBit (code x) then takeL l (S ^^^ (1 <<< code x)) else none
/-- The resources listed can be put into the set `S`; the result. -/
def putL : List Item → ℕ → Option ℕ
  | [], S => some S
  | x :: l, S => if S.testBit (code x) then none else putL l (S ^^^ (1 <<< code x))
/-- Taking `A` out of `S` and putting `B` in. -/
def tr (A B : List Item) (S : ℕ) : Option ℕ := (takeL A S).bind (putL B)

section Res

variable (KV : (c : Dev nD) → (cc0_stg1_0 : Ref sig .tc).ty.Contents (Elt F))
  (Qc : (c : Dev nD) → (cc0_stg0_0 : Ref sig .tc).ty.Contents (Elt F))
  (OV : (c : Dev nD) → (cc0_stg2_0 : Ref sig .tc).ty.Contents (Elt F))
  (K : Dev nD × Fin 41 → ℕ) (c : Dev nD)

/-- The halves of incoming pieces that no later forward borrows. -/
def rsP (e : Fin 20) (o r : Fin 4) (h : Fin 2) : Bool :=
  match e with
  | 8 => o == zc c + 1 && r == rX c && h == 0
  | 9 => o == zc c + 1 && r == rY c && h == 1
  | 10 => o == zc c + 2 && r == rX c && h == 0
  | 11 => o == zc c + 2 && r == rY c && h == 1
  | 12 => o == zc c + 3 && r == rX c && h == 0
  | 13 => o == zc c + 3 && r == rY c && h == 1
  | _ => gotP c e o r h

/-- The payment numbered `e`. -/
def ev (e : Fin 21) : Fin 20 := ⟨e.val % 20, Nat.mod_lt _ (by decide)⟩

/-- The resource of kind `x.1` and number `x.2` of device `c`. -/
def res (x : Item) : sProp 𝕄 :=
  match x.1 with
  | 0 => iprop(∃ W, owes (c : Thread nD τ) (osum c x.2.val) W)
  | 1 => dutyTok ER (cell (evT c (ev x.2), evR (ev x.2))) 0 (evD (ev x.2))
  | 2 => dutyTok ER (cell (c, evS (ev x.2))) 0 (0 : Fin 5)
  | 3 => if x.2.val < 5 then opn c (ev x.2) else opn (evT c (ev x.2)) (ev x.2)
  | 4 => srcI KV c (ev x.2)
  | 5 => cred (tallyAt (cell (c, evR (ev x.2))) () (if x.2.val = 0 then 5 else amt (evR (ev x.2))))
  | 6 => cred (tallyAt (cell (c, evS (ev x.2))) () (amt (evS (ev x.2))))
  | 7 => atPos ER (cell (c, evR (ev x.2))) 0 ∅ 0
  | 8 => atPos ER (cell (c, evS (ev x.2))) 0 ∅ 0
  | 9 => atPos ER (cell (c, evR (ev x.2))) 1 ∅ 0
  | 10 => atPos ER (cell (c, evS (ev x.2))) 1 ∅ 0
  | 11 => got KV c (ev x.2)
  | 12 => kvP c (gotP c (ev x.2)) (fullShare : PosShare TreeShare).left (G KV)
  | 13 => kvP c (rsP c (ev x.2)) (fullShare : PosShare TreeShare).right (G KV)
  | 14 => match x.2.val with
    | 0 => qM.view.loc (c : Thread nD τ) ↦[Finset.univ]{fullShare} Qc c
    | 1 => sM.view.loc (c : Thread nD τ) ↦[Finset.univ]{(fullShare : PosShare TreeShare).left} KV c
    | 2 => iprop(∃ f, kvP c (fun o _ _ => o == zc c) fullShare f)
    | 3 => sM.view.loc (c : Thread nD τ) ↦[Finset.univ \ R1 (me c)]{(fullShare : PosShare TreeShare).right} KV c
    | 4 => kvP c (fun o _ _ => o == zc c + 1) (fullShare : PosShare TreeShare).left (G KV)
    | 5 => kvP c (fun o _ _ => o == zc c + 2) (fullShare : PosShare TreeShare).left (G KV)
    | 6 => kvP c (fun o _ _ => o == zc c + 3) (fullShare : PosShare TreeShare).left (G KV)
    | 7 => sM.view.loc (c : Thread nD τ) ↦[Finset.univ]{fullShare} KV c
    | 8 => iprop(∃ f, kvP c (fun _ _ _ => true) fullShare f)
    | 9 => kvP c (fun o _ _ => o == zc c + 1) fullShare (G KV)
    | 10 => kvP c (fun o _ _ => o == zc c + 2) fullShare (G KV)
    | 11 => kvP c (fun o _ _ => o == zc c + 3) fullShare (G KV)
    | _ => iprop(emp)
  | _ => iprop(∃ f, ⌜∀ i : S16x256x64.Idx, (i (0 : Fin 3)).val < x.2.val → f i = OV c i⌝ ∗ (oM.view.loc (c : Thread nD τ) ↦[Finset.univ]{fullShare} f))

/-- The resources in the set `S`. -/
def Inv (S : ℕ) : sProp 𝕄 := bigSep Finset.univ fun x : Item => if S.testBit (code x) then res KV Qc OV c x else iprop(emp)
/-- The resources listed. -/
def resL : List Item → sProp 𝕄
  | [] => iprop(emp)
  | x :: l => iprop(res KV Qc OV c x ∗ resL l)

omit [FloatOps F] in
theorem testBit_toggle (S : ℕ) (x y : Item) (h : y ≠ x) : (S ^^^ (1 <<< code x)).testBit (code y) = S.testBit (code y) := by
  rw [Nat.testBit_xor, Nat.one_shiftLeft, Nat.testBit_two_pow, decide_eq_false (fun h' => h (code_injective h').symm), Bool.xor_false]
omit [FloatOps F] in
theorem testBit_self (S : ℕ) (x : Item) : (S ^^^ (1 <<< code x)).testBit (code x) = !S.testBit (code x) := by
  rw [Nat.testBit_xor, Nat.one_shiftLeft, Nat.testBit_two_pow_self, Bool.xor_true]

omit [FloatOps F] in
theorem Inv_toggle (S : ℕ) (x : Item) (h : S.testBit (code x) = true) :
    Inv KV Qc OV c S = iprop(res KV Qc OV c x ∗ Inv KV Qc OV c (S ^^^ (1 <<< code x))) := by
  unfold Inv
  rw [bigSep_univ_at _ x, bigSep_univ_at (fun y : Item => if (S ^^^ (1 <<< code x)).testBit (code y) then res KV Qc OV c y else iprop(emp)) x,
    if_pos h, if_neg (by rw [testBit_self, h]; decide)]
  have e : bigSep (Finset.univ.erase x) (fun y : Item => if (S ^^^ (1 <<< code x)).testBit (code y) then res KV Qc OV c y else iprop(emp))
      = bigSep (Finset.univ.erase x) (fun y : Item => if S.testBit (code y) then res KV Qc OV c y else iprop(emp)) :=
    bigSep_congr fun y hy => by rw [testBit_toggle S x y (Finset.ne_of_mem_erase hy)]
  rw [e]
  refine congrArg _ ?_
  exact Entails.antisymm emp_sep_intro emp_sep_elim

omit [FloatOps F] in
theorem Inv_take : ∀ (l : List Item) (S S' : ℕ), takeL l S = some S' → Inv KV Qc OV c S ⊢ iprop(resL KV Qc OV c l ∗ Inv KV Qc OV c S')
  | [], S, S', h => by
    obtain rfl : S = S' := Option.some.inj h
    iintro H; rw [resL]; isplitr; · iempintro
    iexact H
  | x :: l, S, S', h => by
    unfold takeL at h
    by_cases hb : S.testBit (code x) = true
    · rw [if_pos hb] at h
      rw [Inv_toggle KV Qc OV c S x hb]
      iintro ⟨Hx, H⟩
      ihave H := (Inv_take l _ S' h) $$ H
      icases H with ⟨Hl, H⟩
      rw [resL]
      isplitl [Hx Hl]
      · isplitl [Hx] <;> iassumption
      · iexact H
    · rw [if_neg hb] at h; exact absurd h (by simp)

omit [FloatOps F] in
theorem Inv_put : ∀ (l : List Item) (S S' : ℕ), putL l S = some S' → iprop(resL KV Qc OV c l ∗ Inv KV Qc OV c S) ⊢ Inv KV Qc OV c S'
  | [], S, S', h => by
    obtain rfl : S = S' := Option.some.inj h
    iintro ⟨-, H⟩; iexact H
  | x :: l, S, S', h => by
    unfold putL at h
    by_cases hb : S.testBit (code x) = true
    · rw [if_pos hb] at h; exact absurd h (by simp)
    · rw [if_neg hb] at h
      have e : (S ^^^ (1 <<< code x)) ^^^ (1 <<< code x) = S := by rw [Nat.xor_assoc, Nat.xor_self, Nat.xor_zero]
      have h' := Inv_put l _ S' h
      rw [Inv_toggle KV Qc OV c (S ^^^ (1 <<< code x)) x (by rw [testBit_self]; simpa using hb), e] at h'
      rw [resL]
      iintro ⟨⟨Hx, Hl⟩, H⟩
      iapply h'
      isplitl [Hl]; · iexact Hl
      isplitl [Hx] <;> iassumption

omit [FloatOps F] in
theorem Inv_tr (A B : List Item) (S S' : ℕ) (h : tr A B S = some S') :
    Inv KV Qc OV c S ⊢ iprop(resL KV Qc OV c A ∗ (resL KV Qc OV c B -∗ Inv KV Qc OV c S')) := by
  unfold tr at h
  obtain ⟨T, hT, hB⟩ := Option.bind_eq_some_iff.mp h
  iintro H
  ihave H := (Inv_take KV Qc OV c A S T hT) $$ H
  icases H with ⟨HA, HT⟩
  isplitl [HA]; · iexact HA
  iintro HB
  iapply (Inv_put KV Qc OV c B T S' hB)
  isplitl [HB] <;> iassumption

/-! ## The facts every device knows; steps -/

/-- Every cell of every device is under its invariant; the first round of every barrier and of device `c`'s own cells has
begun; the levels. -/
def world : sProp 𝕄 :=
  iprop((bigSep Finset.univ fun x : Dev nD × Fin 41 => cellInv ER (Rd KV) (K x) (cell x))
    ∗ ((bigSep Finset.univ fun d : Dev nD => reached ER (cell (d, 0)) 0) ∗ begun c) ∗ levAts L lv)

instance world_persistent : BI.Persistent (world (F := F) KV K c) := by unfold world; infer_instance

omit [FloatOps F] in
theorem world_inv (x : Dev nD × Fin 41) : world (F := F) KV K c ⊢ cellInv ER (Rd KV) (K x) (cell x) := by
  have h : (bigSep Finset.univ fun x : Dev nD × Fin 41 => cellInv ER (Rd (F := F) KV) (K x) (cell x)) ⊢ cellInv ER (Rd KV) (K x) (cell x) :=
    bigSep_elim (Finset.mem_univ x)
  unfold world; iintro ⟨H, -, -⟩; iapply h; iexact H
omit [FloatOps F] in
theorem world_bar (d : Dev nD) : world (F := F) KV K c ⊢ reached ER (cell (d, 0)) 0 := by
  have h : (bigSep Finset.univ fun d : Dev nD => (reached ER (cell (d, 0)) 0 : sProp 𝕄)) ⊢ reached ER (cell (d, 0)) 0 :=
    bigSep_elim (Finset.mem_univ d)
  unfold world; iintro ⟨-, ⟨H, -⟩, -⟩; iapply h; iexact H
omit [FloatOps F] in
theorem world_begun : world (F := F) KV K c ⊢ begun c := by
  unfold world; iintro ⟨-, ⟨-, H⟩, -⟩; iexact H
omit [FloatOps F] in
theorem world_lev : world (F := F) KV K c ⊢ levAts L lv := by
  unfold world; iintro ⟨-, -, H⟩; iexact H

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c`, holding the resources of `S`, runs `p`, which returns `v` and leaves it the resources of `S'`. -/
def Steps {α : Type} (S : ℕ) (p : Prog (TpuEff nD τ sig (Elt F) Λ₀ .tc) α) (v : α) (S' : ℕ) : Prop :=
  ∀ Q : α → sProp 𝕄, iprop(world KV K c ∗ Inv KV Qc OV c S) ⊢ iprop((Inv KV Qc OV c S' -∗ Q v) -∗ WP c p Q)

variable {KV Qc OV K c} {α β : Type}

theorem Steps.pure (S : ℕ) (v : α) : Steps KV Qc OV K c S (Pure.pure v) v S := fun Q => by
  have e : WP c (Pure.pure v) Q = iprop(|={Set.univ}=> Q v) := wp_ret ..
  rw [e]
  iintro ⟨-, HI⟩ Hk
  imodintro
  iapply Hk; iexact HI

theorem Steps.bind {S S₁ S₂ : ℕ} {p : Prog (TpuEff nD τ sig (Elt F) Λ₀ .tc) α} {v : α} {f : α → Prog (TpuEff nD τ sig (Elt F) Λ₀ .tc) β} {w : β}
    (h₁ : Steps KV Qc OV K c S p v S₁) (h₂ : Steps KV Qc OV K c S₁ (f v) w S₂) : Steps KV Qc OV K c S (p >>= f) w S₂ := fun Q => by
  show _ ⊢ iprop(_ -∗ wp frame (wpE (defs₀ (F := F)) 𝒱₀ (c : Thread nD τ) none) Set.univ (p >>= f) Q)
  rw [wp_bind]
  iintro ⟨#Hw, HI⟩ Hk
  iapply (h₁ _) $$ [HI]
  · isplitr; · iexact Hw
    iexact HI
  iintro HI
  iapply (h₂ Q) $$ [HI]
  · isplitr; · iexact Hw
    iexact HI
  iexact Hk

/-- An operation that consumes the resources `A` and produces `B`. -/
theorem Steps.event {S S₁ S₂ : ℕ} {p : Prog (TpuEff nD τ sig (Elt F) Λ₀ .tc) α} {v : α} {f : α → Prog (TpuEff nD τ sig (Elt F) Λ₀ .tc) β} {w : β}
    {A B : List Item} (h : tr A B S = some S₁)
    (hp : ∀ Q : α → sProp 𝕄, iprop(world KV K c ∗ resL KV Qc OV c A) ⊢ iprop((resL KV Qc OV c B -∗ Q v) -∗ WP c p Q))
    (h₂ : Steps KV Qc OV K c S₁ (f v) w S₂) : Steps KV Qc OV K c S (p >>= f) w S₂ :=
  Steps.bind (fun Q => by
    iintro ⟨#Hw, HI⟩ Hk
    ihave HI := (Inv_tr KV Qc OV c A B S S₁ h) $$ HI
    icases HI with ⟨HA, HI⟩
    iapply (hp Q) $$ [HA]
    · isplitr; · iexact Hw
      iexact HA
    iintro HB
    iapply Hk
    iapply HI; iexact HB) h₂

/-- A regrouping of resources between operations. -/
theorem Steps.ghost {S S₁ S₂ : ℕ} {p : Prog (TpuEff nD τ sig (Elt F) Λ₀ .tc) α} {v : α}
    {A B : List Item} (h : tr A B S = some S₁) (hp : resL KV Qc OV c A ⊢ resL KV Qc OV c B)
    (h₂ : Steps KV Qc OV K c S₁ p v S₂) : Steps KV Qc OV K c S p v S₂ := fun Q => by
  iintro ⟨#Hw, HI⟩ Hk
  ihave HI := (Inv_tr KV Qc OV c A B S S₁ h) $$ HI
  icases HI with ⟨HA, HI⟩
  ihave HB := hp $$ HA
  ihave HI := HI $$ HB
  iapply (h₂ Q) $$ [HI]
  · isplitr; · iexact Hw
    iexact HI
  iexact Hk

/-- Reading the device's number. -/
theorem Steps.deviceId {S S₂ : ℕ} {f : Dev nD → Prog (TpuEff nD τ sig (Elt F) Λ₀ .tc) β} {w : β}
    (h₂ : Steps KV Qc OV K c S (f c) w S₂) : Steps KV Qc OV K c S (Prog.lift .deviceId >>= f) w S₂ := fun Q => by
  show _ ⊢ iprop(_ -∗ WP c (.op .deviceId f) Q)
  unfold WP
  rw [wp_deviceId]
  exact h₂ Q

/-- A load from memory that resource `x` covers. -/
theorem Steps.load {S S₂ : ℕ} (x : Item) {cs : CoreSpace} {s : Shape} {e : EltTy} {m : Memref sig .tc cs s e} {r : LoadRect s} {hl : m.view.LoadsAt r}
    {k : (r.shape.Idx → Elt F e) → Prog (TpuEff nD τ sig (Elt F) Λ₀ .tc) β} {w : β} (hb : S.testBit (code x) = true)
    {I : Finset (Idx (m.view.loc (c : Thread nD τ)))} {q : PosShare TreeShare} {f : Buf (Elt F) (m.view.loc (c : Thread nD τ))}
    (hr : res KV Qc OV c x = (m.view.loc (c : Thread nD τ) ↦[I]{q} f)) (hI : m.view.setOn r.set ⊆ I)
    (v : r.shape.Idx → Elt F e) (hv : m.view.readAt (Elt F) r f = v)
    (h₂ : Steps KV Qc OV K c S (k v) w S₂) : Steps KV Qc OV K c S (Prog.lift (.load m r hl) >>= k) w S₂ := by
  refine Steps.bind (S₁ := S) (v := v) (fun Q => ?_) h₂
  rw [Inv_toggle KV Qc OV c S x hb, hr]
  iintro ⟨-, Hx, HI⟩ Hk
  have h := wp_load (defs := defs₀ (F := F)) (Q := Q) (f := f) (q := q) (k := .ret) (hl := hl) (Γ := []) 𝒱₀ (c : Thread nD τ) none Set.univ (m := m) (r := r) hI
  rw [hv, wp_ret] at h
  iapply h $$ Hx
  iintro Hx
  imodintro
  iapply Hk
  isplitl [Hx] <;> iassumption

end Res

end Cert.MeshAttn

end
-- ==== Proof.Events.lean ====
/-
The rules for the kernel's communication: a barrier signal, the barrier wait, a transfer along `z`, a forward along `x` or
`y`, and the waits for a transfer to arrive or to leave.
-/
module

public import proofs.«01_k».proof.Proof.Steps
public import Idealize.ShloMosaic.Lib.QrPanel.StackBlock

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and offsets the kernel computes -/

theorem dev1_eq : ∀ c : Dev nD, (⟨k0_dev1 c, k0_dev1_lt c⟩ : Dev nD) = evT c 0 := by decide +kernel
theorem dev2_eq : ∀ c : Dev nD, (⟨k0_dev2 c, k0_dev2_lt c⟩ : Dev nD) = evT c 1 := by decide +kernel
theorem dev3_eq : ∀ c : Dev nD, (⟨k0_dev3 c, k0_dev3_lt c⟩ : Dev nD) = evT c 2 := by decide +kernel
theorem dev4_eq : ∀ c : Dev nD, (⟨k0_dev4 c, k0_dev4_lt c⟩ : Dev nD) = evT c 3 := by decide +kernel
theorem dev5_eq : ∀ c : Dev nD, (⟨k0_dev5 c, k0_dev5_lt c⟩ : Dev nD) = evT c 4 := by decide +kernel
theorem dev6_eq : ∀ c : Dev nD, (⟨k0_dev6 c, k0_dev6_lt c⟩ : Dev nD) = evT c 5 := by decide +kernel
theorem dev7_eq : ∀ c : Dev nD, (⟨k0_dev7 c, k0_dev7_lt c⟩ : Dev nD) = evT c 6 := by decide +kernel
theorem dev8_eq : ∀ c : Dev nD, (⟨k0_dev8 c, k0_dev8_lt c⟩ : Dev nD) = evT c 7 := by decide +kernel
theorem dev9_eq : ∀ c : Dev nD, (⟨k0_dev9 c, k0_dev9_lt c⟩ : Dev nD) = evT c 8 := by decide +kernel
theorem dev10_eq : ∀ c : Dev nD, (⟨k0_dev10 c, k0_dev10_lt c⟩ : Dev nD) = evT c 9 := by decide +kernel
theorem dev11_eq : ∀ c : Dev nD, (⟨k0_dev11 c, k0_dev11_lt c⟩ : Dev nD) = evT c 10 := by decide +kernel
theorem dev12_eq : ∀ c : Dev nD, (⟨k0_dev12 c, k0_dev12_lt c⟩ : Dev nD) = evT c 11 := by decide +kernel
theorem dev13_eq : ∀ c : Dev nD, (⟨k0_dev13 c, k0_dev13_lt c⟩ : Dev nD) = evT c 12 := by decide +kernel
theorem dev14_eq : ∀ c : Dev nD, (⟨k0_dev14 c, k0_dev14_lt c⟩ : Dev nD) = evT c 13 := by decide +kernel
theorem dev15_eq : ∀ c : Dev nD, (⟨k0_dev15 c, k0_dev15_lt c⟩ : Dev nD) = evT c 14 := by decide +kernel
theorem dev16_eq : ∀ c : Dev nD, (⟨k0_dev16 c, k0_dev16_lt c⟩ : Dev nD) = evT c 15 := by decide +kernel
theorem dev17_eq : ∀ c : Dev nD, (⟨k0_dev17 c, k0_dev17_lt c⟩ : Dev nD) = evT c 16 := by decide +kernel
theorem dev18_eq : ∀ c : Dev nD, (⟨k0_dev18 c, k0_dev18_lt c⟩ : Dev nD) = evT c 17 := by decide +kernel
theorem dev19_eq : ∀ c : Dev nD, (⟨k0_dev19 c, k0_dev19_lt c⟩ : Dev nD) = evT c 18 := by decide +kernel
theorem dev20_eq : ∀ c : Dev nD, (⟨k0_dev20 c, k0_dev20_lt c⟩ : Dev nD) = evT c 19 := by decide +kernel

/-- The steps along `z` as run-time words. -/
abbrev kw (k : Fin 3) : BitVec 32 := BitVec.ofNat 32 (1 + k.val)
/-- The slab `k + 1` steps up the `z` axis. -/
def sl (c : Dev nD) (k : Fin 3) : Fin 4 := zc c + ⟨k.val + 1, by omega⟩

theorem off1_eq : ∀ c : Dev nD, k0_off1 c = ![(zc c).val, (me c).val, 0, 0, 0, 0] := by decide +kernel
theorem off2_eq : ∀ c : Dev nD, k0_off2 c = ![(me c).val, 0, 0, 0, 0] := by decide +kernel
theorem off3_eq : ∀ (c : Dev nD) (k : Fin 3), k0_off3 c (kw k) = ![(sl c k).val, (me c).val, 0, 0, 0, 0] := by decide +kernel
theorem off5_eq : ∀ (c : Dev nD) (k : Fin 3), k0_off5 c (kw k) = ![(sl c k).val, (rX c).val, 1, 0, 0, 0] := by decide +kernel
theorem off7_eq : ∀ (c : Dev nD) (k : Fin 3), k0_off7 c (kw k) = ![(sl c k).val, (rY c).val, 0, 0, 0, 0] := by decide +kernel

theorem mem_R3 {p : Fin 4 → Fin 4 → Fin 2 → Bool} {i : S4x4x2x4x256x64.Idx} : i ∈ R3 p ↔ p (i (0 : Fin 6)) (i (1 : Fin 6)) (i (2 : Fin 6)) = true := by
  rw [R3, Finset.mem_filter]; exact ⟨fun h => h.2, fun h => ⟨Finset.mem_univ _, h⟩⟩
theorem beq_fin {n : ℕ} (a b : Fin n) : (a == b) = true ↔ a.val = b.val := by rw [beq_iff_eq]; exact Fin.ext_iff
theorem and2 {a b : Bool} {P Q : Prop} (ha : a = true ↔ P) (hb : b = true ↔ Q) : (a && b) = true ↔ P ∧ Q := by rw [Bool.and_eq_true, ha, hb]
theorem and3 {a b d : Bool} {P Q R : Prop} (ha : a = true ↔ P) (hb : b = true ↔ Q) (hd : d = true ↔ R) : (a && b && d) = true ↔ (P ∧ Q) ∧ R := by
  rw [Bool.and_eq_true, Bool.and_eq_true, ha, hb, hd]
theorem dv_self : ∀ c : Dev nD, dv (zc c) (me c) = c := by decide +kernel

theorem piece_set {off : Fin 6 → ℕ} {o r : Fin 4} (h : off = ![o.val, r.val, 0, 0, 0, 0]) (inb : ∀ a, off a + S1x1x2x4x256x64.size a ≤ S4x4x2x4x256x64.size a) :
    (Rect.unit (s := S4x4x2x4x256x64) off S1x1x2x4x256x64.size inb).set = R3 fun o' r' _ => o' == o && r' == r := by
  subst h
  ext i
  refine Rect.mem_set_unit.trans (Iff.trans ?_ mem_R3.symm)
  refine Iff.trans ?_ (and2 (beq_fin (n := 4) _ _) (beq_fin (n := 4) _ _)).symm
  constructor
  · intro hi
    have h0 := hi (0 : Fin 6); have h1 := hi (1 : Fin 6)
    simp at h0 h1
    exact ⟨by omega, by omega⟩
  · rintro ⟨h0, h1⟩
    have hlt := fun a => (i a).isLt
    intro a
    fin_cases a
    · simp; omega
    · simp; omega
    · have := hlt (2 : Fin 6); simpa using this
    · have := hlt (3 : Fin 6); simpa using this
    · have := hlt (4 : Fin 6); simpa using this
    · have := hlt (5 : Fin 6); simpa using this

theorem half_set {off : Fin 6 → ℕ} {o r : Fin 4} {b : Fin 2} (h : off = ![o.val, r.val, b.val, 0, 0, 0]) (inb : ∀ a, off a + S1x1x1x4x256x64.size a ≤ S4x4x2x4x256x64.size a) :
    (Rect.unit (s := S4x4x2x4x256x64) off S1x1x1x4x256x64.size inb).set = R3 fun o' r' h' => o' == o && r' == r && h' == b := by
  subst h
  ext i
  refine Rect.mem_set_unit.trans (Iff.trans ?_ mem_R3.symm)
  refine Iff.trans ?_ (and3 (beq_fin (n := 4) _ _) (beq_fin (n := 4) _ _) (beq_fin (n := 2) _ _)).symm
  constructor
  · intro hi
    have h0 := hi (0 : Fin 6); have h1 := hi (1 : Fin 6); have h2 := hi (2 : Fin 6)
    simp at h0 h1 h2
    exact ⟨⟨by omega, by omega⟩, by omega⟩
  · rintro ⟨⟨h0, h1⟩, h2⟩
    have hlt := fun a => (i a).isLt
    intro a
    fin_cases a
    · simp; omega
    · simp; omega
    · simp; omega
    · have := hlt (3 : Fin 6); simpa using this
    · have := hlt (4 : Fin 6); simpa using this
    · have := hlt (5 : Fin 6); simpa using this

theorem own_set {off : Fin 5 → ℕ} {r : Fin 4} (h : off = ![r.val, 0, 0, 0, 0]) (inb : ∀ a, off a + S1x2x4x256x64.size a ≤ S4x2x4x256x64.size a) :
    (Rect.unit (s := S4x2x4x256x64) off S1x2x4x256x64.size inb).set = R1 r := by
  subst h
  ext i
  rw [Rect.mem_set_unit, R1, Finset.mem_filter]
  constructor
  · intro hi
    have h0 := hi (0 : Fin 5)
    simp at h0
    exact ⟨Finset.mem_univ _, by omega⟩
  · rintro ⟨-, h0⟩
    have hlt := fun a => (i a).isLt
    intro a
    fin_cases a
    · simp; omega
    · have := hlt (1 : Fin 5); simpa using this
    · have := hlt (2 : Fin 5); simpa using this
    · have := hlt (3 : Fin 5); simpa using this
    · have := hlt (4 : Fin 5); simpa using this

section Rules

variable {KV : (c : Dev nD) → (cc0_stg1_0 : Ref sig .tc).ty.Contents (Elt F)}
  {Qc : (c : Dev nD) → (cc0_stg0_0 : Ref sig .tc).ty.Contents (Elt F)}
  {OV : (c : Dev nD) → (cc0_stg2_0 : Ref sig .tc).ty.Contents (Elt F)}
  {K : Dev nD × Fin 41 → ℕ} {c : Dev nD} {α β : Type}

/-- Resource `e` of kind `k`. -/
abbrev it (k : Fin 16) (e : Fin 20) : Item := (k, ⟨e.val, Nat.lt_succ_of_lt e.isLt⟩)
/-- The debt once `n` payments are made. -/
abbrev owe (n : ℕ) (h : n < 21 := by decide) : Item := (0, ⟨n, h⟩)

theorem ev_it (e : Fin 20) (h : e.val < 21) : ev ⟨e.val, h⟩ = e := Fin.ext (Nat.mod_eq_of_lt e.isLt)

omit [FloatOps F] in
theorem res_owe (n : ℕ) (h : n < 21) : res KV Qc OV c (owe n h) = iprop(∃ W, owes (c : Thread nD τ) (osum c n) W) := rfl
omit [FloatOps F] in
theorem res_tok (e : Fin 20) : res KV Qc OV c (it 1 e) = dutyTok ER (cell (evT c e, evR e)) 0 (evD e) := by
  show dutyTok ER (cell (evT c (ev _), evR (ev _))) 0 (evD (ev _)) = _; rw [ev_it]
omit [FloatOps F] in
theorem res_stok (e : Fin 20) : res KV Qc OV c (it 2 e) = dutyTok ER (cell (c, evS e)) 0 (0 : Fin 5) := by
  show dutyTok ER (cell (c, evS (ev _))) 0 (0 : Fin 5) = _; rw [ev_it]
omit [FloatOps F] in
theorem res_opn (e : Fin 20) (h : e.val < 5) : res KV Qc OV c (it 3 e) = opn c e := by
  show (if e.val < 5 then opn c (ev _) else opn (evT c (ev _)) (ev _)) = _; rw [if_pos h, ev_it]
omit [FloatOps F] in
theorem res_dst (e : Fin 20) (h : 5 ≤ e.val) : res KV Qc OV c (it 3 e) = opn (evT c e) e := by
  show (if e.val < 5 then opn c (ev _) else opn (evT c (ev _)) (ev _)) = _; rw [if_neg (by omega), ev_it]
omit [FloatOps F] in
theorem res_src (e : Fin 20) : res KV Qc OV c (it 4 e) = srcI KV c e := by
  show srcI KV c (ev _) = _; rw [ev_it]
omit [FloatOps F] in
theorem res_crd (e : Fin 20) (h : 5 ≤ e.val) : res KV Qc OV c (it 5 e) = cred (tallyAt (cell (c, evR e)) () (amt (evR e))) := by
  show cred (tallyAt (cell (c, evR (ev _))) () (if e.val = 0 then 5 else amt (evR (ev _)))) = _; rw [if_neg (by omega), ev_it]
omit [FloatOps F] in
theorem res_scrd (e : Fin 20) : res KV Qc OV c (it 6 e) = cred (tallyAt (cell (c, evS e)) () (amt (evS e))) := by
  show cred (tallyAt (cell (c, evS (ev _))) () (amt (evS (ev _)))) = _; rw [ev_it]
omit [FloatOps F] in
theorem res_pos (e : Fin 20) : res KV Qc OV c (it 7 e) = atPos ER (cell (c, evR e)) 0 ∅ 0 := by
  show atPos ER (cell (c, evR (ev _))) 0 ∅ 0 = _; rw [ev_it]
omit [FloatOps F] in
theorem res_spos (e : Fin 20) : res KV Qc OV c (it 8 e) = atPos ER (cell (c, evS e)) 0 ∅ 0 := by
  show atPos ER (cell (c, evS (ev _))) 0 ∅ 0 = _; rw [ev_it]
omit [FloatOps F] in
theorem res_don (e : Fin 20) : res KV Qc OV c (it 9 e) = atPos ER (cell (c, evR e)) 1 ∅ 0 := by
  show atPos ER (cell (c, evR (ev _))) 1 ∅ 0 = _; rw [ev_it]
omit [FloatOps F] in
theorem res_sdon (e : Fin 20) : res KV Qc OV c (it 10 e) = atPos ER (cell (c, evS e)) 1 ∅ 0 := by
  show atPos ER (cell (c, evS (ev _))) 1 ∅ 0 = _; rw [ev_it]
omit [FloatOps F] in
theorem res_got (e : Fin 20) : res KV Qc OV c (it 11 e) = got KV c e := by
  show got KV c (ev _) = _; rw [ev_it]

theorem payer_evT : ∀ (c : Dev nD) (e : Fin 20), e.val < 5 → payer (evT c e) (evD e) = c := by decide +kernel
theorem evR_bar : ∀ e : Fin 20, e.val < 5 → evR e = 0 := by decide
theorem evD_bar : ∀ e : Fin 20, e.val < 5 → (evD e).val = e.val := by decide

/-- A barrier signal hands the receiver its part of the buffer. -/
theorem Steps.signal {S S₁ S₂ : ℕ} (e : Fin 20) (he : e.val < 5) {d : Dev nD} (hd : d = evT c e) {sm : Sem sig} (hsm : sm = barrier0)
    {f : PUnit → Prog (TpuEff nD τ sig (Elt F) Λ₀ .tc) β} {w : β}
    (h : tr [owe e.val (Nat.lt_succ_of_lt e.isLt), it 1 e, it 3 e] [owe (e.val + 1) (Nat.succ_lt_succ e.isLt)] S = some S₁)
    (h₂ : Steps KV Qc OV K c S₁ (f ⟨⟩) w S₂) : Steps KV Qc OV K c S (semSignalWord d sm 1#32 >>= f) w S₂ := by
  subst hd hsm
  refine Steps.event h (fun Q => ?_) h₂
  simp only [resL, res_owe, res_tok, res_opn e he]
  rw [osum_succ]
  have hs := fun W => Rounds.wp_signal (defs := defs₀ (F := F)) (Γ := []) (Q := Q) (k := .ret) (k' := (1#32 : BitVec 32).toInt.toNat) (W := W) (Es := Set.univ) 𝒱₀ ER (Rd KV) (c : Thread nD τ) none
    (dst := (evT c e : Thread nD τ)) (sem := barrier0) (r := 0) (d := evD e) (κ := K (evT c e, 0))
    (by rw [show ((evT c e : Thread nD τ), SemLoc.reg barrier0) = cell (evT c e, evR e) by rw [evR_bar e he]; rfl, duties_cell]; exact evD_mem e)
    (by rw [show ((evT c e : Thread nD τ), SemLoc.reg barrier0) = cell (evT c e, evR e) by rw [evR_bar e he]; rfl, amount_cell, evR_bar e he]; rfl) () (osum c (e.val + 1)) rfl
  rw [show amt (evR e) = (1#32 : BitVec 32).toInt.toNat by rw [evR_bar e he]; rfl, show cell (evT c e, evR e) = ((evT c e : Thread nD τ), SemLoc.reg barrier0) by rw [evR_bar e he]; rfl]
  have hp : (Rd (F := F) KV).payload ((evT c e : Thread nD τ), SemLoc.reg barrier0) 0 (evD e) = opn c e := by
    rw [show ((evT c e : Thread nD τ), SemLoc.reg barrier0) = cell (evT c e, 0) by rfl, payload_cell, pay, if_pos rfl, payer_evT c e he]
    exact congrArg (opn c) (Fin.ext (evD_bar e he))
  iintro ⟨#Hw, ⟨%W, HO⟩, Ht, Hp, -⟩ Hk
  ihave #HI := (world_inv KV K c (evT c e, 0)) $$ Hw
  ihave #HR := (world_bar (F := F) KV K c (evT c e)) $$ Hw
  specialize hs W
  rw [wp_ret, hp] at hs
  iapply hs $$ [HO Ht Hp]
  · isplitr; · iexact HI
    isplitl [HO]; · iexact HO
    isplitl [Ht]; · iexact Ht
    isplitl [Hp]; · iexact Hp
    iexact HR
  iintro HO
  imodintro
  iapply Hk
  isplitl [HO]
  · iexists W; iexact HO
  · iempintro

/-- A transfer: it lends its source to the sender's cell and hands the filled destination to the receiver's. -/
theorem Steps.send {S S₁ S₂ : ℕ} (e : Fin 20) (he : 5 ≤ e.val) {d : Dev nD} (hd : d = evT c e) {s : Shape}
    {src : Memref sig .tc .vmem s .bf16} {dst : Memref sig .tc .vmem s .bf16} {hsc : dst.view.ref.isScScratch = false} {sS sR : SemLoc sig}
    {hsrc : src.view.WordExact} {hdst : dst.view.WordExact} {hsem : DmaTarget.Typed .vmem sR (.remote (Dev.tc d) dst sS hsc)}
    (hsS : sS = csem (evS e)) (hsR : sR = csem (evR e)) (hN : dst.view.amount sR = amt (evR e)) (hNS : amt (evS e) = amt (evR e))
    {q : PosShare TreeShare} {fs : Buf (Elt F) (src.view.loc (c : Thread nD τ))}
    (hS : srcI KV c e = (src.view.loc (c : Thread nD τ) ↦[src.view.set]{q} fs))
    (hD : iprop(∃ f, kvP (F := F) d (gotP d e) fullShare f) ⊢ iprop(∃ fd, dst.view.loc (d : Thread nD τ) ↦[dst.view.set]{fullShare} fd))
    (hG : ∀ fd : Buf (Elt F) (dst.view.loc (d : Thread nD τ)),
      (dst.view.loc (d : Thread nD τ) ↦[dst.view.set]{fullShare} (dst.view.write (Elt F) fd (src.view.read (Elt F) fs) Finset.univ)) ⊢ got KV d e)
    {f : PUnit → Prog (TpuEff nD τ sig (Elt F) Λ₀ .tc) β} {w : β}
    (h : tr [owe e.val (Nat.lt_succ_of_lt e.isLt), it 1 e, it 2 e, it 3 e, it 4 e] [owe (e.val + 1) (Nat.succ_lt_succ e.isLt), it 6 e] S = some S₁)
    (h₂ : Steps KV Qc OV K c S₁ (f ⟨⟩) w S₂) :
    Steps KV Qc OV K c S (Prog.lift (.enqueueDma src (.remote (Dev.tc d) dst sS hsc) sR hsrc hdst hsem) >>= f) w S₂ := by
  refine Steps.event h (fun Q => ?_) h₂
  subst hd
  have cS : cell (c, evS e) = ((c : Thread nD τ), sS) := by rw [hsS]
  have cR : cell (evT c e, evR e) = ((evT c e : Thread nD τ), sR) := by rw [hsR]
  simp only [resL, res_owe, res_tok, res_stok, res_dst e he, res_src, res_scrd]
  rw [osum_succ, hNS, hS]
  have hs := fun W fd => Rounds.wp_send_pointsTo (defs := defs₀ (F := F)) (Γ := []) (Q := Q) (k := .ret) (W := W) (Es := Set.univ) 𝒱₀ ER (Rd KV) (c : Thread nD τ) none
    (c' := (evT c e : Thread nD τ)) (src := src) (dst := dst) (hsc := hsc) (sS := sS) (sem := sR) (hsrc := hsrc) (hdst := hdst) (hsem := hsem)
    (r₁ := 0) (r₂ := 0) (d₁ := 0) (d₂ := evD e) (fs := fs) (fd := fd) (q := q) (κ₁ := K (c, evS e)) (κ₂ := K (evT c e, evR e))
    (by rw [← cS, duties_cell, dset_send e he]; exact Finset.mem_singleton_self _)
    (by rw [← cR, duties_cell]; exact evD_mem e) () () (amt (evR e)) hN
    (by rw [← cS, amount_cell, hNS]) (by rw [← cR, amount_cell]) (osum c (e.val + 1)) rfl
    (by rw [← cS, payload_cell, pay_send KV c e he, hS]) (by rw [← cR, payload_cell, pay_recv KV _ e he]; exact hG fd)
  iintro ⟨#Hw, ⟨%W, HO⟩, Ht, Hts, Hp, Hsrc, -⟩ Hk
  unfold opn
  icases Hp with ⟨Hp, #HB'⟩
  ihave Hp := hD $$ Hp
  icases Hp with ⟨%fd, Hp⟩
  ihave #HI := (world_inv KV K c (c, evS e)) $$ Hw
  ihave #HB := (world_begun (F := F) KV K c) $$ Hw
  ihave #HR := (begun_at (F := F) c (evS e)) $$ HB
  ihave #HI' := (world_inv KV K c (evT c e, evR e)) $$ Hw
  ihave #HR' := (begun_at (F := F) (evT c e) (evR e)) $$ HB'
  specialize hs W fd
  rw [wp_ret, ← cS, ← cR] at hs
  iapply hs $$ [HO Ht Hts Hp Hsrc]
  · isplitr; · iexact HI
    isplitr; · iexact HI'
    isplitl [Hsrc]; · iexact Hsrc
    isplitl [Hp]; · iexact Hp
    isplitl [HO]; · iexact HO
    isplitl [Hts]; · iexact Hts
    isplitr; · iexact HR
    isplitl [Ht]; · iexact Ht
    iexact HR'
  iintro ⟨Hc, HO⟩
  imodintro
  iapply Hk
  isplitl [HO]
  · iexists W; iexact HO
  isplitl [Hc]
  · iexact Hc
  · iempintro

theorem slice_set {b : Ref sig .tc} {s' : Shape} (r : Rect b.ty.shape) (h : s'.numel = r.shape.numel) :
    (((View.whole b).slice r).reshape s' h).set = r.set := by rw [View.set_reshape, View.set_slice_whole]

/-- A forward: the piece read and the piece written have the same coordinates. -/
theorem Steps.fwd {S S₁ S₂ : ℕ} (e : Fin 20) (he : 8 ≤ e.val) {d : Dev nD} (hd : d = evT c e) {s : Shape} {r : Rect S4x4x2x4x256x64}
    {hst : ∀ a, r.stride a = 1} {hsq : r.shape.Squeezes s}
    {hsc : ((kM.slice r hst).squeeze s hsq).view.ref.isScScratch = false} {sS sR : SemLoc sig}
    {hsrc : ((kM.slice r hst).squeeze s hsq).view.WordExact} {hdst : ((kM.slice r hst).squeeze s hsq).view.WordExact}
    {hsem : DmaTarget.Typed .vmem sR (.remote (Dev.tc d) ((kM.slice r hst).squeeze s hsq) sS hsc)}
    (hsS : sS = csem (evS e)) (hsR : sR = csem (evR e)) (hN : ((kM.slice r hst).squeeze s hsq).view.amount sR = amt (evR e))
    (hNS : amt (evS e) = amt (evR e)) (hset : r.set = R3 (srcP c e))
    {f : PUnit → Prog (TpuEff nD τ sig (Elt F) Λ₀ .tc) β} {w : β}
    (h : tr [owe e.val (Nat.lt_succ_of_lt e.isLt), it 1 e, it 2 e, it 3 e, it 4 e] [owe (e.val + 1) (Nat.succ_lt_succ e.isLt), it 6 e] S = some S₁)
    (h₂ : Steps KV Qc OV K c S₁ (f ⟨⟩) w S₂) :
    Steps KV Qc OV K c S (Prog.lift (.enqueueDma ((kM.slice r hst).squeeze s hsq) (.remote (Dev.tc d) ((kM.slice r hst).squeeze s hsq) sS hsc) sR hsrc hdst hsem) >>= f) w S₂ := by
  have hv : ((kM.slice r hst).squeeze s hsq).view.set = R3 (srcP c e) := (slice_set (b := cc0_scratch0) r hsq.numel_eq).trans hset
  have hg : R3 (srcP c e) = R3 (gotP (evT c e) e) := congrArg R3 (funext fun o => funext fun r => funext fun h => srcP_gotP c e he o r h)
  refine Steps.send e (by omega) hd hsS hsR hN hNS (q := shr e) (fs := G KV) ?_ ?_ (fun fd => ?_) h h₂
  · unfold srcI; rw [if_neg (by omega), hv]; rfl
  · rw [hv, hg, ← hd]; exact Entails.of_eq rfl
  · rw [View.write_read_eq_piecewise, hv]
    have e1 : ((((kM.slice r hst).squeeze s hsq).view.loc (d : Thread nD τ)) ↦[R3 (srcP c e)]{fullShare}
        ((((kM.slice r hst).squeeze s hsq).view.setOn Finset.univ).piecewise (G KV) fd) : sProp 𝕄)
        = (((kM.slice r hst).squeeze s hsq).view.loc (d : Thread nD τ)) ↦[R3 (srcP c e)]{fullShare} (G KV) :=
      pointsTo_congr fun i hi => Finset.piecewise_eq_of_mem _ _ _ (by rw [View.setOn_univ, hv]; exact hi)
    rw [e1, hg, ← hd]; exact Entails.of_eq rfl

/-- A transfer of the device's own piece along `z`. -/
theorem Steps.sendZ {S S₁ S₂ : ℕ} (e : Fin 20) (he : 5 ≤ e.val ∧ e.val < 8) {d : Dev nD} (hd : d = evT c e)
    {hsc : ((kM.slice (Rect.unit (s := S4x4x2x4x256x64) (k0_off1 c) S1x1x2x4x256x64.size (k0_off1_inb c)) (fun _ => rfl)).squeeze S2x4x256x64 squeezes_S1x1x2x4x256x64_S2x4x256x64).view.ref.isScScratch = false} {sS sR : SemLoc sig}
    {hsrc : ((sM.slice (Rect.unit (s := S4x2x4x256x64) (k0_off2 c) S1x2x4x256x64.size (k0_off2_inb c)) (fun _ => rfl)).squeeze S2x4x256x64 squeezes_S1x2x4x256x64_S2x4x256x64).view.WordExact}
    {hdst : ((kM.slice (Rect.unit (s := S4x4x2x4x256x64) (k0_off1 c) S1x1x2x4x256x64.size (k0_off1_inb c)) (fun _ => rfl)).squeeze S2x4x256x64 squeezes_S1x1x2x4x256x64_S2x4x256x64).view.WordExact}
    {hsem : DmaTarget.Typed .vmem sR (.remote (Dev.tc d) ((kM.slice (Rect.unit (s := S4x4x2x4x256x64) (k0_off1 c) S1x1x2x4x256x64.size (k0_off1_inb c)) (fun _ => rfl)).squeeze S2x4x256x64 squeezes_S1x1x2x4x256x64_S2x4x256x64) sS hsc)}
    (hsS : sS = csem (evS e)) (hsR : sR = csem (evR e))
    (hN : ((kM.slice (Rect.unit (s := S4x4x2x4x256x64) (k0_off1 c) S1x1x2x4x256x64.size (k0_off1_inb c)) (fun _ => rfl)).squeeze S2x4x256x64 squeezes_S1x1x2x4x256x64_S2x4x256x64).view.amount sR = amt (evR e))
    (hNS : amt (evS e) = amt (evR e)) (hset : ∀ o r h, gotP (evT c e) e o r h = (o == zc c && r == me c))
    {f : PUnit → Prog (TpuEff nD τ sig (Elt F) Λ₀ .tc) β} {w : β}
    (h : tr [owe e.val (Nat.lt_succ_of_lt e.isLt), it 1 e, it 2 e, it 3 e, it 4 e] [owe (e.val + 1) (Nat.succ_lt_succ e.isLt), it 6 e] S = some S₁)
    (h₂ : Steps KV Qc OV K c S₁ (f ⟨⟩) w S₂) :
    Steps KV Qc OV K c S (Prog.lift (.enqueueDma ((sM.slice (Rect.unit (s := S4x2x4x256x64) (k0_off2 c) S1x2x4x256x64.size (k0_off2_inb c)) (fun _ => rfl)).squeeze S2x4x256x64 squeezes_S1x2x4x256x64_S2x4x256x64)
      (.remote (Dev.tc d) ((kM.slice (Rect.unit (s := S4x4x2x4x256x64) (k0_off1 c) S1x1x2x4x256x64.size (k0_off1_inb c)) (fun _ => rfl)).squeeze S2x4x256x64 squeezes_S1x1x2x4x256x64_S2x4x256x64) sS hsc) sR hsrc hdst hsem) >>= f) w S₂ := by
  have hv : ((kM.slice (Rect.unit (s := S4x4x2x4x256x64) (k0_off1 c) S1x1x2x4x256x64.size (k0_off1_inb c)) (fun _ => rfl)).squeeze S2x4x256x64 squeezes_S1x1x2x4x256x64_S2x4x256x64).view.set = R3 (gotP (evT c e) e) :=
    (slice_set (b := cc0_scratch0) _ _).trans ((piece_set (off1_eq c) _).trans (congrArg R3 (funext fun o => funext fun r => funext fun h => (hset o r h).symm)))
  have hw : ((sM.slice (Rect.unit (s := S4x2x4x256x64) (k0_off2 c) S1x2x4x256x64.size (k0_off2_inb c)) (fun _ => rfl)).squeeze S2x4x256x64 squeezes_S1x2x4x256x64_S2x4x256x64).view.set = R1 (me c) :=
    (slice_set (b := cc0_stg1_0) _ _).trans (own_set (off2_eq c) _)
  refine Steps.send e he.1 hd hsS hsR hN hNS (q := shr e) (fs := KV c) ?_ ?_ (fun fd => ?_) h h₂
  · unfold srcI; rw [if_pos he.2, hw]; rfl
  · rw [hv, ← hd]; exact Entails.of_eq rfl
  · rw [hv]
    refine Entails.of_eq (Eq.trans (pointsTo_congr fun i hi => ?_) (b := kM.view.loc (d : Thread nD τ) ↦[R3 (gotP (evT c e) e)]{fullShare} G KV) ?_)
    · rw [← hv] at hi
      obtain ⟨y, -, rfl⟩ := Finset.mem_map.mp hi
      refine (View.write_emb_of_mem _ _ (Finset.mem_univ y)).trans ?_
      have e2 : ∀ y : S2x4x256x64.Idx, Shape.reshapeEquiv (squeezes_S1x2x4x256x64_S2x4x256x64.numel_eq) y = Fin.cons ⟨0, Nat.one_pos⟩ y := fun y => Shape.reshapeEquiv_cons_one _ y
      have e3 : ∀ y : S2x4x256x64.Idx, Shape.reshapeEquiv (squeezes_S1x1x2x4x256x64_S2x4x256x64.numel_eq) y = Fin.cons ⟨0, Nat.one_pos⟩ (Fin.cons ⟨0, Nat.one_pos⟩ y) := fun y => QrPanel.StackBlock.reshapeEquiv_cons_one_one _ y
      show KV c ((Rect.unit (s := S4x2x4x256x64) (k0_off2 c) S1x2x4x256x64.size (k0_off2_inb c)).emb (Shape.reshapeEquiv (squeezes_S1x2x4x256x64_S2x4x256x64.numel_eq) y))
        = G KV ((Rect.unit (s := S4x4x2x4x256x64) (k0_off1 c) S1x1x2x4x256x64.size (k0_off1_inb c)).emb (Shape.reshapeEquiv (squeezes_S1x1x2x4x256x64_S2x4x256x64.numel_eq) y))
      rw [e2, e3]
      have ho : ∀ a, k0_off1 c a = (![(zc c).val, (me c).val, 0, 0, 0, 0] : Fin 6 → ℕ) a := fun a => congrFun (off1_eq c) a
      have hp : ∀ a, k0_off2 c a = (![(me c).val, 0, 0, 0, 0] : Fin 5 → ℕ) a := fun a => congrFun (off2_eq c) a
      have h0 : ((Rect.unit (s := S4x4x2x4x256x64) (k0_off1 c) S1x1x2x4x256x64.size (k0_off1_inb c)).emb (Fin.cons ⟨0, Nat.one_pos⟩ (Fin.cons ⟨0, Nat.one_pos⟩ y))) (0 : Fin 6) = zc c :=
        Fin.ext (by show k0_off1 c (0 : Fin 6) + 1 * 0 = _; rw [ho]; rfl)
      have h1 : ((Rect.unit (s := S4x4x2x4x256x64) (k0_off1 c) S1x1x2x4x256x64.size (k0_off1_inb c)).emb (Fin.cons ⟨0, Nat.one_pos⟩ (Fin.cons ⟨0, Nat.one_pos⟩ y))) (1 : Fin 6) = me c :=
        Fin.ext (by show k0_off1 c (1 : Fin 6) + 1 * 0 = _; rw [ho]; rfl)
      unfold G
      rw [h0, h1, dv_self]
      refine congrArg (KV c) (funext fun a => ?_)
      apply Fin.ext
      show k0_off2 c a + 1 * _ = k0_off1 c a.succ + 1 * _
      rw [hp a, ho a.succ]
      fin_cases a <;> rfl
    · rw [hd]; rfl

theorem waits_ok : ∀ e : Fin 20, 5 ≤ e.val → evR e ≠ 0 := evR_ne_zero

/-- The wait for an incoming transfer. -/
theorem Steps.recvWait {S S₁ S₂ : ℕ} (e : Fin 20) (he : 5 ≤ e.val) (n : ℕ) (hn : n < 21) {s s' : Shape}
    {src : Memref sig .tc .vmem s .bf16} {dst : Memref sig .tc .vmem s' .bf16} {sm : DmaSem sig} (hsm : SemLoc.dma sm = csem (evR e))
    {hsrc : src.view.WordExact} {hdst : dst.view.WordExact} (hN : dst.view.dmaCredit = amt (evR e))
    (hl : ∀ e' ∈ (List.finRange 20).drop n, clv (evR e) < clv (evR e'))
    {f : PUnit → Prog (TpuEff nD τ sig (Elt F) Λ₀ .tc) β} {w : β}
    (h : tr [owe n hn, it 5 e, it 7 e] [owe n hn, it 9 e, it 11 e] S = some S₁)
    (h₂ : Steps KV Qc OV K c S₁ (f ⟨⟩) w S₂) : Steps KV Qc OV K c S (Prog.lift (.waitDma2 sm src dst hsrc hdst) >>= f) w S₂ := by
  refine Steps.event h (fun Q => ?_) h₂
  have cR : cell (c, evR e) = ((c : Thread nD τ), SemLoc.dma sm) := by rw [hsm]
  simp only [resL, res_owe, res_crd e he, res_pos, res_don, res_got]
  have hs := fun W => Rounds.wp_wait_rest_token (defs := defs₀ (F := F)) (Γ := []) (Q := Q) (k := .ret) 𝒱₀ ER (Rd KV) (c : Thread nD τ) none (κ := K (c, evR e))
    (wpE_waitDma2_eq 𝒱₀ (c : Thread nD τ) none Set.univ (sem := sm) (src := src) (dst := dst) (hsrc := hsrc) (hdst := hdst)) (Set.mem_univ _) ()
    (O := osum c n) (W := W) (R := 0) (m := 0) (T := ∅)
    (by rw [Nat.zero_add, ← cR, expect_one KV c _ (dset_recv e he), hN])
  rw [← cR, rest_recv KV c e he, hN] at hs
  have hm : world (F := F) KV K c ⊢ MayWait (c : Thread nD τ) (SemLoc.dma sm) () (osum c n) := by
    rw [hsm]; unfold world; iintro ⟨-, -, H⟩; iapply (mayWait (F := F) c (csem (evR e)) n (fun e' he' => by rw [lv_cell c (evR e)]; exact hl e' he')); iexact H
  iintro ⟨#Hw, ⟨%W, HO⟩, Hc, Hat, -⟩ Hk
  ihave #HI := (world_inv KV K c (c, evR e)) $$ Hw
  specialize hs W
  rw [wp_ret] at hs
  iapply hs $$ [HO Hc Hat]
  · isplitr; · iexact HI
    isplitl [Hc]; · iexact Hc
    isplitl [HO]; · iexact HO
    isplitr
    · iapply hm; iexact Hw
    iexact Hat
  iintro ⟨HO, Hat, -, Hg⟩
  imodintro
  iapply Hk
  isplitl [HO]
  · iexists _; iexact HO
  isplitl [Hat]; · iexact Hat
  isplitl [Hg]; · iexact Hg
  iempintro

/-- The wait for an outgoing transfer to leave. -/
theorem Steps.sendWait {S S₁ S₂ : ℕ} (e : Fin 20) (he : 5 ≤ e.val) {s s' : Shape}
    {src : Memref sig .tc .vmem s .bf16} {dst : Memref sig .tc .vmem s' .bf16} {sm : DmaSem sig} (hsm : SemLoc.dma sm = csem (evS e))
    {hsrc : src.view.WordExact} {hdst : dst.view.WordExact} (hN : dst.view.dmaCredit = amt (evS e))
    {f : PUnit → Prog (TpuEff nD τ sig (Elt F) Λ₀ .tc) β} {w : β}
    (h : tr [owe 20, it 6 e, it 8 e] [owe 20, it 10 e, it 4 e] S = some S₁)
    (h₂ : Steps KV Qc OV K c S₁ (f ⟨⟩) w S₂) : Steps KV Qc OV K c S (Prog.lift (.waitDma2 sm src dst hsrc hdst) >>= f) w S₂ := by
  refine Steps.event h (fun Q => ?_) h₂
  have cS : cell (c, evS e) = ((c : Thread nD τ), SemLoc.dma sm) := by rw [hsm]
  simp only [resL, res_owe, res_scrd, res_spos, res_sdon, res_src]
  have hs := fun W => Rounds.wp_wait_rest_token (defs := defs₀ (F := F)) (Γ := []) (Q := Q) (k := .ret) 𝒱₀ ER (Rd KV) (c : Thread nD τ) none (κ := K (c, evS e))
    (wpE_waitDma2_eq 𝒱₀ (c : Thread nD τ) none Set.univ (sem := sm) (src := src) (dst := dst) (hsrc := hsrc) (hdst := hdst)) (Set.mem_univ _) ()
    (O := osum c 20) (W := W) (R := 0) (m := 0) (T := ∅)
    (by rw [Nat.zero_add, ← cS, expect_one KV c _ (dset_send e he), hN])
  rw [← cS, rest_send KV c e he, hN] at hs
  have hm : world (F := F) KV K c ⊢ MayWait (c : Thread nD τ) (SemLoc.dma sm) () (osum c 20) := by
    rw [hsm]; unfold world; iintro ⟨-, -, H⟩; iapply (mayWait (F := F) c (csem (evS e)) 20 (fun e' he' => absurd he' (List.not_mem_nil))); iexact H
  iintro ⟨#Hw, ⟨%W, HO⟩, Hc, Hat, -⟩ Hk
  ihave #HI := (world_inv KV K c (c, evS e)) $$ Hw
  specialize hs W
  rw [wp_ret] at hs
  iapply hs $$ [HO Hc Hat]
  · isplitr; · iexact HI
    isplitl [Hc]; · iexact Hc
    isplitl [HO]; · iexact HO
    isplitr
    · iapply hm; iexact Hw
    iexact Hat
  iintro ⟨HO, Hat, -, Hg⟩
  imodintro
  iapply Hk
  isplitl [HO]
  · iexists _; iexact HO
  isplitl [Hat]; · iexact Hat
  isplitl [Hg]; · iexact Hg
  iempintro

end Rules

end Cert.MeshAttn

end
-- ==== Proof.Pieces.lean ====
/-
Splitting and joining the pieces of the gathered buffer, the barrier wait, and the loads and stores of the computation.
-/
module

public import proofs.«01_k».proof.Proof.Events

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The coordinates in `p` that are not in `p₁`. -/
abbrev dif (p p₁ : Fin 4 → Fin 4 → Fin 2 → Bool) (o r : Fin 4) (h : Fin 2) : Bool := p o r h && !p₁ o r h

section Split

variable {p p₁ p₂ : Fin 4 → Fin 4 → Fin 2 → Bool} {c : Dev nD} {q : PosShare TreeShare} {f : (cc0_scratch0 : Ref sig .tc).ty.Contents (Elt F)}

omit [FloatOps F] in
/-- A piece taken out of a larger one. -/
theorem kvP_peel (h : ∀ o r k, (p₁ o r k && !p o r k) = false) : kvP (F := F) c p q f = iprop(kvP c p₁ q f ∗ kvP c (dif p p₁) q f) := by
  have e : R3 p = R3 p₁ ∪ R3 (dif p p₁) := by
    ext i
    rw [Finset.mem_union]
    have := h (i (0 : Fin 6)) (i (1 : Fin 6)) (i (2 : Fin 6))
    constructor
    · intro hi
      have hi := mem_R3.mp hi
      by_cases h1 : p₁ (i (0 : Fin 6)) (i (1 : Fin 6)) (i (2 : Fin 6)) = true
      · exact .inl (mem_R3.mpr h1)
      · refine .inr (mem_R3.mpr ?_)
        show (p _ _ _ && !p₁ _ _ _) = true
        rw [hi]; simpa using h1
    · rintro (hi | hi)
      · have hi := mem_R3.mp hi
        refine mem_R3.mpr ?_
        rw [hi] at this; simpa using this
      · have hi : (p _ _ _ && !p₁ _ _ _) = true := mem_R3.mp hi
        exact mem_R3.mpr ((Bool.and_eq_true _ _ ▸ hi).1)
  have d : Disjoint (R3 p₁) (R3 (dif p p₁)) := by
    rw [Finset.disjoint_left]
    intro i h1 h2
    have h1 := mem_R3.mp h1
    have h2 : (p _ _ _ && !p₁ _ _ _) = true := mem_R3.mp h2
    rw [h1] at h2; simp at h2
  unfold kvP
  rw [e]
  exact Entails.antisymm (pointsTo_union d).1 (pointsTo_union d).2

omit [FloatOps F] in
theorem kvP_same (h : ∀ o r k, p o r k = p₁ o r k) : kvP (F := F) c p q f = kvP c p₁ q f := by
  rw [show p = p₁ from funext fun o => funext fun r => funext fun k => h o r k]

omit [FloatOps F] in
/-- A piece as its left and right halves in share. -/
theorem kvP_share : kvP (F := F) c p q f = iprop(kvP c p q.left f ∗ kvP c p q.right f) := by
  unfold kvP
  exact Entails.antisymm (pointsTo_share (PosShare.mem_left_op_right q)).1 (pointsTo_share (PosShare.mem_left_op_right q)).2

omit [FloatOps F] in
theorem some_peel (h : ∀ o r k, (p₁ o r k && !p o r k) = false) :
    iprop(∃ f, kvP (F := F) c p fullShare f) ⊢ iprop((∃ f, kvP c p₁ fullShare f) ∗ (∃ f, kvP c (dif p p₁) fullShare f)) := by
  iintro ⟨%f, H⟩
  ihave H := (Entails.of_eq (kvP_peel h)) $$ H
  icases H with ⟨H, H'⟩
  isplitl [H]
  · iexists f; iexact H
  · iexists f; iexact H'

end Split

/-! ## What the barrier opens -/

theorem nx8 : ∀ (d : Dev nD) o r k, (gotP d 8 o r k && !gotP d 3 o r k) = false := by decide +kernel
theorem nx10 : ∀ (d : Dev nD) o r k, (gotP d 10 o r k && !dif (gotP d 3) (gotP d 8) o r k) = false := by decide +kernel
theorem nx12 : ∀ (d : Dev nD) o r k, (gotP d 12 o r k && !dif (dif (gotP d 3) (gotP d 8)) (gotP d 10) o r k) = false := by decide +kernel
theorem nx15 : ∀ (d : Dev nD) o r k, (gotP d 15 o r k && !dif (dif (dif (gotP d 3) (gotP d 8)) (gotP d 10)) (gotP d 12) o r k) = false := by decide +kernel
theorem nx17 : ∀ (d : Dev nD) o r k, (gotP d 17 o r k && !dif (dif (dif (dif (gotP d 3) (gotP d 8)) (gotP d 10)) (gotP d 12)) (gotP d 15) o r k) = false := by decide +kernel
theorem nx19 : ∀ (d : Dev nD) o r k, dif (dif (dif (dif (dif (gotP d 3) (gotP d 8)) (gotP d 10)) (gotP d 12)) (gotP d 15)) (gotP d 17) o r k = gotP d 19 o r k := by decide +kernel
theorem ny9 : ∀ (d : Dev nD) o r k, (gotP d 9 o r k && !gotP d 4 o r k) = false := by decide +kernel
theorem ny11 : ∀ (d : Dev nD) o r k, (gotP d 11 o r k && !dif (gotP d 4) (gotP d 9) o r k) = false := by decide +kernel
theorem ny13 : ∀ (d : Dev nD) o r k, (gotP d 13 o r k && !dif (dif (gotP d 4) (gotP d 9)) (gotP d 11) o r k) = false := by decide +kernel
theorem ny14 : ∀ (d : Dev nD) o r k, (gotP d 14 o r k && !dif (dif (dif (gotP d 4) (gotP d 9)) (gotP d 11)) (gotP d 13) o r k) = false := by decide +kernel
theorem ny16 : ∀ (d : Dev nD) o r k, (gotP d 16 o r k && !dif (dif (dif (dif (gotP d 4) (gotP d 9)) (gotP d 11)) (gotP d 13)) (gotP d 14) o r k) = false := by decide +kernel
theorem ny18 : ∀ (d : Dev nD) o r k, dif (dif (dif (dif (dif (gotP d 4) (gotP d 9)) (gotP d 11)) (gotP d 13)) (gotP d 14)) (gotP d 16) o r k = gotP d 18 o r k := by decide +kernel

omit [FloatOps F] in
/-- What a device opens to its neighbour along `x`: the destinations of the six forwards it will make. -/
theorem opn_x (d : Dev nD) : opn (F := F) d 3 ⊢ iprop(opn d 8 ∗ opn d 10 ∗ opn d 12 ∗ opn d 15 ∗ opn d 17 ∗ opn d 19) := by
  unfold opn
  iintro ⟨H, #HB⟩
  ihave H := (some_peel (nx8 d)) $$ H
  icases H with ⟨H8, H⟩
  ihave H := (some_peel (nx10 d)) $$ H
  icases H with ⟨H10, H⟩
  ihave H := (some_peel (nx12 d)) $$ H
  icases H with ⟨H12, H⟩
  ihave H := (some_peel (nx15 d)) $$ H
  icases H with ⟨H15, H⟩
  ihave H := (some_peel (nx17 d)) $$ H
  icases H with ⟨H17, ⟨%f, H⟩⟩
  ihave H := (Entails.of_eq (kvP_same (nx19 d))) $$ H
  isplitl [H8]
  · isplitl [H8]; · iexact H8
    iexact HB
  isplitl [H10]
  · isplitl [H10]; · iexact H10
    iexact HB
  isplitl [H12]
  · isplitl [H12]; · iexact H12
    iexact HB
  isplitl [H15]
  · isplitl [H15]; · iexact H15
    iexact HB
  isplitl [H17]
  · isplitl [H17]; · iexact H17
    iexact HB
  isplitl [H]; · iexists f; iexact H
  iexact HB

omit [FloatOps F] in
/-- What a device opens to its neighbour along `y`. -/
theorem opn_y (d : Dev nD) : opn (F := F) d 4 ⊢ iprop(opn d 9 ∗ opn d 11 ∗ opn d 13 ∗ opn d 14 ∗ opn d 16 ∗ opn d 18) := by
  unfold opn
  iintro ⟨H, #HB⟩
  ihave H := (some_peel (ny9 d)) $$ H
  icases H with ⟨H8, H⟩
  ihave H := (some_peel (ny11 d)) $$ H
  icases H with ⟨H10, H⟩
  ihave H := (some_peel (ny13 d)) $$ H
  icases H with ⟨H12, H⟩
  ihave H := (some_peel (ny14 d)) $$ H
  icases H with ⟨H15, H⟩
  ihave H := (some_peel (ny16 d)) $$ H
  icases H with ⟨H17, ⟨%f, H⟩⟩
  ihave H := (Entails.of_eq (kvP_same (ny18 d))) $$ H
  isplitl [H8]
  · isplitl [H8]; · iexact H8
    iexact HB
  isplitl [H10]
  · isplitl [H10]; · iexact H10
    iexact HB
  isplitl [H12]
  · isplitl [H12]; · iexact H12
    iexact HB
  isplitl [H15]
  · isplitl [H15]; · iexact H15
    iexact HB
  isplitl [H17]
  · isplitl [H17]; · iexact H17
    iexact HB
  isplitl [H]; · iexists f; iexact H
  iexact HB

section Rules

variable {KV : (c : Dev nD) → (cc0_stg1_0 : Ref sig .tc).ty.Contents (Elt F)}
  {Qc : (c : Dev nD) → (cc0_stg0_0 : Ref sig .tc).ty.Contents (Elt F)}
  {OV : (c : Dev nD) → (cc0_stg2_0 : Ref sig .tc).ty.Contents (Elt F)}
  {K : Dev nD × Fin 41 → ℕ} {c : Dev nD} {α β : Type}

/-- The destinations of a device's fifteen transfers. -/
abbrev dsts : List Item := [it 3 5, it 3 6, it 3 7, it 3 8, it 3 9, it 3 10, it 3 11, it 3 12, it 3 13, it 3 14, it 3 15, it 3 16, it 3 17, it 3 18, it 3 19]

/-- The barrier wait: every neighbour has opened the destinations of the transfers this device will make. -/
theorem Steps.barWait {S S₁ S₂ : ℕ} {sm : Sem sig} (hsm : sm = barrier0)
    {f : PUnit → Prog (TpuEff nD τ sig (Elt F) Λ₀ .tc) β} {w : β}
    (h : tr [owe 5, it 5 0, it 7 0] (owe 5 :: it 9 0 :: dsts) S = some S₁)
    (h₂ : Steps KV Qc OV K c S₁ (f ⟨⟩) w S₂) : Steps KV Qc OV K c S (semWaitWord sm 5#32 >>= f) w S₂ := by
  subst hsm
  refine Steps.event h (fun Q => ?_) h₂
  simp only [resL, res_owe, res_pos, res_don]
  have hc : res KV Qc OV c (it 5 0) = cred (tallyAt (cell (c, 0)) () 5) := rfl
  rw [hc]
  have hs := fun W => Rounds.wp_wait_rest_token (defs := defs₀ (F := F)) (Γ := []) (Q := Q) (k := .ret) 𝒱₀ ER (Rd KV) (c : Thread nD τ) none (κ := K (c, 0))
    (wpE_semWait_eq 𝒱₀ (c : Thread nD τ) none Set.univ (sem := barrier0) (k := (5#32 : BitVec 32).toNat)) (Set.mem_univ _) ()
    (O := osum c 5) (W := W) (R := 0) (m := 0) (T := ∅)
    (by rw [Nat.zero_add]; exact (expect_bar KV c).symm)
  have t5 : opn (F := F) (zn c 1) 2 ⊢ res KV Qc OV c (it 3 5) := Entails.of_eq (res_dst 5 (by decide)).symm
  have t6 : opn (F := F) (zn c 2) 1 ⊢ res KV Qc OV c (it 3 6) := Entails.of_eq (res_dst 6 (by decide)).symm
  have t7 : opn (F := F) (zn c 3) 0 ⊢ res KV Qc OV c (it 3 7) := Entails.of_eq (res_dst 7 (by decide)).symm
  have t8 : opn (F := F) (xn c) 8 ⊢ res KV Qc OV c (it 3 8) := Entails.of_eq (res_dst 8 (by decide)).symm
  have t9 : opn (F := F) (yn c) 9 ⊢ res KV Qc OV c (it 3 9) := Entails.of_eq (res_dst 9 (by decide)).symm
  have t10 : opn (F := F) (xn c) 10 ⊢ res KV Qc OV c (it 3 10) := Entails.of_eq (res_dst 10 (by decide)).symm
  have t11 : opn (F := F) (yn c) 11 ⊢ res KV Qc OV c (it 3 11) := Entails.of_eq (res_dst 11 (by decide)).symm
  have t12 : opn (F := F) (xn c) 12 ⊢ res KV Qc OV c (it 3 12) := Entails.of_eq (res_dst 12 (by decide)).symm
  have t13 : opn (F := F) (yn c) 13 ⊢ res KV Qc OV c (it 3 13) := Entails.of_eq (res_dst 13 (by decide)).symm
  have t14 : opn (F := F) (yn c) 14 ⊢ res KV Qc OV c (it 3 14) := Entails.of_eq (res_dst 14 (by decide)).symm
  have t15 : opn (F := F) (xn c) 15 ⊢ res KV Qc OV c (it 3 15) := Entails.of_eq (res_dst 15 (by decide)).symm
  have t16 : opn (F := F) (yn c) 16 ⊢ res KV Qc OV c (it 3 16) := Entails.of_eq (res_dst 16 (by decide)).symm
  have t17 : opn (F := F) (xn c) 17 ⊢ res KV Qc OV c (it 3 17) := Entails.of_eq (res_dst 17 (by decide)).symm
  have t18 : opn (F := F) (yn c) 18 ⊢ res KV Qc OV c (it 3 18) := Entails.of_eq (res_dst 18 (by decide)).symm
  have t19 : opn (F := F) (xn c) 19 ⊢ res KV Qc OV c (it 3 19) := Entails.of_eq (res_dst 19 (by decide)).symm
  have cR : cell (c, 0) = ((c : Thread nD τ), SemLoc.reg barrier0) := rfl
  rw [← cR, rest_bar KV c] at hs
  have hm : world (F := F) KV K c ⊢ MayWait (c : Thread nD τ) (SemLoc.reg barrier0) () (osum c 5) := by
    unfold world; iintro ⟨-, -, H⟩
    iapply (mayWait (F := F) c (.reg barrier0) 5 (fun e' he' => by rw [show ((c : Thread nD τ), SemLoc.reg barrier0) = cell (c, 0) from rfl, lv_cell]; revert e'; decide)); iexact H
  iintro ⟨#Hw, ⟨%W, HO⟩, Hc, Hat, -⟩ Hk
  ihave #HI := (world_inv KV K c (c, 0)) $$ Hw
  specialize hs W
  rw [wp_ret] at hs
  iapply hs $$ [HO Hc Hat]
  · isplitr; · iexact HI
    isplitl [Hc]; · iexact Hc
    isplitl [HO]; · iexact HO
    isplitr
    · iapply hm; iexact Hw
    iexact Hat
  iintro ⟨HO, Hat, -, ⟨H0, H1, H2, H3, H4⟩⟩
  ihave H3 := (opn_x (xn c)) $$ H3
  icases H3 with ⟨H8, H10, H12, H15, H17, H19⟩
  ihave H4 := (opn_y (yn c)) $$ H4
  icases H4 with ⟨H9, H11, H13, H14, H16, H18⟩
  imodintro
  iapply Hk
  isplitl [HO]
  · iexists _; iexact HO
  isplitl [Hat]; · iexact Hat
  isplitl [H2]; · iapply t5; iexact H2
  isplitl [H1]; · iapply t6; iexact H1
  isplitl [H0]; · iapply t7; iexact H0
  isplitl [H8]; · iapply t8; iexact H8
  isplitl [H9]; · iapply t9; iexact H9
  isplitl [H10]; · iapply t10; iexact H10
  isplitl [H11]; · iapply t11; iexact H11
  isplitl [H12]; · iapply t12; iexact H12
  isplitl [H13]; · iapply t13; iexact H13
  isplitl [H14]; · iapply t14; iexact H14
  isplitl [H15]; · iapply t15; iexact H15
  isplitl [H16]; · iapply t16; iexact H16
  isplitl [H17]; · iapply t17; iexact H17
  isplitl [H18]; · iapply t18; iexact H18
  isplitl [H19]; · iapply t19; iexact H19
  iempintro

/-! ## Regrouping -/

omit [FloatOps F] in
/-- A piece that came along `z`: half of it is kept for reading, a quarter goes to each of the two forwards. -/
theorem gz5 : resL KV Qc OV c [it 11 5] ⊢ resL KV Qc OV c [it 12 5, it 4 12, it 4 13] := by
  show iprop(kvP c (gotP c 5) fullShare (G KV) ∗ emp) ⊢ iprop(kvP c (gotP c 5) (fullShare : PosShare TreeShare).left (G KV) ∗ kvP c (gotP c 5) (fullShare : PosShare TreeShare).right.left (G KV) ∗ kvP c (gotP c 5) (fullShare : PosShare TreeShare).right.right (G KV) ∗ emp)
  rw [kvP_share (q := fullShare), kvP_share (q := (fullShare : PosShare TreeShare).right)]
  iintro ⟨⟨H, H', H''⟩, He⟩
  isplitl [H]; · iexact H
  isplitl [H']; · iexact H'
  isplitl [H'']; · iexact H''
  iexact He
omit [FloatOps F] in
theorem gz6 : resL KV Qc OV c [it 11 6] ⊢ resL KV Qc OV c [it 12 6, it 4 10, it 4 11] := by
  show iprop(kvP c (gotP c 6) fullShare (G KV) ∗ emp) ⊢ iprop(kvP c (gotP c 6) (fullShare : PosShare TreeShare).left (G KV) ∗ kvP c (gotP c 6) (fullShare : PosShare TreeShare).right.left (G KV) ∗ kvP c (gotP c 6) (fullShare : PosShare TreeShare).right.right (G KV) ∗ emp)
  rw [kvP_share (q := fullShare), kvP_share (q := (fullShare : PosShare TreeShare).right)]
  iintro ⟨⟨H, H', H''⟩, He⟩
  isplitl [H]; · iexact H
  isplitl [H']; · iexact H'
  isplitl [H'']; · iexact H''
  iexact He
omit [FloatOps F] in
theorem gz7 : resL KV Qc OV c [it 11 7] ⊢ resL KV Qc OV c [it 12 7, it 4 8, it 4 9] := by
  show iprop(kvP c (gotP c 7) fullShare (G KV) ∗ emp) ⊢ iprop(kvP c (gotP c 7) (fullShare : PosShare TreeShare).left (G KV) ∗ kvP c (gotP c 7) (fullShare : PosShare TreeShare).right.left (G KV) ∗ kvP c (gotP c 7) (fullShare : PosShare TreeShare).right.right (G KV) ∗ emp)
  rw [kvP_share (q := fullShare), kvP_share (q := (fullShare : PosShare TreeShare).right)]
  iintro ⟨⟨H, H', H''⟩, He⟩
  isplitl [H]; · iexact H
  isplitl [H']; · iexact H'
  isplitl [H'']; · iexact H''
  iexact He

omit [FloatOps F] in
/-- A piece that came along `x` or `y`: half in share is kept for reading; of the other half, one half piece goes to a forward. -/
theorem g_fwd {e e' : Fin 20} (he : e.val < 20) (hs : ∀ (c : Dev nD) o r k, (srcP c e' o r k && !gotP c e o r k) = false)
    (hr : ∀ (c : Dev nD) o r k, dif (gotP c e) (srcP c e') o r k = rsP c e o r k) :
    kvP (F := F) c (gotP c e) fullShare (G KV) ⊢ iprop(kvP c (gotP c e) (fullShare : PosShare TreeShare).left (G KV) ∗ kvP c (rsP c e) (fullShare : PosShare TreeShare).right (G KV)
      ∗ kvP c (srcP c e') (fullShare : PosShare TreeShare).right (G KV)) := by
  rw [kvP_share (q := fullShare), kvP_peel (q := (fullShare : PosShare TreeShare).right) (hs c), kvP_same (hr c)]
  iintro ⟨H, H', H''⟩
  isplitl [H]; · iexact H
  isplitl [H'']; · iexact H''
  iexact H'

theorem fs8 : ∀ (c : Dev nD) o r k, (srcP c 14 o r k && !gotP c 8 o r k) = false := by decide +kernel
theorem fr8 : ∀ (c : Dev nD) o r k, dif (gotP c 8) (srcP c 14) o r k = rsP c 8 o r k := by decide +kernel
theorem fs9 : ∀ (c : Dev nD) o r k, (srcP c 15 o r k && !gotP c 9 o r k) = false := by decide +kernel
theorem fr9 : ∀ (c : Dev nD) o r k, dif (gotP c 9) (srcP c 15) o r k = rsP c 9 o r k := by decide +kernel
theorem fs10 : ∀ (c : Dev nD) o r k, (srcP c 16 o r k && !gotP c 10 o r k) = false := by decide +kernel
theorem fr10 : ∀ (c : Dev nD) o r k, dif (gotP c 10) (srcP c 16) o r k = rsP c 10 o r k := by decide +kernel
theorem fs11 : ∀ (c : Dev nD) o r k, (srcP c 17 o r k && !gotP c 11 o r k) = false := by decide +kernel
theorem fr11 : ∀ (c : Dev nD) o r k, dif (gotP c 11) (srcP c 17) o r k = rsP c 11 o r k := by decide +kernel
theorem fs12 : ∀ (c : Dev nD) o r k, (srcP c 18 o r k && !gotP c 12 o r k) = false := by decide +kernel
theorem fr12 : ∀ (c : Dev nD) o r k, dif (gotP c 12) (srcP c 18) o r k = rsP c 12 o r k := by decide +kernel
theorem fs13 : ∀ (c : Dev nD) o r k, (srcP c 19 o r k && !gotP c 13 o r k) = false := by decide +kernel
theorem fr13 : ∀ (c : Dev nD) o r k, dif (gotP c 13) (srcP c 19) o r k = rsP c 13 o r k := by decide +kernel

omit [FloatOps F] in
theorem gx8 : resL KV Qc OV c [it 11 8] ⊢ resL KV Qc OV c [it 12 8, it 13 8, it 4 14] := by
  show iprop(kvP c (gotP c 8) fullShare (G KV) ∗ emp) ⊢ iprop(kvP c (gotP c 8) (fullShare : PosShare TreeShare).left (G KV) ∗ kvP c (rsP c 8) (fullShare : PosShare TreeShare).right (G KV) ∗ kvP c (srcP c 14) (fullShare : PosShare TreeShare).right (G KV) ∗ emp)
  iintro ⟨H, He⟩
  ihave H := (g_fwd (by decide) fs8 fr8) $$ H
  icases H with ⟨H, H', H''⟩
  isplitl [H]; · iexact H
  isplitl [H']; · iexact H'
  isplitl [H'']; · iexact H''
  iexact He
omit [FloatOps F] in
theorem gx9 : resL KV Qc OV c [it 11 9] ⊢ resL KV Qc OV c [it 12 9, it 13 9, it 4 15] := by
  show iprop(kvP c (gotP c 9) fullShare (G KV) ∗ emp) ⊢ iprop(kvP c (gotP c 9) (fullShare : PosShare TreeShare).left (G KV) ∗ kvP c (rsP c 9) (fullShare : PosShare TreeShare).right (G KV) ∗ kvP c (srcP c 15) (fullShare : PosShare TreeShare).right (G KV) ∗ emp)
  iintro ⟨H, He⟩
  ihave H := (g_fwd (by decide) fs9 fr9) $$ H
  icases H with ⟨H, H', H''⟩
  isplitl [H]; · iexact H
  isplitl [H']; · iexact H'
  isplitl [H'']; · iexact H''
  iexact He
omit [FloatOps F] in
theorem gx10 : resL KV Qc OV c [it 11 10] ⊢ resL KV Qc OV c [it 12 10, it 13 10, it 4 16] := by
  show iprop(kvP c (gotP c 10) fullShare (G KV) ∗ emp) ⊢ iprop(kvP c (gotP c 10) (fullShare : PosShare TreeShare).left (G KV) ∗ kvP c (rsP c 10) (fullShare : PosShare TreeShare).right (G KV) ∗ kvP c (srcP c 16) (fullShare : PosShare TreeShare).right (G KV) ∗ emp)
  iintro ⟨H, He⟩
  ihave H := (g_fwd (by decide) fs10 fr10) $$ H
  icases H with ⟨H, H', H''⟩
  isplitl [H]; · iexact H
  isplitl [H']; · iexact H'
  isplitl [H'']; · iexact H''
  iexact He
omit [FloatOps F] in
theorem gx11 : resL KV Qc OV c [it 11 11] ⊢ resL KV Qc OV c [it 12 11, it 13 11, it 4 17] := by
  show iprop(kvP c (gotP c 11) fullShare (G KV) ∗ emp) ⊢ iprop(kvP c (gotP c 11) (fullShare : PosShare TreeShare).left (G KV) ∗ kvP c (rsP c 11) (fullShare : PosShare TreeShare).right (G KV) ∗ kvP c (srcP c 17) (fullShare : PosShare TreeShare).right (G KV) ∗ emp)
  iintro ⟨H, He⟩
  ihave H := (g_fwd (by decide) fs11 fr11) $$ H
  icases H with ⟨H, H', H''⟩
  isplitl [H]; · iexact H
  isplitl [H']; · iexact H'
  isplitl [H'']; · iexact H''
  iexact He
omit [FloatOps F] in
theorem gx12 : resL KV Qc OV c [it 11 12] ⊢ resL KV Qc OV c [it 12 12, it 13 12, it 4 18] := by
  show iprop(kvP c (gotP c 12) fullShare (G KV) ∗ emp) ⊢ iprop(kvP c (gotP c 12) (fullShare : PosShare TreeShare).left (G KV) ∗ kvP c (rsP c 12) (fullShare : PosShare TreeShare).right (G KV) ∗ kvP c (srcP c 18) (fullShare : PosShare TreeShare).right (G KV) ∗ emp)
  iintro ⟨H, He⟩
  ihave H := (g_fwd (by decide) fs12 fr12) $$ H
  icases H with ⟨H, H', H''⟩
  isplitl [H]; · iexact H
  isplitl [H']; · iexact H'
  isplitl [H'']; · iexact H''
  iexact He
omit [FloatOps F] in
theorem gx13 : resL KV Qc OV c [it 11 13] ⊢ resL KV Qc OV c [it 12 13, it 13 13, it 4 19] := by
  show iprop(kvP c (gotP c 13) fullShare (G KV) ∗ emp) ⊢ iprop(kvP c (gotP c 13) (fullShare : PosShare TreeShare).left (G KV) ∗ kvP c (rsP c 13) (fullShare : PosShare TreeShare).right (G KV) ∗ kvP c (srcP c 19) (fullShare : PosShare TreeShare).right (G KV) ∗ emp)
  iintro ⟨H, He⟩
  ihave H := (g_fwd (by decide) fs13 fr13) $$ H
  icases H with ⟨H, H', H''⟩
  isplitl [H]; · iexact H
  isplitl [H']; · iexact H'
  isplitl [H'']; · iexact H''
  iexact He

omit [FloatOps F] in
/-- The last half pieces: half in share is kept for reading. -/
theorem gh (e : Fin 20) (he : 14 ≤ e.val) : resL KV Qc OV c [it 11 e] ⊢ resL KV Qc OV c [it 12 e, it 13 e] := by
  have hrs : rsP c e = gotP c e := by
    have : ∀ (c : Dev nD) (e : Fin 20), 14 ≤ e.val → ∀ o r k, rsP c e o r k = gotP c e o r k := by decide +kernel
    funext o r k; exact this c e he o r k
  have e1 : res KV Qc OV c (it 12 e) = kvP c (gotP c e) (fullShare : PosShare TreeShare).left (G KV) := by
    show kvP c (gotP c (ev _)) _ _ = _; rw [ev_it]
  have e2 : res KV Qc OV c (it 13 e) = kvP c (gotP c e) (fullShare : PosShare TreeShare).right (G KV) := by
    show kvP c (rsP c (ev _)) _ _ = _; rw [ev_it, hrs]
  simp only [resL, res_got, e1, e2]
  unfold got
  rw [kvP_share (q := fullShare)]
  iintro ⟨⟨H, H'⟩, He⟩
  isplitl [H]; · iexact H
  isplitl [H']; · iexact H'
  iexact He

/-! ### A slab from its pieces -/

abbrev slP (o₀ : Fin 4) (o r : Fin 4) (h : Fin 2) : Bool := o == o₀
abbrev pcP (o₀ r₀ : Fin 4) (o r : Fin 4) (h : Fin 2) : Bool := o == o₀ && r == r₀
abbrev hfP (o₀ r₀ : Fin 4) (h₀ : Fin 2) (o r : Fin 4) (h : Fin 2) : Bool := o == o₀ && r == r₀ && h == h₀

theorem sb1 : ∀ (c : Dev nD) (s o r : Fin 4) (k : Fin 2), (pcP s (me c) o r k && !slP s o r k) = false := by decide +kernel
theorem sb2 : ∀ (c : Dev nD) (s o r : Fin 4) (k : Fin 2), (pcP s (rX c) o r k && !dif (slP s) (pcP s (me c)) o r k) = false := by decide +kernel
theorem sb3 : ∀ (c : Dev nD) (s o r : Fin 4) (k : Fin 2), (pcP s (rY c) o r k && !dif (dif (slP s) (pcP s (me c))) (pcP s (rX c)) o r k) = false := by decide +kernel
theorem sb4 : ∀ (c : Dev nD) (s o r : Fin 4) (k : Fin 2), (hfP s (rD c) 1 o r k && !dif (dif (dif (slP s) (pcP s (me c))) (pcP s (rX c))) (pcP s (rY c)) o r k) = false := by decide +kernel
theorem sb5 : ∀ (c : Dev nD) (s o r : Fin 4) (k : Fin 2), dif (dif (dif (dif (slP s) (pcP s (me c))) (pcP s (rX c))) (pcP s (rY c))) (hfP s (rD c) 1) o r k = hfP s (rD c) 0 o r k := by decide +kernel

omit [FloatOps F] in
/-- A slab as the five pieces it is received in. -/
theorem slab_split (s : Fin 4) (q : PosShare TreeShare) (f : (cc0_scratch0 : Ref sig .tc).ty.Contents (Elt F)) : kvP (F := F) c (slP s) q f
    = iprop(kvP c (pcP s (me c)) q f ∗ kvP c (pcP s (rX c)) q f ∗ kvP c (pcP s (rY c)) q f ∗ kvP c (hfP s (rD c) 1) q f ∗ kvP c (hfP s (rD c) 0) q f) := by
  rw [kvP_peel (sb1 c s), kvP_peel (sb2 c s), kvP_peel (sb3 c s), kvP_peel (sb4 c s), kvP_same (sb5 c s)]

theorem hx1 : ∀ (c : Dev nD) (s o r : Fin 4) (k : Fin 2), (hfP s (rX c) 0 o r k && !pcP s (rX c) o r k) = false := by decide +kernel
theorem hx2 : ∀ (c : Dev nD) (s o r : Fin 4) (k : Fin 2), dif (pcP s (rX c)) (hfP s (rX c) 0) o r k = hfP s (rX c) 1 o r k := by decide +kernel
theorem hy1 : ∀ (c : Dev nD) (s o r : Fin 4) (k : Fin 2), (hfP s (rY c) 1 o r k && !pcP s (rY c) o r k) = false := by decide +kernel
theorem hy2 : ∀ (c : Dev nD) (s o r : Fin 4) (k : Fin 2), dif (pcP s (rY c)) (hfP s (rY c) 1) o r k = hfP s (rY c) 0 o r k := by decide +kernel

omit [FloatOps F] in
/-- The right half in share of a slab, from what the forwards gave back and what they never borrowed. -/
theorem slab_right (s : Fin 4) (f : (cc0_scratch0 : Ref sig .tc).ty.Contents (Elt F)) : kvP (F := F) c (slP s) (fullShare : PosShare TreeShare).right f
    = iprop((kvP c (pcP s (me c)) (fullShare : PosShare TreeShare).right.left f ∗ kvP c (pcP s (me c)) (fullShare : PosShare TreeShare).right.right f)
      ∗ (kvP c (hfP s (rX c) 0) (fullShare : PosShare TreeShare).right f ∗ kvP c (hfP s (rX c) 1) (fullShare : PosShare TreeShare).right f)
      ∗ (kvP c (hfP s (rY c) 1) (fullShare : PosShare TreeShare).right f ∗ kvP c (hfP s (rY c) 0) (fullShare : PosShare TreeShare).right f)
      ∗ kvP c (hfP s (rD c) 1) (fullShare : PosShare TreeShare).right f ∗ kvP c (hfP s (rD c) 0) (fullShare : PosShare TreeShare).right f) := by
  rw [slab_split, ← kvP_share, kvP_peel (hx1 c s), kvP_same (hx2 c s), kvP_peel (hy1 c s), kvP_same (hy2 c s)]

/-- The items of slab `k`: its left part, and the pieces it came in. -/
abbrev slabIt (k : Fin 3) : Item := (14, ![4, 5, 6] k)
abbrev fullIt (k : Fin 3) : Item := (14, ![9, 10, 11] k)

omit [FloatOps F] in
theorem slab_join1 : resL KV Qc OV c [it 12 7, it 12 8, it 12 9, it 12 14, it 12 15] ⊢ resL KV Qc OV c [slabIt 0] := by
  show iprop(kvP c (pcP (zc c + 1) (me c)) (fullShare : PosShare TreeShare).left (G KV) ∗ kvP c (pcP (zc c + 1) (rX c)) (fullShare : PosShare TreeShare).left (G KV) ∗ kvP c (pcP (zc c + 1) (rY c)) (fullShare : PosShare TreeShare).left (G KV) ∗ kvP c (hfP (zc c + 1) (rD c) 1) (fullShare : PosShare TreeShare).left (G KV) ∗ kvP c (hfP (zc c + 1) (rD c) 0) (fullShare : PosShare TreeShare).left (G KV) ∗ emp)
    ⊢ iprop(kvP c (slP (zc c + 1)) (fullShare : PosShare TreeShare).left (G KV) ∗ emp)
  rw [slab_split]
  iintro ⟨H1, H2, H3, H4, H5, He⟩
  isplitr [He]
  · isplitl [H1]; · iexact H1
    isplitl [H2]; · iexact H2
    isplitl [H3]; · iexact H3
    isplitl [H4]; · iexact H4
    iexact H5
  · iexact He
omit [FloatOps F] in
theorem slab_join2 : resL KV Qc OV c [it 12 6, it 12 10, it 12 11, it 12 16, it 12 17] ⊢ resL KV Qc OV c [slabIt 1] := by
  show iprop(kvP c (pcP (zc c + 2) (me c)) (fullShare : PosShare TreeShare).left (G KV) ∗ kvP c (pcP (zc c + 2) (rX c)) (fullShare : PosShare TreeShare).left (G KV) ∗ kvP c (pcP (zc c + 2) (rY c)) (fullShare : PosShare TreeShare).left (G KV) ∗ kvP c (hfP (zc c + 2) (rD c) 1) (fullShare : PosShare TreeShare).left (G KV) ∗ kvP c (hfP (zc c + 2) (rD c) 0) (fullShare : PosShare TreeShare).left (G KV) ∗ emp)
    ⊢ iprop(kvP c (slP (zc c + 2)) (fullShare : PosShare TreeShare).left (G KV) ∗ emp)
  rw [slab_split]
  iintro ⟨H1, H2, H3, H4, H5, He⟩
  isplitr [He]
  · isplitl [H1]; · iexact H1
    isplitl [H2]; · iexact H2
    isplitl [H3]; · iexact H3
    isplitl [H4]; · iexact H4
    iexact H5
  · iexact He
omit [FloatOps F] in
theorem slab_join3 : resL KV Qc OV c [it 12 5, it 12 12, it 12 13, it 12 18, it 12 19] ⊢ resL KV Qc OV c [slabIt 2] := by
  show iprop(kvP c (pcP (zc c + 3) (me c)) (fullShare : PosShare TreeShare).left (G KV) ∗ kvP c (pcP (zc c + 3) (rX c)) (fullShare : PosShare TreeShare).left (G KV) ∗ kvP c (pcP (zc c + 3) (rY c)) (fullShare : PosShare TreeShare).left (G KV) ∗ kvP c (hfP (zc c + 3) (rD c) 1) (fullShare : PosShare TreeShare).left (G KV) ∗ kvP c (hfP (zc c + 3) (rD c) 0) (fullShare : PosShare TreeShare).left (G KV) ∗ emp)
    ⊢ iprop(kvP c (slP (zc c + 3)) (fullShare : PosShare TreeShare).left (G KV) ∗ emp)
  rw [slab_split]
  iintro ⟨H1, H2, H3, H4, H5, He⟩
  isplitr [He]
  · isplitl [H1]; · iexact H1
    isplitl [H2]; · iexact H2
    isplitl [H3]; · iexact H3
    isplitl [H4]; · iexact H4
    iexact H5
  · iexact He

omit [FloatOps F] in
/-- A slab whole again: its left half, and its right half from the pieces. -/
theorem slab_whole (s : Fin 4) :
    iprop(kvP (F := F) c (slP s) (fullShare : PosShare TreeShare).left (G KV) ∗ kvP c (pcP s (me c)) (fullShare : PosShare TreeShare).right.left (G KV) ∗ kvP c (pcP s (me c)) (fullShare : PosShare TreeShare).right.right (G KV)
      ∗ kvP c (hfP s (rX c) 0) (fullShare : PosShare TreeShare).right (G KV) ∗ kvP c (hfP s (rX c) 1) (fullShare : PosShare TreeShare).right (G KV)
      ∗ kvP c (hfP s (rY c) 1) (fullShare : PosShare TreeShare).right (G KV) ∗ kvP c (hfP s (rY c) 0) (fullShare : PosShare TreeShare).right (G KV)
      ∗ kvP c (hfP s (rD c) 1) (fullShare : PosShare TreeShare).right (G KV) ∗ kvP c (hfP s (rD c) 0) (fullShare : PosShare TreeShare).right (G KV) ∗ emp)
    ⊢ iprop(kvP c (slP s) fullShare (G KV) ∗ emp) := by
  rw [kvP_share (q := fullShare), slab_right]
  iintro ⟨H0, H1, H2, H3, H4, H5, H6, H7, H8, He⟩
  isplitr [He]
  · isplitl [H0]; · iexact H0
    isplitl [H1 H2]
    · isplitl [H1] <;> iassumption
    isplitl [H3 H4]
    · isplitl [H3] <;> iassumption
    isplitl [H5 H6]
    · isplitl [H5] <;> iassumption
    isplitl [H7] <;> iassumption
  · iexact He
omit [FloatOps F] in
theorem slab_back1 : resL KV Qc OV c [slabIt 0, it 4 8, it 4 9, it 13 8, it 4 14, it 13 9, it 4 15, it 13 14, it 13 15] ⊢ resL KV Qc OV c [fullIt 0] := slab_whole (zc c + 1)
omit [FloatOps F] in
theorem slab_back2 : resL KV Qc OV c [slabIt 1, it 4 10, it 4 11, it 13 10, it 4 16, it 13 11, it 4 17, it 13 16, it 13 17] ⊢ resL KV Qc OV c [fullIt 1] := slab_whole (zc c + 2)
omit [FloatOps F] in
theorem slab_back3 : resL KV Qc OV c [slabIt 2, it 4 12, it 4 13, it 13 12, it 4 18, it 13 13, it 4 19, it 13 18, it 13 19] ⊢ resL KV Qc OV c [fullIt 2] := slab_whole (zc c + 3)

/-! ### The whole buffers -/

theorem wh1 : ∀ (c : Dev nD) (o r : Fin 4) (k : Fin 2), (slP (zc c) o r k && !(fun _ _ _ => true : Fin 4 → Fin 4 → Fin 2 → Bool) o r k) = false := by decide +kernel
theorem wh2 : ∀ (c : Dev nD) (o r : Fin 4) (k : Fin 2), (slP (zc c + 1) o r k && !dif (fun _ _ _ => true) (slP (zc c)) o r k) = false := by decide +kernel
theorem wh3 : ∀ (c : Dev nD) (o r : Fin 4) (k : Fin 2), (slP (zc c + 2) o r k && !dif (dif (fun _ _ _ => true) (slP (zc c))) (slP (zc c + 1)) o r k) = false := by decide +kernel
theorem wh4 : ∀ (c : Dev nD) (o r : Fin 4) (k : Fin 2), dif (dif (dif (fun _ _ _ => true) (slP (zc c))) (slP (zc c + 1))) (slP (zc c + 2)) o r k = slP (zc c + 3) o r k := by decide +kernel

omit [FloatOps F] in
theorem all_split (q : PosShare TreeShare) (f : (cc0_scratch0 : Ref sig .tc).ty.Contents (Elt F)) : kvP (F := F) c (fun _ _ _ => true) q f
    = iprop(kvP c (slP (zc c)) q f ∗ kvP c (slP (zc c + 1)) q f ∗ kvP c (slP (zc c + 2)) q f ∗ kvP c (slP (zc c + 3)) q f) := by
  rw [kvP_peel (wh1 c), kvP_peel (wh2 c), kvP_peel (wh3 c), kvP_same (wh4 c)]

omit [FloatOps F] in
theorem kvP_congr {p : Fin 4 → Fin 4 → Fin 2 → Bool} {q : PosShare TreeShare} {f g : (cc0_scratch0 : Ref sig .tc).ty.Contents (Elt F)}
    (h : ∀ i : S4x4x2x4x256x64.Idx, p (i (0 : Fin 6)) (i (1 : Fin 6)) (i (2 : Fin 6)) = true → f i = g i) : kvP (F := F) c p q f = kvP c p q g := by
  unfold kvP; exact pointsTo_congr fun i hi => h i (mem_R3.mp hi)

theorem ne_slab : ∀ (z : Fin 4), (z + 1 ≠ z ∧ z + 2 ≠ z) ∧ z + 3 ≠ z := by decide

omit [FloatOps F] in
/-- The gathered buffer whole again. -/
theorem all_back : resL KV Qc OV c [(14, 2), fullIt 0, fullIt 1, fullIt 2] ⊢ resL KV Qc OV c [(14, 8)] := by
  show iprop((∃ f, kvP c (slP (zc c)) fullShare f) ∗ kvP c (slP (zc c + 1)) fullShare (G KV) ∗ kvP c (slP (zc c + 2)) fullShare (G KV) ∗ kvP c (slP (zc c + 3)) fullShare (G KV) ∗ emp)
    ⊢ iprop((∃ f, kvP c (fun _ _ _ => true) fullShare f) ∗ emp)
  iintro ⟨⟨%f, H0⟩, H1, H2, H3, He⟩
  isplitr [He]
  · iexists (fun i : S4x4x2x4x256x64.Idx => if slP (zc c) (i (0 : Fin 6)) (i (1 : Fin 6)) (i (2 : Fin 6)) = true then f i else G KV i)
    have e0 := kvP_congr (F := F) (c := c) (p := slP (zc c)) (q := fullShare) (f := fun i : S4x4x2x4x256x64.Idx => if slP (zc c) (i (0 : Fin 6)) (i (1 : Fin 6)) (i (2 : Fin 6)) = true then f i else G KV i) (g := f)
      (fun i hi => if_pos hi)
    have en := fun (s : Fin 4) (hs : s ≠ zc c) => kvP_congr (F := F) (c := c) (p := slP s) (q := fullShare) (f := fun i : S4x4x2x4x256x64.Idx => if slP (zc c) (i (0 : Fin 6)) (i (1 : Fin 6)) (i (2 : Fin 6)) = true then f i else G KV i) (g := G KV)
      (fun i hi => if_neg fun h => hs ((beq_iff_eq.mp hi).symm.trans (beq_iff_eq.mp h)))
    rw [all_split, e0, en _ (ne_slab _).1.1, en _ (ne_slab _).1.2, en _ (ne_slab _).2]
    isplitl [H0]; · iexact H0
    isplitl [H1]; · iexact H1
    isplitl [H2]; · iexact H2
    iexact H3
  · iexact He

omit [FloatOps F] in
theorem own_split (q : PosShare TreeShare) : (sM.view.loc (c : Thread nD τ) ↦[Finset.univ]{q} KV c : sProp 𝕄)
    = iprop((sM.view.loc (c : Thread nD τ) ↦[R1 (me c)]{q} KV c) ∗ (sM.view.loc (c : Thread nD τ) ↦[Finset.univ \ R1 (me c)]{q} KV c)) :=
  Entails.antisymm (pointsTo_split_subset (Finset.subset_univ _)).1 (pointsTo_split_subset (Finset.subset_univ _)).2
omit [FloatOps F] in
theorem own_share (I : Finset S4x2x4x256x64.Idx) (q : PosShare TreeShare) : (sM.view.loc (c : Thread nD τ) ↦[I]{q} KV c : sProp 𝕄)
    = iprop((sM.view.loc (c : Thread nD τ) ↦[I]{q.left} KV c) ∗ (sM.view.loc (c : Thread nD τ) ↦[I]{q.right} KV c)) :=
  Entails.antisymm (pointsTo_share (PosShare.mem_left_op_right q)).1 (pointsTo_share (PosShare.mem_left_op_right q)).2

omit [FloatOps F] in
/-- A device's own block: what is kept for reading, what the three transfers along `z` borrow, and the rest. -/
theorem own_parts : (sM.view.loc (c : Thread nD τ) ↦[Finset.univ]{fullShare} KV c : sProp 𝕄)
    = iprop((sM.view.loc (c : Thread nD τ) ↦[Finset.univ]{(fullShare : PosShare TreeShare).left} KV c)
      ∗ (ownP KV c (me c) (fullShare : PosShare TreeShare).right.left ∗ ownP KV c (me c) (fullShare : PosShare TreeShare).right.right.left ∗ ownP KV c (me c) (fullShare : PosShare TreeShare).right.right.right)
      ∗ (sM.view.loc (c : Thread nD τ) ↦[Finset.univ \ R1 (me c)]{(fullShare : PosShare TreeShare).right} KV c)) := by
  unfold ownP
  rw [own_share _ fullShare, own_split (fullShare : PosShare TreeShare).right, own_share _ (fullShare : PosShare TreeShare).right, own_share _ (fullShare : PosShare TreeShare).right.right]

omit [FloatOps F] in
theorem own_back : resL KV Qc OV c [(14, 1), it 4 5, it 4 6, it 4 7, (14, 3)] ⊢ resL KV Qc OV c [(14, 7)] := by
  show iprop((sM.view.loc (c : Thread nD τ) ↦[Finset.univ]{(fullShare : PosShare TreeShare).left} KV c)
      ∗ ownP KV c (me c) (fullShare : PosShare TreeShare).right.left ∗ ownP KV c (me c) (fullShare : PosShare TreeShare).right.right.left ∗ ownP KV c (me c) (fullShare : PosShare TreeShare).right.right.right
      ∗ (sM.view.loc (c : Thread nD τ) ↦[Finset.univ \ R1 (me c)]{(fullShare : PosShare TreeShare).right} KV c) ∗ emp)
    ⊢ iprop((sM.view.loc (c : Thread nD τ) ↦[Finset.univ]{fullShare} KV c) ∗ emp)
  rw [own_parts]
  iintro ⟨H0, H1, H2, H3, H4, He⟩
  isplitr [He]
  · isplitl [H0]; · iexact H0
    isplitl [H1 H2 H3]
    · isplitl [H1]; · iexact H1
      isplitl [H2] <;> iassumption
    iexact H4
  · iexact He

end Rules

end Cert.MeshAttn

end
-- ==== Proof.Rows.lean ====
/-
What a device loads and what it computes from it, block by block, and the rules for these loads and for storing a finished
head.
-/
module

public import proofs.«01_k».proof.Proof.Pieces

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The online softmax step -/

section Flash

/-- Scaled scores of one head against one block of keys. -/
def sc (q k : FVec F S256x64 .bf16) : FVec F S256x256 .f32 :=
  mulf (matmul dot_S256x64_S256x64_S256x256_1_1_0_0_n_n none q k (constant S256x256 .f32 0x00000000#32)) (broadcast S256x256 (Scalar.ofBits .f32 0x3E000000#32))
/-- The largest score of each row. -/
def iM (q k : FVec F S256x64 .bf16) : FVec F S256x1 .f32 :=
  shapeCast S256x1 (multiReduction .maximumf [1] S256 (sc q k) 0xFF800000#32 reduces_S256x256_S256 (.inl rfl) rfl) shapeCasts_S256_S256x1
/-- The weights of a block relative to the row maximum `m`. -/
def wts (q k : FVec F S256x64 .bf16) (m : FVec F S256x1 .f32) : FVec F S256x256 .f32 :=
  exp (subf (sc q k) (broadcastTo S256x256 m broadcasts_S256x1_S256x256))
/-- The sum of each row of weights. -/
def rsum (p : FVec F S256x256 .f32) : FVec F S256x1 .f32 :=
  shapeCast S256x1 (multiReduction .add [1] S256 p 0x00000000#32 reduces_S256x256_S256 (.inl rfl) rfl) shapeCasts_S256_S256x1
/-- The weighted values of a block. -/
def wv (p : FVec F S256x256 .bf16) (v : FVec F S256x64 .bf16) : FVec F S256x64 .f32 :=
  matmul dot_S256x256_S256x64_S256x64_1_0_0_1_n_n none p v (constant S256x64 .f32 0x00000000#32)
/-- The running maximum after one more block. -/
def nM (m : FVec F S256x1 .f32) (q k : FVec F S256x64 .bf16) : FVec F S256x1 .f32 := maximumf m (iM q k)
/-- The factor by which the running sums shrink. -/
def nAl (m : FVec F S256x1 .f32) (q k : FVec F S256x64 .bf16) : FVec F S256x1 .f32 := exp (subf m (nM m q k))
/-- The running sum of weights after one more block. -/
def nL (m l : FVec F S256x1 .f32) (q k : FVec F S256x64 .bf16) : FVec F S256x1 .f32 :=
  addf (mulf l (nAl m q k)) (rsum (wts q k (nM m q k)))
/-- The running sum of weighted values after one more block. -/
def nA (m : FVec F S256x1 .f32) (a : FVec F S256x64 .f32) (q k v : FVec F S256x64 .bf16) : FVec F S256x64 .f32 :=
  addf (mulf a (broadcastTo S256x64 (nAl m q k) broadcasts_S256x1_S256x64)) (wv (truncf .bf16 (wts q k (nM m q k)) bitsLt_bf16_f32) v)
/-- The weighted mean. -/
def mean (l : FVec F S256x1 .f32) (a : FVec F S256x64 .f32) : FVec F S1x256x64 .f32 :=
  shapeCast S1x256x64 (divf a (broadcastTo S256x64 l broadcasts_S256x1_S256x64)) shapeCasts_S256x64_S1x256x64

end Flash

section Values

variable (KV : (c : Dev nD) → (cc0_stg1_0 : Ref sig .tc).ty.Contents (Elt F))
  (Qc : (c : Dev nD) → (cc0_stg0_0 : Ref sig .tc).ty.Contents (Elt F))

/-- Indices by their coordinates. -/
def iO (i : Fin 16) (r : Fin 256) (d : Fin 64) : S16x256x64.Idx := fun a => match a with | ⟨0, _⟩ => i | ⟨1, _⟩ => r | ⟨2, _⟩ => d
def iR (r : Fin 256) (d : Fin 64) : S1x256x64.Idx := fun a => match a with | ⟨0, _⟩ => (0 : Fin 1) | ⟨1, _⟩ => r | ⟨2, _⟩ => d
def iS (j : Fin 4) (h : Fin 2) (hh : Fin 4) (r : Fin 256) (d : Fin 64) : S4x2x4x256x64.Idx := fun a =>
  match a with | ⟨0, _⟩ => j | ⟨1, _⟩ => h | ⟨2, _⟩ => hh | ⟨3, _⟩ => r | ⟨4, _⟩ => d
def iG (o j : Fin 4) (h : Fin 2) (hh : Fin 4) (r : Fin 256) (d : Fin 64) : S4x4x2x4x256x64.Idx := fun a =>
  match a with | ⟨0, _⟩ => o | ⟨1, _⟩ => j | ⟨2, _⟩ => h | ⟨3, _⟩ => hh | ⟨4, _⟩ => r | ⟨5, _⟩ => d

/-- A head of the queries, as loaded. -/
def qRow (c : Dev nD) (j hh : Fin 4) : S1x256x64.Idx → Elt F .bf16 := fun x =>
  Qc c (iO ⟨4 * j.val + hh.val, by omega⟩ (x (1 : Fin 3)) (x (2 : Fin 3)))
/-- A head of the device's own keys (`h = 0`) or values (`h = 1`), as loaded. -/
def kRow (c : Dev nD) (j : Fin 4) (h : Fin 2) (hh : Fin 4) : S1x1x1x256x64.Idx → Elt F .bf16 := fun x =>
  KV c (iS j h hh (x (3 : Fin 5)) (x (4 : Fin 5)))
/-- A head of the keys or values gathered from the device `k + 1` steps up the `z` axis, as loaded. -/
def gRow (c : Dev nD) (k : Fin 3) (j : Fin 4) (h : Fin 2) (hh : Fin 4) : S1x1x1x1x256x64.Idx → Elt F .bf16 := fun x =>
  G KV (iG (sl c k) j h hh (x (4 : Fin 6)) (x (5 : Fin 6)))

/-- The same, as matrices. -/
def qb (c : Dev nD) (j hh : Fin 4) : FVec F S256x64 .bf16 := shapeCast S256x64 (qRow Qc c j hh) shapeCasts_S1x256x64_S256x64
def kb0 (c : Dev nD) (j : Fin 4) (h : Fin 2) (hh : Fin 4) : FVec F S256x64 .bf16 := shapeCast S256x64 (kRow KV c j h hh) shapeCasts_S1x1x1x256x64_S256x64
def kb (c : Dev nD) (k : Fin 3) (j : Fin 4) (h : Fin 2) (hh : Fin 4) : FVec F S256x64 .bf16 := shapeCast S256x64 (gRow KV c k j h hh) shapeCasts_S1x1x1x1x256x64_S256x64

variable (c : Dev nD) (j hh : Fin 4)

/-- The running maximum, sum and weighted sum of a head after the device's own block. -/
def M0 : FVec F S256x1 .f32 := iM (qb Qc c j hh) (kb0 KV c j 0 hh)
def L0 : FVec F S256x1 .f32 := rsum (wts (qb Qc c j hh) (kb0 KV c j 0 hh) (M0 KV Qc c j hh))
def A0 : FVec F S256x64 .f32 := wv (truncf .bf16 (wts (qb Qc c j hh) (kb0 KV c j 0 hh) (M0 KV Qc c j hh)) bitsLt_bf16_f32) (kb0 KV c j 1 hh)

/-- … after 1 of the blocks gathered along `z`. -/
def M1 : FVec F S256x1 .f32 := nM (M0 KV Qc c j hh) (qb Qc c j hh) (kb KV c 0 j 0 hh)
def L1 : FVec F S256x1 .f32 := nL (M0 KV Qc c j hh) (L0 KV Qc c j hh) (qb Qc c j hh) (kb KV c 0 j 0 hh)
def A1 : FVec F S256x64 .f32 := nA (M0 KV Qc c j hh) (A0 KV Qc c j hh) (qb Qc c j hh) (kb KV c 0 j 0 hh) (kb KV c 0 j 1 hh)

/-- … after 2 of the blocks gathered along `z`. -/
def M2 : FVec F S256x1 .f32 := nM (M1 KV Qc c j hh) (qb Qc c j hh) (kb KV c 1 j 0 hh)
def L2 : FVec F S256x1 .f32 := nL (M1 KV Qc c j hh) (L1 KV Qc c j hh) (qb Qc c j hh) (kb KV c 1 j 0 hh)
def A2 : FVec F S256x64 .f32 := nA (M1 KV Qc c j hh) (A1 KV Qc c j hh) (qb Qc c j hh) (kb KV c 1 j 0 hh) (kb KV c 1 j 1 hh)

/-- … after 3 of the blocks gathered along `z`. -/
def M3 : FVec F S256x1 .f32 := nM (M2 KV Qc c j hh) (qb Qc c j hh) (kb KV c 2 j 0 hh)
def L3 : FVec F S256x1 .f32 := nL (M2 KV Qc c j hh) (L2 KV Qc c j hh) (qb Qc c j hh) (kb KV c 2 j 0 hh)
def A3 : FVec F S256x64 .f32 := nA (M2 KV Qc c j hh) (A2 KV Qc c j hh) (qb Qc c j hh) (kb KV c 2 j 0 hh) (kb KV c 2 j 1 hh)

/-- The finished head, as stored. -/
def oRow : S1x256x64.Idx → Elt F .f32 := mean (L3 KV Qc c j hh) (A3 KV Qc c j hh)
/-- The output of device `c`. -/
def OVal (c : Dev nD) : (cc0_stg2_0 : Ref sig .tc).ty.Contents (Elt F) := fun i =>
  oRow KV Qc c ⟨(show Fin 16 from i (0 : Fin 3)).val / 4, by have h := (show Fin 16 from i (0 : Fin 3)).isLt; omega⟩ ⟨(show Fin 16 from i (0 : Fin 3)).val % 4, Nat.mod_lt _ (by decide)⟩
    (iR (i (1 : Fin 3)) (i (2 : Fin 3)))

end Values

/-! ## Loads and stores -/

section Rules

variable {KV : (c : Dev nD) → (cc0_stg1_0 : Ref sig .tc).ty.Contents (Elt F)}
  {Qc : (c : Dev nD) → (cc0_stg0_0 : Ref sig .tc).ty.Contents (Elt F)}
  {OV : (c : Dev nD) → (cc0_stg2_0 : Ref sig .tc).ty.Contents (Elt F)}
  {K : Dev nD × Fin 41 → ℕ} {c : Dev nD} {α β : Type}

/-- Loading a head of the queries. -/
theorem Steps.loadQ {S S₂ : ℕ} (j hh : Fin 4) {off : Fin 3 → ℕ} {inb : ∀ a, off a + S1x256x64.size a ≤ S16x256x64.size a}
    {hl : qM.view.LoadsAt (Rect.unit (s := S16x256x64) off S1x256x64.size inb).toLoadRect}
    {k : (S1x256x64.Idx → Elt F .bf16) → Prog (TpuEff nD τ sig (Elt F) Λ₀ .tc) β} {w : β} (hoff : off = ![4 * j.val + hh.val, 0, 0]) (hb : S.testBit (code (14, 0)) = true)
    (h₂ : Steps KV Qc OV K c S (k (qRow Qc c j hh)) w S₂) :
    Steps KV Qc OV K c S (Prog.lift (.load qM (Rect.unit (s := S16x256x64) off S1x256x64.size inb).toLoadRect hl) >>= k) w S₂ := by
  refine Steps.load (14, 0) (I := Finset.univ) (q := fullShare) (f := Qc c) hb rfl (Finset.subset_univ _) (qRow Qc c j hh) ?_ h₂
  funext x
  refine congrArg (Qc c) (funext fun a => Fin.ext ?_)
  subst hoff
  show (![_, _, _] : Fin 3 → ℕ) a + 1 * (x a).val = _
  have h0 : (x (0 : Fin 3)).val < 1 := (x (0 : Fin 3)).isLt
  fin_cases a
  · show 4 * j.val + hh.val + 1 * (x (0 : Fin 3)).val = 4 * j.val + hh.val; omega
  · show 0 + 1 * (x (1 : Fin 3)).val = (x (1 : Fin 3)).val; omega
  · show 0 + 1 * (x (2 : Fin 3)).val = (x (2 : Fin 3)).val; omega

/-- Loading a head of the device's own keys or values. -/
theorem Steps.loadOwn {S S₂ : ℕ} (j : Fin 4) (h : Fin 2) (hh : Fin 4) {off : Fin 5 → ℕ} {inb : ∀ a, off a + S1x1x1x256x64.size a ≤ S4x2x4x256x64.size a}
    {hl : sM.view.LoadsAt (Rect.unit (s := S4x2x4x256x64) off S1x1x1x256x64.size inb).toLoadRect}
    {k : (S1x1x1x256x64.Idx → Elt F .bf16) → Prog (TpuEff nD τ sig (Elt F) Λ₀ .tc) β} {w : β} (hoff : off = ![j.val, h.val, hh.val, 0, 0]) (hb : S.testBit (code (14, 1)) = true)
    (h₂ : Steps KV Qc OV K c S (k (kRow KV c j h hh)) w S₂) :
    Steps KV Qc OV K c S (Prog.lift (.load sM (Rect.unit (s := S4x2x4x256x64) off S1x1x1x256x64.size inb).toLoadRect hl) >>= k) w S₂ := by
  refine Steps.load (14, 1) (I := Finset.univ) (q := (fullShare : PosShare TreeShare).left) (f := KV c) hb rfl (Finset.subset_univ _) (kRow KV c j h hh) ?_ h₂
  funext x
  refine congrArg (KV c) (funext fun a => Fin.ext ?_)
  subst hoff
  show (![_, _, _, _, _] : Fin 5 → ℕ) a + 1 * (x a).val = _
  have h0 : (x (0 : Fin 5)).val < 1 := (x (0 : Fin 5)).isLt
  have h1 : (x (1 : Fin 5)).val < 1 := (x (1 : Fin 5)).isLt
  have h2 : (x (2 : Fin 5)).val < 1 := (x (2 : Fin 5)).isLt
  fin_cases a
  · show j.val + 1 * (x (0 : Fin 5)).val = j.val; omega
  · show h.val + 1 * (x (1 : Fin 5)).val = h.val; omega
  · show hh.val + 1 * (x (2 : Fin 5)).val = hh.val; omega
  · show 0 + 1 * (x (3 : Fin 5)).val = (x (3 : Fin 5)).val; omega
  · show 0 + 1 * (x (4 : Fin 5)).val = (x (4 : Fin 5)).val; omega

omit [FloatOps F] in
theorem res_slab (k : Fin 3) : res KV Qc OV c (slabIt k) = (kM.view.loc (c : Thread nD τ) ↦[R3 (slP (sl c k))]{(fullShare : PosShare TreeShare).left} G KV) := by
  fin_cases k <;> rfl

/-- Loading a head of the gathered keys or values. -/
theorem Steps.loadG {S S₂ : ℕ} (s : Fin 3) (j : Fin 4) (h : Fin 2) (hh : Fin 4) {off : Fin 6 → ℕ} {inb : ∀ a, off a + S1x1x1x1x256x64.size a ≤ S4x4x2x4x256x64.size a}
    {hl : kM.view.LoadsAt (Rect.unit (s := S4x4x2x4x256x64) off S1x1x1x1x256x64.size inb).toLoadRect}
    {k : (S1x1x1x1x256x64.Idx → Elt F .bf16) → Prog (TpuEff nD τ sig (Elt F) Λ₀ .tc) β} {w : β} (hoff : off = ![(sl c s).val, j.val, h.val, hh.val, 0, 0]) (hb : S.testBit (code (slabIt s)) = true)
    (h₂ : Steps KV Qc OV K c S (k (gRow KV c s j h hh)) w S₂) :
    Steps KV Qc OV K c S (Prog.lift (.load kM (Rect.unit (s := S4x4x2x4x256x64) off S1x1x1x1x256x64.size inb).toLoadRect hl) >>= k) w S₂ := by
  refine Steps.load (slabIt s) (I := R3 (slP (sl c s))) (q := (fullShare : PosShare TreeShare).left) (f := G KV) hb (res_slab s) ?_ (gRow KV c s j h hh) ?_ h₂
  · intro i hi
    obtain ⟨i', hi', rfl⟩ := Finset.mem_map.mp hi
    have hi' : i' ∈ (Rect.unit (s := S4x4x2x4x256x64) off S1x1x1x1x256x64.size inb).set := by
      simpa using hi'
    have h0 := Rect.mem_set_unit.mp hi' (0 : Fin 6)
    rw [hoff] at h0
    refine mem_R3.mpr ((beq_fin (n := 4) _ _).mpr ?_)
    have h1 : (sl c s).val ≤ (i' (0 : Fin 6)).val ∧ (i' (0 : Fin 6)).val < (sl c s).val + 1 := h0
    show (i' (0 : Fin 6)).val = (sl c s).val
    omega
  · funext x
    refine congrArg (G KV) (funext fun a => Fin.ext ?_)
    subst hoff
    show (![_, _, _, _, _, _] : Fin 6 → ℕ) a + 1 * (x a).val = _
    have h0 : (x (0 : Fin 6)).val < 1 := (x (0 : Fin 6)).isLt
    have h1 : (x (1 : Fin 6)).val < 1 := (x (1 : Fin 6)).isLt
    have h2 : (x (2 : Fin 6)).val < 1 := (x (2 : Fin 6)).isLt
    have h3 : (x (3 : Fin 6)).val < 1 := (x (3 : Fin 6)).isLt
    fin_cases a
    · show (sl c s).val + 1 * (x (0 : Fin 6)).val = (sl c s).val; omega
    · show j.val + 1 * (x (1 : Fin 6)).val = j.val; omega
    · show h.val + 1 * (x (2 : Fin 6)).val = h.val; omega
    · show hh.val + 1 * (x (3 : Fin 6)).val = hh.val; omega
    · show 0 + 1 * (x (4 : Fin 6)).val = (x (4 : Fin 6)).val; omega
    · show 0 + 1 * (x (5 : Fin 6)).val = (x (5 : Fin 6)).val; omega

/-- A finished head is stored; what the row held before does not matter. -/
theorem Steps.row {S S₁ S₂ : ℕ} (j hh : Fin 4) (n : ℕ) (hn : n + 1 < 21) {off : Fin 3 → ℕ} {inb inb' : ∀ a, off a + S1x256x64.size a ≤ S16x256x64.size a}
    {hl : oM.view.LoadsAt (Rect.unit (s := S16x256x64) off S1x256x64.size inb).toLoadRect}
    {hx : (oM.access (Rect.unit (s := S16x256x64) off S1x256x64.size inb')).Stores Finset.univ} {hm : (Finset.univ : Finset S1x256x64.Idx) = Finset.univ ∨ ∀ a, (Rect.unit (s := S16x256x64) off S1x256x64.size inb').stride a = 1}
    {v : S1x256x64.Idx → Elt F .f32} (hv : v = oRow KV Qc c j hh) (hnn : n = 4 * j.val + hh.val) (hoff : off = ![n, 0, 0])
    {f : PUnit → Prog (TpuEff nD τ sig (Elt F) Λ₀ .tc) β} {w : β} (h : tr [(15, ⟨n, by omega⟩)] [(15, ⟨n + 1, hn⟩)] S = some S₁)
    (h₂ : Steps KV Qc (OVal KV Qc) K c S₁ (f ⟨⟩) w S₂) :
    Steps KV Qc (OVal KV Qc) K c S (Prog.lift (.load oM (Rect.unit (s := S16x256x64) off S1x256x64.size inb).toLoadRect hl) >>= fun _ =>
      Prog.lift (.store oM (Rect.unit (s := S16x256x64) off S1x256x64.size inb') v Finset.univ hx hm) >>= f) w S₂ := by
  subst hv hnn hoff
  have ha : ∀ {A B D : Type} (p : Prog (TpuEff nD τ sig (Elt F) Λ₀ .tc) A) (g : A → Prog (TpuEff nD τ sig (Elt F) Λ₀ .tc) B) (g' : B → Prog (TpuEff nD τ sig (Elt F) Λ₀ .tc) D),
      (p >>= fun x => g x >>= g') = ((p >>= g) >>= g') := fun p g g' => (bind_assoc p g g').symm
  rw [ha]
  refine Steps.event h (fun Q => ?_) h₂
  rw [resL, resL, resL, resL]
  have hres : ∀ m : Fin 21, res KV Qc (OVal KV Qc) c (15, m) = iprop(∃ f, ⌜∀ i : S16x256x64.Idx, (i (0 : Fin 3)).val < m.val → f i = OVal KV Qc c i⌝ ∗ (oM.view.loc (c : Thread nD τ) ↦[Finset.univ]{fullShare} f)) := fun m => rfl
  have hw : ∀ f₀ : (cc0_stg2_0 : Ref sig .tc).ty.Contents (Elt F), (∀ i : S16x256x64.Idx, (i (0 : Fin 3)).val < 4 * j.val + hh.val → f₀ i = OVal KV Qc c i) →
      ∀ i : S16x256x64.Idx, (i (0 : Fin 3)).val < 4 * j.val + hh.val + 1 →
        View.write (Elt F) (oM.access (Rect.unit (s := S16x256x64) ![4 * j.val + hh.val, 0, 0] S1x256x64.size inb')) f₀ (oRow KV Qc c j hh) Finset.univ i = OVal KV Qc c i := by
    intro f₀ hf i hi
    have hr : ∀ x : S1x256x64.Idx, ((oM.access (Rect.unit (s := S16x256x64) ![4 * j.val + hh.val, 0, 0] S1x256x64.size inb')).emb x : S16x256x64.Idx)
        = iO ⟨4 * j.val + hh.val, by omega⟩ (x (1 : Fin 3)) (x (2 : Fin 3)) := by
      intro x
      funext a
      refine Fin.ext ?_
      have h0 : (x (0 : Fin 3)).val < 1 := (x (0 : Fin 3)).isLt
      fin_cases a
      · show 4 * j.val + hh.val + 1 * (x (0 : Fin 3)).val = 4 * j.val + hh.val; omega
      · show 0 + 1 * (x (1 : Fin 3)).val = (x (1 : Fin 3)).val; omega
      · show 0 + 1 * (x (2 : Fin 3)).val = (x (2 : Fin 3)).val; omega
    rcases Nat.lt_or_ge (i (0 : Fin 3)).val (4 * j.val + hh.val) with hlt | hge
    · rw [← hf i hlt]
      refine View.write_of_not_mem (v := oM.access (Rect.unit (s := S16x256x64) ![4 * j.val + hh.val, 0, 0] S1x256x64.size inb')) f₀ (oRow KV Qc c j hh) Finset.univ (i := i) ?_
      intro hm
      obtain ⟨x, -, hx'⟩ := Finset.mem_map.mp hm
      have e := (hr x).symm.trans hx'
      have e0 : 4 * j.val + hh.val = (i (0 : Fin 3)).val := congrArg (fun y : S16x256x64.Idx => (y (0 : Fin 3)).val) e
      omega
    · have hi0 : (i (0 : Fin 3)).val = 4 * j.val + hh.val := by omega
      have e : i = (oM.access (Rect.unit (s := S16x256x64) ![4 * j.val + hh.val, 0, 0] S1x256x64.size inb')).emb (iR (i (1 : Fin 3)) (i (2 : Fin 3))) := by
        refine Eq.trans ?_ (hr _).symm
        funext a
        fin_cases a
        · exact Fin.ext hi0
        · rfl
        · rfl
      have hj : (⟨(show Fin 16 from i (0 : Fin 3)).val / 4, by have h := (show Fin 16 from i (0 : Fin 3)).isLt; omega⟩ : Fin 4) = j := Fin.ext (by
        show (i (0 : Fin 3)).val / 4 = j.val; omega)
      have hh' : (⟨(show Fin 16 from i (0 : Fin 3)).val % 4, Nat.mod_lt _ (by decide)⟩ : Fin 4) = hh := Fin.ext (by
        show (i (0 : Fin 3)).val % 4 = hh.val; omega)
      have hO : OVal KV Qc c i = oRow KV Qc c j hh (iR (i (1 : Fin 3)) (i (2 : Fin 3))) := by
        unfold OVal
        rw [hj, hh']
      rw [hO]
      refine (congrArg (View.write (Elt F) (oM.access (Rect.unit (s := S16x256x64) ![4 * j.val + hh.val, 0, 0] S1x256x64.size inb')) f₀ (oRow KV Qc c j hh) Finset.univ) e).trans ?_
      exact View.write_emb_of_mem _ _ (Finset.mem_univ _)
  have t1 : ∀ f₀ : (cc0_stg2_0 : Ref sig .tc).ty.Contents (Elt F), iprop(oM.view.loc (c : Thread nD τ) ↦[Finset.univ]{fullShare} f₀) ⊢
      ((oM.access (Rect.unit (s := S16x256x64) ![4 * j.val + hh.val, 0, 0] S1x256x64.size inb')).loc (c : Thread nD τ) ↦[Finset.univ]{fullShare} f₀ : sProp 𝕄) := fun f₀ => .rfl
  have t2 : ∀ f₀ : (cc0_stg2_0 : Ref sig .tc).ty.Contents (Elt F), ((oM.access (Rect.unit (s := S16x256x64) ![4 * j.val + hh.val, 0, 0] S1x256x64.size inb')).loc (c : Thread nD τ) ↦[Finset.univ]{fullShare} f₀ : sProp 𝕄) ⊢
     iprop(oM.view.loc (c : Thread nD τ) ↦[Finset.univ]{fullShare} f₀) := fun f₀ => .rfl
  rw [hres, hres]
  iintro ⟨-, ⟨⟨%f₀, %hf, H⟩, -⟩⟩ Hk
  have h1 := wp_load (defs := defs₀ (F := F)) (Q := Q) (f := f₀) (q := fullShare) (k := fun _ => Prog.lift (.store oM (Rect.unit (s := S16x256x64) ![4 * j.val + hh.val, 0, 0] S1x256x64.size inb') (oRow KV Qc c j hh) Finset.univ hx hm)) (hl := hl) (Γ := []) 𝒱₀ (c : Thread nD τ) none Set.univ (m := oM)
    (r := (Rect.unit (s := S16x256x64) ![4 * j.val + hh.val, 0, 0] S1x256x64.size inb).toLoadRect) (Finset.subset_univ _)
  have h2 := wp_store (defs := defs₀ (F := F)) (Q := Q) (f := f₀) (k := .ret) (Γ := []) 𝒱₀ (c : Thread nD τ) none Set.univ (m := oM) (w := oRow KV Qc c j hh) (Mk := Finset.univ) (hx := hx) (hm := hm) (S := Finset.univ)
    (r := (Rect.unit (s := S16x256x64) ![4 * j.val + hh.val, 0, 0] S1x256x64.size inb')) (Finset.subset_univ _)
  rw [wp_ret] at h2
  iapply h1 $$ H
  iintro H
  ihave H := t1 f₀ $$ H
  iapply h2 $$ H
  iintro H
  imodintro
  ihave H := t2 _ $$ H
  iapply Hk
  isplitl [H]
  · iexists (View.write (Elt F) (oM.access (Rect.unit (s := S16x256x64) ![4 * j.val + hh.val, 0, 0] S1x256x64.size inb')) f₀ (oRow KV Qc c j hh) Finset.univ : (cc0_stg2_0 : Ref sig .tc).ty.Contents (Elt F))
    isplitr
    · ipureintro
      exact hw f₀ hf
    · iexact H
  · iempintro

end Rules

/-! ## The offsets of the gathered heads -/

theorem off10_eq : ∀ (c : Dev nD) (k : Fin 3), k0_off10 c (kw k) = ![(sl c k).val, 0, 0, 0, 0, 0] := by decide +kernel
theorem off11_eq : ∀ (c : Dev nD) (k : Fin 3), k0_off11 c (kw k) = ![(sl c k).val, 0, 1, 0, 0, 0] := by decide +kernel
theorem off12_eq : ∀ (c : Dev nD) (k : Fin 3), k0_off12 c (kw k) = ![(sl c k).val, 0, 0, 1, 0, 0] := by decide +kernel
theorem off13_eq : ∀ (c : Dev nD) (k : Fin 3), k0_off13 c (kw k) = ![(sl c k).val, 0, 1, 1, 0, 0] := by decide +kernel
theorem off14_eq : ∀ (c : Dev nD) (k : Fin 3), k0_off14 c (kw k) = ![(sl c k).val, 0, 0, 2, 0, 0] := by decide +kernel
theorem off15_eq : ∀ (c : Dev nD) (k : Fin 3), k0_off15 c (kw k) = ![(sl c k).val, 0, 1, 2, 0, 0] := by decide +kernel
theorem off16_eq : ∀ (c : Dev nD) (k : Fin 3), k0_off16 c (kw k) = ![(sl c k).val, 0, 0, 3, 0, 0] := by decide +kernel
theorem off17_eq : ∀ (c : Dev nD) (k : Fin 3), k0_off17 c (kw k) = ![(sl c k).val, 0, 1, 3, 0, 0] := by decide +kernel
theorem off18_eq : ∀ (c : Dev nD) (k : Fin 3), k0_off18 c (kw k) = ![(sl c k).val, 1, 0, 0, 0, 0] := by decide +kernel
theorem off19_eq : ∀ (c : Dev nD) (k : Fin 3), k0_off19 c (kw k) = ![(sl c k).val, 1, 1, 0, 0, 0] := by decide +kernel
theorem off20_eq : ∀ (c : Dev nD) (k : Fin 3), k0_off20 c (kw k) = ![(sl c k).val, 1, 0, 1, 0, 0] := by decide +kernel
theorem off21_eq : ∀ (c : Dev nD) (k : Fin 3), k0_off21 c (kw k) = ![(sl c k).val, 1, 1, 1, 0, 0] := by decide +kernel
theorem off22_eq : ∀ (c : Dev nD) (k : Fin 3), k0_off22 c (kw k) = ![(sl c k).val, 1, 0, 2, 0, 0] := by decide +kernel
theorem off23_eq : ∀ (c : Dev nD) (k : Fin 3), k0_off23 c (kw k) = ![(sl c k).val, 1, 1, 2, 0, 0] := by decide +kernel
theorem off24_eq : ∀ (c : Dev nD) (k : Fin 3), k0_off24 c (kw k) = ![(sl c k).val, 1, 0, 3, 0, 0] := by decide +kernel
theorem off25_eq : ∀ (c : Dev nD) (k : Fin 3), k0_off25 c (kw k) = ![(sl c k).val, 1, 1, 3, 0, 0] := by decide +kernel
theorem off26_eq : ∀ (c : Dev nD) (k : Fin 3), k0_off26 c (kw k) = ![(sl c k).val, 2, 0, 0, 0, 0] := by decide +kernel
theorem off27_eq : ∀ (c : Dev nD) (k : Fin 3), k0_off27 c (kw k) = ![(sl c k).val, 2, 1, 0, 0, 0] := by decide +kernel
theorem off28_eq : ∀ (c : Dev nD) (k : Fin 3), k0_off28 c (kw k) = ![(sl c k).val, 2, 0, 1, 0, 0] := by decide +kernel
theorem off29_eq : ∀ (c : Dev nD) (k : Fin 3), k0_off29 c (kw k) = ![(sl c k).val, 2, 1, 1, 0, 0] := by decide +kernel
theorem off30_eq : ∀ (c : Dev nD) (k : Fin 3), k0_off30 c (kw k) = ![(sl c k).val, 2, 0, 2, 0, 0] := by decide +kernel
theorem off31_eq : ∀ (c : Dev nD) (k : Fin 3), k0_off31 c (kw k) = ![(sl c k).val, 2, 1, 2, 0, 0] := by decide +kernel
theorem off32_eq : ∀ (c : Dev nD) (k : Fin 3), k0_off32 c (kw k) = ![(sl c k).val, 2, 0, 3, 0, 0] := by decide +kernel
theorem off33_eq : ∀ (c : Dev nD) (k : Fin 3), k0_off33 c (kw k) = ![(sl c k).val, 2, 1, 3, 0, 0] := by decide +kernel
theorem off34_eq : ∀ (c : Dev nD) (k : Fin 3), k0_off34 c (kw k) = ![(sl c k).val, 3, 0, 0, 0, 0] := by decide +kernel
theorem off35_eq : ∀ (c : Dev nD) (k : Fin 3), k0_off35 c (kw k) = ![(sl c k).val, 3, 1, 0, 0, 0] := by decide +kernel
theorem off36_eq : ∀ (c : Dev nD) (k : Fin 3), k0_off36 c (kw k) = ![(sl c k).val, 3, 0, 1, 0, 0] := by decide +kernel
theorem off37_eq : ∀ (c : Dev nD) (k : Fin 3), k0_off37 c (kw k) = ![(sl c k).val, 3, 1, 1, 0, 0] := by decide +kernel
theorem off38_eq : ∀ (c : Dev nD) (k : Fin 3), k0_off38 c (kw k) = ![(sl c k).val, 3, 0, 2, 0, 0] := by decide +kernel
theorem off39_eq : ∀ (c : Dev nD) (k : Fin 3), k0_off39 c (kw k) = ![(sl c k).val, 3, 1, 2, 0, 0] := by decide +kernel
theorem off40_eq : ∀ (c : Dev nD) (k : Fin 3), k0_off40 c (kw k) = ![(sl c k).val, 3, 0, 3, 0, 0] := by decide +kernel
theorem off41_eq : ∀ (c : Dev nD) (k : Fin 3), k0_off41 c (kw k) = ![(sl c k).val, 3, 1, 3, 0, 0] := by decide +kernel

end Cert.MeshAttn

end
-- ==== Proof.Parts0.lean ====
/-
Where the first transfers land.
-/
module

public import proofs.«01_k».proof.Proof.Rows

@[expose] public section

noncomputable section

namespace Cert.MeshAttn

open Cert.KernelIdeal Cert.KernelIdeal.Gen

open Idealize.ShloMosaic
open Idealize.ShloMosaic.TcCoe

/-- A transfer along `z` lands where its receiver expects it: the sender's slab. -/
theorem gotZ : ∀ (c : Dev nD) (e : Fin 20), 5 ≤ e.val ∧ e.val < 8 → ∀ (o r : Fin 4) (h : Fin 2), gotP (evT c e) e o r h = (o == zc c && r == me c) := by
  decide +kernel

theorem credit_k {r : Rect S4x4x2x4x256x64} {hst : ∀ a, r.stride a = 1} {s : Shape} {hsq : r.shape.Squeezes s} :
    ((kM.slice r hst).squeeze s hsq).view.dmaCredit = sig.dmaCredit .tc (Kind.tc.table .vmem) (cc0_scratch0 : Ref sig .tc).idx s .bf16 := rfl
theorem credit_s {r : Rect S4x2x4x256x64} {hst : ∀ a, r.stride a = 1} {s : Shape} {hsq : r.shape.Squeezes s} :
    ((sM.slice r hst).squeeze s hsq).view.dmaCredit = sig.dmaCredit .tc (Kind.tc.table .vmem) (cc0_stg1_0 : Ref sig .tc).idx s .bf16 := rfl
/-- A piece's bytes are credited alike in both buffers. -/
theorem credit_sk : sig.dmaCredit .tc (Kind.tc.table .vmem) (cc0_stg1_0 : Ref sig .tc).idx S2x4x256x64 .bf16
    = sig.dmaCredit .tc (Kind.tc.table .vmem) (cc0_scratch0 : Ref sig .tc).idx S2x4x256x64 .bf16 := rfl

/-- The credit of a whole piece and of half a piece, by transfer. -/
theorem amtR2 (e : Fin 20) (h : 5 ≤ e.val ∧ e.val < 14) : amt (evR e) = sig.dmaCredit .tc (Kind.tc.table .vmem) (cc0_scratch0 : Ref sig .tc).idx S2x4x256x64 .bf16 := by
  have h0 : ∀ e : Fin 20, 5 ≤ e.val ∧ e.val < 14 → evR e ≠ 0 ∧ ¬ 25 ≤ (evR e).val := by decide
  unfold amt; rw [if_neg (h0 e h).1, if_neg (h0 e h).2]
theorem amtS2 (e : Fin 20) (h : 5 ≤ e.val ∧ e.val < 14) : amt (evS e) = sig.dmaCredit .tc (Kind.tc.table .vmem) (cc0_scratch0 : Ref sig .tc).idx S2x4x256x64 .bf16 := by
  have h0 : ∀ e : Fin 20, 5 ≤ e.val ∧ e.val < 14 → evS e ≠ 0 ∧ ¬ 25 ≤ (evS e).val := by decide
  unfold amt; rw [if_neg (h0 e h).1, if_neg (h0 e h).2]
theorem amtR1 (e : Fin 20) (h : 14 ≤ e.val) : amt (evR e) = sig.dmaCredit .tc (Kind.tc.table .vmem) (cc0_scratch0 : Ref sig .tc).idx S4x256x64 .bf16 := by
  have h0 : ∀ e : Fin 20, 14 ≤ e.val → evR e ≠ 0 ∧ 25 ≤ (evR e).val := by decide
  unfold amt; rw [if_neg (h0 e h).1, if_pos (h0 e h).2]
theorem amtS1 (e : Fin 20) (h : 14 ≤ e.val) : amt (evS e) = sig.dmaCredit .tc (Kind.tc.table .vmem) (cc0_scratch0 : Ref sig .tc).idx S4x256x64 .bf16 := by
  have h0 : ∀ e : Fin 20, 14 ≤ e.val → evS e ≠ 0 ∧ 25 ≤ (evS e).val := by decide
  unfold amt; rw [if_neg (h0 e h).1, if_pos (h0 e h).2]

section
variable {r : Rect S4x4x2x4x256x64} {hst : ∀ a, r.stride a = 1}
theorem cR2 (e : Fin 20) (h : 5 ≤ e.val ∧ e.val < 14) {hsq : r.shape.Squeezes S2x4x256x64} : ((kM.slice r hst).squeeze S2x4x256x64 hsq).view.dmaCredit = amt (evR e) :=
  credit_k.trans (amtR2 e h).symm
theorem cR1 (e : Fin 20) (h : 14 ≤ e.val) {hsq : r.shape.Squeezes S4x256x64} : ((kM.slice r hst).squeeze S4x256x64 hsq).view.dmaCredit = amt (evR e) :=
  credit_k.trans (amtR1 e h).symm
theorem cS2 (e : Fin 20) (h : 5 ≤ e.val ∧ e.val < 14) {hsq : r.shape.Squeezes S2x4x256x64} : ((kM.slice r hst).squeeze S2x4x256x64 hsq).view.dmaCredit = amt (evS e) :=
  credit_k.trans (amtS2 e h).symm
theorem cS1 (e : Fin 20) (h : 14 ≤ e.val) {hsq : r.shape.Squeezes S4x256x64} : ((kM.slice r hst).squeeze S4x256x64 hsq).view.dmaCredit = amt (evS e) :=
  credit_k.trans (amtS1 e h).symm
theorem cS0 (e : Fin 20) (h : 5 ≤ e.val ∧ e.val < 14) {r : Rect S4x2x4x256x64} {hst : ∀ a, r.stride a = 1} {hsq : r.shape.Squeezes S2x4x256x64} :
    ((sM.slice r hst).squeeze S2x4x256x64 hsq).view.dmaCredit = amt (evS e) := credit_s.trans (credit_sk.trans (amtS2 e h).symm)
theorem amtSR (e : Fin 20) : amt (evS e) = amt (evR e) ∨ e.val < 5 := by
  by_cases h : e.val < 5
  · exact .inr h
  · by_cases h' : e.val < 14
    · exact .inl ((amtS2 e ⟨by omega, h'⟩).trans (amtR2 e ⟨by omega, h'⟩).symm)
    · exact .inl ((amtS1 e (by omega)).trans (amtR1 e (by omega)).symm)
theorem aSR (e : Fin 20) (h : ¬ e.val < 5) : amt (evS e) = amt (evR e) := (amtSR e).resolve_right h
end

end Cert.MeshAttn

end
-- ==== Proof.Parts1.lean ====
/-
The opening handshake, the transfers along the mesh, and the device's own block: each stretch of the body
run from the resources it meets to those it leaves.
-/
module

public import proofs.«01_k».proof.Proof.Parts0

@[expose] public section

noncomputable section

namespace Cert.MeshAttn

open Cert.KernelIdeal Cert.KernelIdeal.Gen

open Idealize.ShloMosaic
open Idealize.ShloMosaic.TcCoe
open Idealize.SL Idealize.SL.RA Idealize.SL.BI

variable {F : FTy → Type} [FloatOps F]
variable {KV : (c : Dev nD) → (cc0_stg1_0 : Ref sig .tc).ty.Contents (Elt F)}
  {Qc : (c : Dev nD) → (cc0_stg0_0 : Ref sig .tc).ty.Contents (Elt F)}
  {K : Dev nD × Fin 41 → ℕ} {c : Dev nD}

theorem part1_run : ∃ v2' v5' v8' v17' v18' v29' v31' c4_i32_20' : BitVec 32, Steps KV Qc (OVal KV Qc) K c 0x80003c00000000000000000000000000fffe07fff0800001fffc2000e00000fbfff81ffffe00001 (k0_part1 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10) ⟨c, v2', v5', v8', v17', v18', (SemArray.scalar (sig.barrier 0 rfl)), v29', v31', c4_i32_20'⟩ 0x80003c00000000000000000000000000fffe07fff0800001fffc2000e00000f3fff81ffffc00002 := by
  have hb : (SemArray.scalar (sig.barrier 0 rfl) : Sems sig S_).sem = barrier0 := rfl
  apply Exists.intro; apply Exists.intro; apply Exists.intro; apply Exists.intro; apply Exists.intro; apply Exists.intro; apply Exists.intro; apply Exists.intro
  rw [k0_part1_eq_skeleton (F := F)]; unfold k0_part1_skel
  refine Steps.deviceId ?_
  refine Steps.signal 0 (by decide) (dev1_eq c) hb (S₁ := 0x80003c00000000000000000000000000fffe07fff0800001fffc2000e00000f3fff81ffffc00002) (by decide +kernel) ?_
  exact Steps.pure _ _

theorem part2_run (v2 v5 v8 v17 v18 v29 v31 c4_i32_20 : BitVec 32) : ∃ v57' v59' c4_i32_44' : BitVec 32, Steps KV Qc (OVal KV Qc) K c 0x80003c00000000000000000000000000fffe07fff0800001fffc2000e00000f3fff81ffffc00002 (k0_part2 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18 (SemArray.scalar (sig.barrier 0 rfl)) v29 v31 c4_i32_20) ⟨v57', v59', c4_i32_44'⟩ 0x80003c00000000000000000000000002fffe07fff0000001fffc0000e07fff03fff81fffc000020 := by
  have hb : (SemArray.scalar (sig.barrier 0 rfl) : Sems sig S_).sem = barrier0 := rfl
  apply Exists.intro; apply Exists.intro; apply Exists.intro
  rw [k0_part2_eq_skeleton (F := F)]; unfold k0_part2_skel
  refine Steps.signal 1 (by decide) (dev2_eq c) hb (S₁ := 0x80003c00000000000000000000000000fffe07fff0800001fffc2000e00000e3fff81ffff800004) (by decide +kernel) ?_
  refine Steps.signal 2 (by decide) (dev3_eq c) hb (S₁ := 0x80003c00000000000000000000000000fffe07fff0800001fffc2000e00000c3fff81ffff000008) (by decide +kernel) ?_
  refine Steps.signal 3 (by decide) (dev4_eq c) hb (S₁ := 0x80003c00000000000000000000000000fffe07fff0800001fffc2000e0000083fff81fffe000010) (by decide +kernel) ?_
  refine Steps.signal 4 (by decide) (dev5_eq c) hb (S₁ := 0x80003c00000000000000000000000000fffe07fff0800001fffc2000e0000003fff81fffc000020) (by decide +kernel) ?_
  refine Steps.barWait hb (S₁ := 0x80003c00000000000000000000000002fffe07fff0000001fffc0000e07fff03fff81fffc000020) (by decide +kernel) ?_
  exact Steps.pure _ _

theorem part3_run (v2 v5 v8 v57 v59 c4_i32_44 : BitVec 32) : ∃ v89' : BitVec 32, Steps KV Qc (OVal KV Qc) K c 0x80003c00000000000000000000000002fffe07fff0000001fffc0000e07fff03fff81fffc000020 (k0_part3 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v57 v59 c4_i32_44) v89' 0x80003c00000000000000000000000002fffe07fff0000181fffc0000807ffc03ffe01fff0000080 := by
  refine ⟨(Scalar.remsi (Scalar.addi v8 3#32) 4#32), ?_⟩
  rw [k0_part3_eq_skeleton (F := F)]; unfold k0_part3_skel
  refine Steps.sendZ 5 (by decide) (dev6_eq c) (by rfl) (by rfl) (by exact cR2 5 (by decide)) (aSR 5 (by decide)) (gotZ c 5 (by decide)) (S₁ := 0x80003c00000000000000000000000002fffe07fff0000081fffc0000c07ffe03fff01fff8000040) (by decide +kernel) ?_
  refine Steps.sendZ 6 (by decide) (dev7_eq c) (by rfl) (by rfl) (by exact cR2 6 (by decide)) (aSR 6 (by decide)) (gotZ c 6 (by decide)) (S₁ := 0x80003c00000000000000000000000002fffe07fff0000181fffc0000807ffc03ffe01fff0000080) (by decide +kernel) ?_
  exact Steps.pure _ _

theorem part4_run (v2 v5 v8 v89 : BitVec 32) : Steps KV Qc (OVal KV Qc) K c 0x80003c00000000000000000000000002fffe07fff0000181fffc0000807ffc03ffe01fff0000080 (k0_part4 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v89) ⟨⟩ 0x80003c00000000800000000000000102fffe07ffb0000381ffec0003007ff803ffc01ffe0000100 := by
  rw [k0_part4_eq_skeleton (F := F)]; unfold k0_part4_skel
  refine Steps.sendZ 7 (by decide) (dev8_eq c) (by rfl) (by rfl) (by exact cR2 7 (by decide)) (aSR 7 (by decide)) (gotZ c 7 (by decide)) (S₁ := 0x80003c00000000000000000000000002fffe07fff0000381fffc0000007ff803ffc01ffe0000100) (by decide +kernel) ?_
  refine Steps.recvWait 7 (by decide) 8 (by decide) (by rfl) (cR2 7 (by decide)) (by decide) (S₁ := 0x80003c00000000000004000000000102fffe07ffb0000381ffec0000007ff803ffc01ffe0000100) (by decide +kernel) ?_
  refine Steps.ghost (S₁ := 0x80003c00000000800000000000000102fffe07ffb0000381ffec0003007ff803ffc01ffe0000100) (by decide +kernel) gz7 ?_
  exact Steps.pure _ _

theorem part5_run (v2 v5 v8 v17 v18 : BitVec 32) : ∃ v146' c4_i32_131' : BitVec 32, Steps KV Qc (OVal KV Qc) K c 0x80003c00000000800000000000000102fffe07ffb0000381ffec0003007ff803ffc01ffe0000100 (k0_part5 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18) ⟨v146', c4_i32_131'⟩ 0x80003c00000000800000000000000102fffe07ffb0000f81ffec0000007fe003ff001ff80000400 := by
  apply Exists.intro; apply Exists.intro
  rw [k0_part5_eq_skeleton (F := F)]; unfold k0_part5_skel
  refine Steps.fwd 8 (by decide) (dev9_eq c) (by rfl) (by rfl) (by exact cR2 8 (by decide)) (aSR 8 (by decide)) (piece_set (off3_eq c 0) _) (S₁ := 0x80003c00000000800000000000000102fffe07ffb0000781ffec0002007ff003ff801ffc0000200) (by decide +kernel) ?_
  refine Steps.fwd 9 (by decide) (dev10_eq c) (by rfl) (by rfl) (by exact cR2 9 (by decide)) (aSR 9 (by decide)) (piece_set (off3_eq c 0) _) (S₁ := 0x80003c00000000800000000000000102fffe07ffb0000f81ffec0000007fe003ff001ff80000400) (by decide +kernel) ?_
  exact Steps.pure _ _

theorem part6_run (v2 v5 v8 v17 v146 c4_i32_131 : BitVec 32) : ∃ c8_i32_162' : BitVec 32, Steps KV Qc (OVal KV Qc) K c 0x80003c00000000800000000000000102fffe07ffb0000f81ffec0000007fe003ff001ff80000400 (k0_part6 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v146 c4_i32_131) c8_i32_162' 0x80003c00000000c00000000000000182fffe07ff90001f81ffe40008007fc003fe001ff00000800 := by
  refine ⟨8#32, ?_⟩
  rw [k0_part6_eq_skeleton (F := F)]; unfold k0_part6_skel
  refine Steps.recvWait 6 (by decide) 10 (by decide) (by rfl) (cR2 6 (by decide)) (by decide) (S₁ := 0x80003c00000000800002000000000182fffe07ff90000f81ffe40000007fe003ff001ff80000400) (by decide +kernel) ?_
  refine Steps.ghost (S₁ := 0x80003c00000000c00000000000000182fffe07ff90000f81ffe4000c007fe003ff001ff80000400) (by decide +kernel) gz6 ?_
  refine Steps.fwd 10 (by decide) (dev11_eq c) (by rfl) (by rfl) (by exact cR2 10 (by decide)) (aSR 10 (by decide)) (piece_set (off3_eq c 1) _) (S₁ := 0x80003c00000000c00000000000000182fffe07ff90001f81ffe40008007fc003fe001ff00000800) (by decide +kernel) ?_
  exact Steps.pure _ _

theorem part7_run (v2 v5 v8 v18 c8_i32_162 : BitVec 32) : ∃ c8_i32_192' : BitVec 32, Steps KV Qc (OVal KV Qc) K c 0x80003c00000000c00000000000000182fffe07ff90001f81ffe40008007fc003fe001ff00000800 (k0_part7 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v18 c8_i32_162) c8_i32_192' 0x80003c00000000e000000000000001c2fffe07ff80003f81ffe00030007f8003fc001fe00001000 := by
  refine ⟨8#32, ?_⟩
  rw [k0_part7_eq_skeleton (F := F)]; unfold k0_part7_skel
  refine Steps.fwd 11 (by decide) (dev12_eq c) (by rfl) (by rfl) (by exact cR2 11 (by decide)) (aSR 11 (by decide)) (piece_set (off3_eq c 1) _) (S₁ := 0x80003c00000000c00000000000000182fffe07ff90003f81ffe40000007f8003fc001fe00001000) (by decide +kernel) ?_
  refine Steps.recvWait 5 (by decide) 12 (by decide) (by rfl) (cR2 5 (by decide)) (by decide) (S₁ := 0x80003c00000000c000010000000001c2fffe07ff80003f81ffe00000007f8003fc001fe00001000) (by decide +kernel) ?_
  refine Steps.ghost (S₁ := 0x80003c00000000e000000000000001c2fffe07ff80003f81ffe00030007f8003fc001fe00001000) (by decide +kernel) gz5 ?_
  exact Steps.pure _ _

theorem part8_run (v2 v5 v8 v17 v18 c8_i32_192 : BitVec 32) : Steps KV Qc (OVal KV Qc) K c 0x80003c00000000e000000000000001c2fffe07ff80003f81ffe00030007f8003fc001fe00001000 (k0_part8 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18 c8_i32_192) ⟨⟩ 0x80003c00000000e000000000000001c2fffe07ff8000ff81ffe00000007e0003f0001f800004000 := by
  rw [k0_part8_eq_skeleton (F := F)]; unfold k0_part8_skel
  refine Steps.fwd 12 (by decide) (dev13_eq c) (by rfl) (by rfl) (by exact cR2 12 (by decide)) (aSR 12 (by decide)) (piece_set (off3_eq c 2) _) (S₁ := 0x80003c00000000e000000000000001c2fffe07ff80007f81ffe00020007f0003f8001fc00002000) (by decide +kernel) ?_
  refine Steps.fwd 13 (by decide) (dev14_eq c) (by rfl) (by rfl) (by exact cR2 13 (by decide)) (aSR 13 (by decide)) (piece_set (off3_eq c 2) _) (S₁ := 0x80003c00000000e000000000000001c2fffe07ff8000ff81ffe00000007e0003f0001f800004000) (by decide +kernel) ?_
  exact Steps.pure _ _

theorem part9_run (v2 v5 v8 v17 v18 : BitVec 32) : ∃ v258' c0_i32_251' : BitVec 32, Steps KV Qc (OVal KV Qc) K c 0x80003c00000000e000000000000001c2fffe07ff8000ff81ffe00000007e0003f0001f800004000 (k0_part9 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18) ⟨v258', c0_i32_251'⟩ 0x80003c00200001e000000000000003c2fffe07ff0001ff81ffc00000007c0003e0001f000008000 := by
  apply Exists.intro; apply Exists.intro
  rw [k0_part9_eq_skeleton (F := F)]; unfold k0_part9_skel
  refine Steps.recvWait 8 (by decide) 14 (by decide) (by rfl) (cR2 8 (by decide)) (by decide) (S₁ := 0x80003c00000000e000080000000003c2fffe07ff0000ff81ffc00000007e0003f0001f800004000) (by decide +kernel) ?_
  refine Steps.ghost (S₁ := 0x80003c00200001e000000000000003c2fffe07ff0000ff81ffc00040007e0003f0001f800004000) (by decide +kernel) gx8 ?_
  refine Steps.fwd 14 (by decide) (dev15_eq c) (by rfl) (by rfl) (by exact cR1 14 (by decide)) (aSR 14 (by decide)) (half_set (b := 1) (off5_eq c 0) _) (S₁ := 0x80003c00200001e000000000000003c2fffe07ff0001ff81ffc00000007c0003e0001f000008000) (by decide +kernel) ?_
  exact Steps.pure _ _

theorem part10_run (v5 v8 v17 v18 v258 c0_i32_251 : BitVec 32) : Steps KV Qc (OVal KV Qc) K c 0x80003c00200001e000000000000003c2fffe07ff0001ff81ffc00000007c0003e0001f000008000 (k0_part10 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17 v18 v258 c0_i32_251) (qb Qc c 0 0) 0x80003c00600003e000000000000007c2fffe07fe0003ff81ff80000000780003c0001e000010000 := by
  rw [k0_part10_eq_skeleton (F := F)]; unfold k0_part10_skel
  refine Steps.recvWait 9 (by decide) 15 (by decide) (by rfl) (cR2 9 (by decide)) (by decide) (S₁ := 0x80003c00200001e000100000000007c2fffe07fe0001ff81ff800000007c0003e0001f000008000) (by decide +kernel) ?_
  refine Steps.ghost (S₁ := 0x80003c00600003e000000000000007c2fffe07fe0001ff81ff800080007c0003e0001f000008000) (by decide +kernel) gx9 ?_
  refine Steps.fwd 15 (by decide) (dev16_eq c) (by rfl) (by rfl) (by exact cR1 15 (by decide)) (aSR 15 (by decide)) (half_set (b := 0) (off7_eq c 0) _) (S₁ := 0x80003c00600003e000000000000007c2fffe07fe0003ff81ff80000000780003c0001e000010000) (by decide +kernel) ?_
  refine Steps.loadQ 0 0 rfl (by decide +kernel) ?_
  exact Steps.pure _ _

theorem part11_run : Steps KV Qc (OVal KV Qc) K c 0x80003c00600003e000000000000007c2fffe07fe0003ff81ff80000000780003c0001e000010000 (k0_part11 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (qb Qc c 0 0)) ⟨(M0 KV Qc c 0 0), (L0 KV Qc c 0 0), (A0 KV Qc c 0 0), (kb0 KV c 0 1 1), (M0 KV Qc c 0 1), (wts (qb Qc c 0 1) (kb0 KV c 0 0 1) (M0 KV Qc c 0 1)), (L0 KV Qc c 0 1)⟩ 0x80003c00600003e000000000000007c2fffe07fe0003ff81ff80000000780003c0001e000010000 := by
  rw [k0_part11_eq_skeleton (F := F)]; unfold k0_part11_skel
  refine Steps.loadOwn 0 0 0 rfl (by decide +kernel) ?_
  refine Steps.loadOwn 0 1 0 rfl (by decide +kernel) ?_
  refine Steps.loadQ 0 1 rfl (by decide +kernel) ?_
  refine Steps.loadOwn 0 0 1 rfl (by decide +kernel) ?_
  refine Steps.loadOwn 0 1 1 rfl (by decide +kernel) ?_
  exact Steps.pure _ _

theorem part12_run : Steps KV Qc (OVal KV Qc) K c 0x80003c00600003e000000000000007c2fffe07fe0003ff81ff80000000780003c0001e000010000 (k0_part12 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (kb0 KV c 0 1 1) (wts (qb Qc c 0 1) (kb0 KV c 0 0 1) (M0 KV Qc c 0 1))) ⟨(A0 KV Qc c 0 1), (M0 KV Qc c 0 2), (L0 KV Qc c 0 2), (A0 KV Qc c 0 2), (kb0 KV c 0 1 3), (matmul dot_S256x64_S256x64_S256x256_1_1_0_0_n_n none (qb Qc c 0 3) (kb0 KV c 0 0 3) (constant S256x256 .f32 0x00000000#32))⟩ 0x80003c00600003e000000000000007c2fffe07fe0003ff81ff80000000780003c0001e000010000 := by
  rw [k0_part12_eq_skeleton (F := F)]; unfold k0_part12_skel
  refine Steps.loadQ 0 2 rfl (by decide +kernel) ?_
  refine Steps.loadOwn 0 0 2 rfl (by decide +kernel) ?_
  refine Steps.loadOwn 0 1 2 rfl (by decide +kernel) ?_
  refine Steps.loadQ 0 3 rfl (by decide +kernel) ?_
  refine Steps.loadOwn 0 0 3 rfl (by decide +kernel) ?_
  refine Steps.loadOwn 0 1 3 rfl (by decide +kernel) ?_
  exact Steps.pure _ _

theorem part13_run (v2 v5 v8 v17 v18 : BitVec 32) : Steps KV Qc (OVal KV Qc) K c 0x80003c00600003e000000000000007c2fffe07fe0003ff81ff80000000780003c0001e000010000 (k0_part13 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18 (kb0 KV c 0 1 3) (matmul dot_S256x64_S256x64_S256x256_1_1_0_0_n_n none (qb Qc c 0 3) (kb0 KV c 0 0 3) (constant S256x256 .f32 0x00000000#32))) ⟨(M0 KV Qc c 0 3), (L0 KV Qc c 0 3), (A0 KV Qc c 0 3)⟩ 0x80003c00e00007e00000000000000fc2fffe07fc0003ff81ff00010000780003c0001e000010000 := by
  rw [k0_part13_eq_skeleton (F := F)]; unfold k0_part13_skel
  refine Steps.recvWait 10 (by decide) 16 (by decide) (by rfl) (cR2 10 (by decide)) (by decide) (S₁ := 0x80003c00600003e00020000000000fc2fffe07fc0003ff81ff00000000780003c0001e000010000) (by decide +kernel) ?_
  refine Steps.ghost (S₁ := 0x80003c00e00007e00000000000000fc2fffe07fc0003ff81ff00010000780003c0001e000010000) (by decide +kernel) gx10 ?_
  exact Steps.pure _ _

theorem part14_run (v2 v5 v8 v17 v18 : BitVec 32) : Steps KV Qc (OVal KV Qc) K c 0x80003c00e00007e00000000000000fc2fffe07fc0003ff81ff00010000780003c0001e000010000 (k0_part14 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v5 v8 v17 v18) ⟨⟩ 0x80003c01e0000fe00000000000001fc2fffe07f80007ff81fe0002000070000380001c000020000 := by
  rw [k0_part14_eq_skeleton (F := F)]; unfold k0_part14_skel
  refine Steps.fwd 16 (by decide) (dev17_eq c) (by rfl) (by rfl) (by exact cR1 16 (by decide)) (aSR 16 (by decide)) (half_set (b := 1) (off5_eq c 1) _) (S₁ := 0x80003c00e00007e00000000000000fc2fffe07fc0007ff81ff0000000070000380001c000020000) (by decide +kernel) ?_
  refine Steps.recvWait 11 (by decide) 17 (by decide) (by rfl) (cR2 11 (by decide)) (by decide) (S₁ := 0x80003c00e00007e00040000000001fc2fffe07f80007ff81fe0000000070000380001c000020000) (by decide +kernel) ?_
  refine Steps.ghost (S₁ := 0x80003c01e0000fe00000000000001fc2fffe07f80007ff81fe0002000070000380001c000020000) (by decide +kernel) gx11 ?_
  exact Steps.pure _ _

theorem part15_run : Steps KV Qc (OVal KV Qc) K c 0x80003c01e0000fe00000000000001fc2fffe07f80007ff81fe0002000070000380001c000020000 (k0_part15 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c) ⟨(M0 KV Qc c 1 0), (L0 KV Qc c 1 0), (A0 KV Qc c 1 0), (qb Qc c 1 1), (kb0 KV c 1 0 1)⟩ 0x80003c01e0000fe00000000000001fc2fffe07f8000fff81fe00000000600003000018000040000 := by
  rw [k0_part15_eq_skeleton (F := F)]; unfold k0_part15_skel
  refine Steps.fwd 17 (by decide) (dev18_eq c) (by rfl) (by rfl) (by exact cR1 17 (by decide)) (aSR 17 (by decide)) (half_set (b := 0) (off7_eq c 1) _) (S₁ := 0x80003c01e0000fe00000000000001fc2fffe07f8000fff81fe00000000600003000018000040000) (by decide +kernel) ?_
  refine Steps.loadQ 1 0 rfl (by decide +kernel) ?_
  refine Steps.loadOwn 1 0 0 rfl (by decide +kernel) ?_
  refine Steps.loadOwn 1 1 0 rfl (by decide +kernel) ?_
  refine Steps.loadQ 1 1 rfl (by decide +kernel) ?_
  refine Steps.loadOwn 1 0 1 rfl (by decide +kernel) ?_
  exact Steps.pure _ _

theorem part16_run : Steps KV Qc (OVal KV Qc) K c 0x80003c01e0000fe00000000000001fc2fffe07f8000fff81fe00000000600003000018000040000 (k0_part16 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (qb Qc c 1 1) (kb0 KV c 1 0 1)) ⟨(M0 KV Qc c 1 1), (L0 KV Qc c 1 1), (A0 KV Qc c 1 1), (M0 KV Qc c 1 2), (L0 KV Qc c 1 2), (A0 KV Qc c 1 2)⟩ 0x80003c01e0000fe00000000000001fc2fffe07f8000fff81fe00000000600003000018000040000 := by
  rw [k0_part16_eq_skeleton (F := F)]; unfold k0_part16_skel
  refine Steps.loadOwn 1 1 1 rfl (by decide +kernel) ?_
  refine Steps.loadQ 1 2 rfl (by decide +kernel) ?_
  refine Steps.loadOwn 1 0 2 rfl (by decide +kernel) ?_
  refine Steps.loadOwn 1 1 2 rfl (by decide +kernel) ?_
  exact Steps.pure _ _

theorem part17_run (v5 v8 v17 : BitVec 32) : Steps KV Qc (OVal KV Qc) K c 0x80003c01e0000fe00000000000001fc2fffe07f8000fff81fe00000000600003000018000040000 (k0_part17 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17) ⟨(M0 KV Qc c 1 3), (L0 KV Qc c 1 3), (A0 KV Qc c 1 3)⟩ 0x80003c01e0000fe00000000000001fc2fffe07f8000fff81fe00000000600003000018000040000 := by
  rw [k0_part17_eq_skeleton (F := F)]; unfold k0_part17_skel
  refine Steps.loadQ 1 3 rfl (by decide +kernel) ?_
  refine Steps.loadOwn 1 0 3 rfl (by decide +kernel) ?_
  refine Steps.loadOwn 1 1 3 rfl (by decide +kernel) ?_
  exact Steps.pure _ _

theorem part18_run (v2 v8 v18 : BitVec 32) : Steps KV Qc (OVal KV Qc) K c 0x80003c01e0000fe00000000000001fc2fffe07f8000fff81fe00000000600003000018000040000 (k0_part18 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v2 v8 v18) ⟨⟩ 0x80003c03e0001fe00000000000003fc2fffe07f0001fff81fc00000000400002000010000080000 := by
  rw [k0_part18_eq_skeleton (F := F)]; unfold k0_part18_skel
  refine Steps.recvWait 12 (by decide) 18 (by decide) (by rfl) (cR2 12 (by decide)) (by decide) (S₁ := 0x80003c01e0000fe00080000000003fc2fffe07f0000fff81fc00000000600003000018000040000) (by decide +kernel) ?_
  refine Steps.ghost (S₁ := 0x80003c03e0001fe00000000000003fc2fffe07f0000fff81fc00040000600003000018000040000) (by decide +kernel) gx12 ?_
  refine Steps.fwd 18 (by decide) (dev19_eq c) (by rfl) (by rfl) (by exact cR1 18 (by decide)) (aSR 18 (by decide)) (half_set (b := 1) (off5_eq c 2) _) (S₁ := 0x80003c03e0001fe00000000000003fc2fffe07f0001fff81fc00000000400002000010000080000) (by decide +kernel) ?_
  exact Steps.pure _ _

theorem part19_run (v5 v8 v17 : BitVec 32) : Steps KV Qc (OVal KV Qc) K c 0x80003c03e0001fe00000000000003fc2fffe07f0001fff81fc00000000400002000010000080000 (k0_part19 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17) ⟨(kb0 KV c 2 1 0), (M0 KV Qc c 2 0), (subf (sc (qb Qc c 2 0) (kb0 KV c 2 0 0)) (broadcastTo S256x256 (M0 KV Qc c 2 0) broadcasts_S256x1_S256x256))⟩ 0x80003c07e0003fe00000000000007fc2fffe07e0003fff81f800000000000000000000000100000 := by
  rw [k0_part19_eq_skeleton (F := F)]; unfold k0_part19_skel
  refine Steps.recvWait 13 (by decide) 19 (by decide) (by rfl) (cR2 13 (by decide)) (by decide) (S₁ := 0x80003c03e0001fe00100000000007fc2fffe07e0001fff81f800000000400002000010000080000) (by decide +kernel) ?_
  refine Steps.ghost (S₁ := 0x80003c07e0003fe00000000000007fc2fffe07e0001fff81f800080000400002000010000080000) (by decide +kernel) gx13 ?_
  refine Steps.fwd 19 (by decide) (dev20_eq c) (by rfl) (by rfl) (by exact cR1 19 (by decide)) (aSR 19 (by decide)) (half_set (b := 0) (off7_eq c 2) _) (S₁ := 0x80003c07e0003fe00000000000007fc2fffe07e0003fff81f800000000000000000000000100000) (by decide +kernel) ?_
  refine Steps.loadQ 2 0 rfl (by decide +kernel) ?_
  refine Steps.loadOwn 2 0 0 rfl (by decide +kernel) ?_
  refine Steps.loadOwn 2 1 0 rfl (by decide +kernel) ?_
  exact Steps.pure _ _

theorem part20_run : Steps KV Qc (OVal KV Qc) K c 0x80003c07e0003fe00000000000007fc2fffe07e0003fff81f800000000000000000000000100000 (k0_part20 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (kb0 KV c 2 1 0) (subf (sc (qb Qc c 2 0) (kb0 KV c 2 0 0)) (broadcastTo S256x256 (M0 KV Qc c 2 0) broadcasts_S256x1_S256x256))) ⟨(L0 KV Qc c 2 0), (A0 KV Qc c 2 0), (M0 KV Qc c 2 1), (L0 KV Qc c 2 1), (A0 KV Qc c 2 1), (qb Qc c 2 2), (kb0 KV c 2 0 2)⟩ 0x80003c07e0003fe00000000000007fc2fffe07e0003fff81f800000000000000000000000100000 := by
  rw [k0_part20_eq_skeleton (F := F)]; unfold k0_part20_skel
  refine Steps.loadQ 2 1 rfl (by decide +kernel) ?_
  refine Steps.loadOwn 2 0 1 rfl (by decide +kernel) ?_
  refine Steps.loadOwn 2 1 1 rfl (by decide +kernel) ?_
  refine Steps.loadQ 2 2 rfl (by decide +kernel) ?_
  refine Steps.loadOwn 2 0 2 rfl (by decide +kernel) ?_
  exact Steps.pure _ _

theorem part21_run : Steps KV Qc (OVal KV Qc) K c 0x80003c07e0003fe00000000000007fc2fffe07e0003fff81f800000000000000000000000100000 (k0_part21 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (qb Qc c 2 2) (kb0 KV c 2 0 2)) ⟨(M0 KV Qc c 2 2), (L0 KV Qc c 2 2), (A0 KV Qc c 2 2), (M0 KV Qc c 2 3), (L0 KV Qc c 2 3), (A0 KV Qc c 2 3), (qb Qc c 3 0)⟩ 0x80003c07e0003fe00000000000007fc2fffe07e0003fff81f800000000000000000000000100000 := by
  rw [k0_part21_eq_skeleton (F := F)]; unfold k0_part21_skel
  refine Steps.loadOwn 2 1 2 rfl (by decide +kernel) ?_
  refine Steps.loadQ 2 3 rfl (by decide +kernel) ?_
  refine Steps.loadOwn 2 0 3 rfl (by decide +kernel) ?_
  refine Steps.loadOwn 2 1 3 rfl (by decide +kernel) ?_
  refine Steps.loadQ 3 0 rfl (by decide +kernel) ?_
  exact Steps.pure _ _

theorem part22_run : Steps KV Qc (OVal KV Qc) K c 0x80003c07e0003fe00000000000007fc2fffe07e0003fff81f800000000000000000000000100000 (k0_part22 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (qb Qc c 3 0)) ⟨(M0 KV Qc c 3 0), (L0 KV Qc c 3 0), (A0 KV Qc c 3 0), (kb0 KV c 3 1 1), (M0 KV Qc c 3 1), (subf (sc (qb Qc c 3 1) (kb0 KV c 3 0 1)) (broadcastTo S256x256 (M0 KV Qc c 3 1) broadcasts_S256x1_S256x256))⟩ 0x80003c07e0003fe00000000000007fc2fffe07e0003fff81f800000000000000000000000100000 := by
  rw [k0_part22_eq_skeleton (F := F)]; unfold k0_part22_skel
  refine Steps.loadOwn 3 0 0 rfl (by decide +kernel) ?_
  refine Steps.loadOwn 3 1 0 rfl (by decide +kernel) ?_
  refine Steps.loadQ 3 1 rfl (by decide +kernel) ?_
  refine Steps.loadOwn 3 0 1 rfl (by decide +kernel) ?_
  refine Steps.loadOwn 3 1 1 rfl (by decide +kernel) ?_
  exact Steps.pure _ _

theorem part23_run : Steps KV Qc (OVal KV Qc) K c 0x80003c07e0003fe00000000000007fc2fffe07e0003fff81f800000000000000000000000100000 (k0_part23 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (kb0 KV c 3 1 1) (subf (sc (qb Qc c 3 1) (kb0 KV c 3 0 1)) (broadcastTo S256x256 (M0 KV Qc c 3 1) broadcasts_S256x1_S256x256))) ⟨(L0 KV Qc c 3 1), (A0 KV Qc c 3 1), (M0 KV Qc c 3 2), (L0 KV Qc c 3 2), (A0 KV Qc c 3 2), (qb Qc c 3 3), (kb0 KV c 3 0 3)⟩ 0x80003c07e0003fe00000000000007fc2fffe07e0003fff81f800000000000000000000000100000 := by
  rw [k0_part23_eq_skeleton (F := F)]; unfold k0_part23_skel
  refine Steps.loadQ 3 2 rfl (by decide +kernel) ?_
  refine Steps.loadOwn 3 0 2 rfl (by decide +kernel) ?_
  refine Steps.loadOwn 3 1 2 rfl (by decide +kernel) ?_
  refine Steps.loadQ 3 3 rfl (by decide +kernel) ?_
  refine Steps.loadOwn 3 0 3 rfl (by decide +kernel) ?_
  exact Steps.pure _ _

theorem part24_run (v5 v8 v17 : BitVec 32) : ∃ v681' v695' v696' : BitVec 32, Steps KV Qc (OVal KV Qc) K c 0x80003c07e0003fe00000000000007fc2fffe07e0003fff81f800000000000000000000000100000 (k0_part24 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17 (qb Qc c 3 3) (kb0 KV c 3 0 3)) ⟨(M0 KV Qc c 3 3), (L0 KV Qc c 3 3), (A0 KV Qc c 3 3), v681', v695', v696'⟩ 0x80003c17e000bfe00000000000017fc2fffe07a0003fff81e800000000000000000000000100000 := by
  apply Exists.intro; apply Exists.intro; apply Exists.intro
  rw [k0_part24_eq_skeleton (F := F)]; unfold k0_part24_skel
  refine Steps.loadOwn 3 1 3 rfl (by decide +kernel) ?_
  refine Steps.recvWait 15 (by decide) 20 (by decide) (by rfl) (cR1 15 (by decide)) (by decide) (S₁ := 0x80003c07e0003fe00400000000017fc2fffe07a0003fff81e800000000000000000000000100000) (by decide +kernel) ?_
  refine Steps.ghost (S₁ := 0x80003c17e000bfe00000000000017fc2fffe07a0003fff81e800000000000000000000000100000) (by decide +kernel) (gh 15 (by decide)) ?_
  exact Steps.pure _ _

end Cert.MeshAttn

end
-- ==== Proof.Parts2.lean ====
/-
The first gathered block, and the second up to the middle.
-/
module

public import proofs.«01_k».proof.Proof.Parts0

@[expose] public section

noncomputable section

namespace Cert.MeshAttn

open Cert.KernelIdeal Cert.KernelIdeal.Gen

open Idealize.ShloMosaic
open Idealize.ShloMosaic.TcCoe
open Idealize.SL Idealize.SL.RA Idealize.SL.BI

variable {F : FTy → Type} [FloatOps F]
variable {KV : (c : Dev nD) → (cc0_stg1_0 : Ref sig .tc).ty.Contents (Elt F)}
  {Qc : (c : Dev nD) → (cc0_stg0_0 : Ref sig .tc).ty.Contents (Elt F)}
  {K : Dev nD × Fin 41 → ℕ} {c : Dev nD}

theorem part25_run (v8 v681 v695 v696 : BitVec 32) : Steps KV Qc (OVal KV Qc) K c 0x80003c17e000bfe00000000000017fc2fffe07a0003fff81e800000000000000000000000100000 (k0_part25 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v8 (M0 KV Qc c 0 0) (L0 KV Qc c 0 0) (A0 KV Qc c 0 0) v681 v695 v696) ⟨(kb KV c 0 0 1 0), (M1 KV Qc c 0 0), (L1 KV Qc c 0 0), (mulf (A0 KV Qc c 0 0) (broadcastTo S256x64 (nAl (M0 KV Qc c 0 0) (qb Qc c 0 0) (kb KV c 0 0 0 0)) broadcasts_S256x1_S256x64)), (truncf .bf16 (wts (qb Qc c 0 0) (kb KV c 0 0 0 0) (M1 KV Qc c 0 0)) bitsLt_bf16_f32)⟩ 0x80007c1fe0003c60000000000001ffc2fffe0780003fff81e000000000000000000000000100000 := by
  rw [k0_part25_eq_skeleton (F := F)]; unfold k0_part25_skel
  refine Steps.recvWait 14 (by decide) 20 (by decide) (by rfl) (cR1 14 (by decide)) (by decide) (S₁ := 0x80003c17e000bfe0020000000001ffc2fffe0780003fff81e000000000000000000000000100000) (by decide +kernel) ?_
  refine Steps.ghost (S₁ := 0x80003c1fe000ffe0000000000001ffc2fffe0780003fff81e000000000000000000000000100000) (by decide +kernel) (gh 14 (by decide)) ?_
  refine Steps.ghost (S₁ := 0x80007c1fe0003c60000000000001ffc2fffe0780003fff81e000000000000000000000000100000) (by decide +kernel) slab_join1 ?_
  refine Steps.loadQ 0 0 rfl (by decide +kernel) ?_
  refine Steps.loadG 0 0 0 0 (off10_eq c 0) (by decide +kernel) ?_
  refine Steps.loadG 0 0 1 0 (off11_eq c 0) (by decide +kernel) ?_
  exact Steps.pure _ _

theorem part26_run (v681 : BitVec 32) : Steps KV Qc (OVal KV Qc) K c 0x80007c1fe0003c60000000000001ffc2fffe0780003fff81e000000000000000000000000100000 (k0_part26 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 0 1) (L0 KV Qc c 0 1) (A0 KV Qc c 0 1) v681 (kb KV c 0 0 1 0) (mulf (A0 KV Qc c 0 0) (broadcastTo S256x64 (nAl (M0 KV Qc c 0 0) (qb Qc c 0 0) (kb KV c 0 0 0 0)) broadcasts_S256x1_S256x64)) (truncf .bf16 (wts (qb Qc c 0 0) (kb KV c 0 0 0 0) (M1 KV Qc c 0 0)) bitsLt_bf16_f32)) ⟨(A1 KV Qc c 0 0), (M1 KV Qc c 0 1), (L1 KV Qc c 0 1), (A1 KV Qc c 0 1), (qb Qc c 0 2)⟩ 0x80007c1fe0003c60000000000001ffc2fffe0780003fff81e000000000000000000000000100000 := by
  rw [k0_part26_eq_skeleton (F := F)]; unfold k0_part26_skel
  refine Steps.loadQ 0 1 rfl (by decide +kernel) ?_
  refine Steps.loadG 0 0 0 1 (off12_eq c 0) (by decide +kernel) ?_
  refine Steps.loadG 0 0 1 1 (off13_eq c 0) (by decide +kernel) ?_
  refine Steps.loadQ 0 2 rfl (by decide +kernel) ?_
  exact Steps.pure _ _

theorem part27_run (v681 : BitVec 32) : Steps KV Qc (OVal KV Qc) K c 0x80007c1fe0003c60000000000001ffc2fffe0780003fff81e000000000000000000000000100000 (k0_part27 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 0 2) (L0 KV Qc c 0 2) (A0 KV Qc c 0 2) v681 (qb Qc c 0 2)) ⟨(M1 KV Qc c 0 2), (L1 KV Qc c 0 2), (A1 KV Qc c 0 2), (kb KV c 0 0 1 3), (matmul dot_S256x64_S256x64_S256x256_1_1_0_0_n_n none (qb Qc c 0 3) (kb KV c 0 0 0 3) (constant S256x256 .f32 0x00000000#32)), (broadcast S256x256 (Scalar.ofBits .f32 0x3E000000#32))⟩ 0x80007c1fe0003c60000000000001ffc2fffe0780003fff81e000000000000000000000000100000 := by
  rw [k0_part27_eq_skeleton (F := F)]; unfold k0_part27_skel
  refine Steps.loadG 0 0 0 2 (off14_eq c 0) (by decide +kernel) ?_
  refine Steps.loadG 0 0 1 2 (off15_eq c 0) (by decide +kernel) ?_
  refine Steps.loadQ 0 3 rfl (by decide +kernel) ?_
  refine Steps.loadG 0 0 0 3 (off16_eq c 0) (by decide +kernel) ?_
  refine Steps.loadG 0 0 1 3 (off17_eq c 0) (by decide +kernel) ?_
  exact Steps.pure _ _

theorem part28_run (v681 : BitVec 32) : Steps KV Qc (OVal KV Qc) K c 0x80007c1fe0003c60000000000001ffc2fffe0780003fff81e000000000000000000000000100000 (k0_part28 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 0 3) (L0 KV Qc c 0 3) (A0 KV Qc c 0 3) (M0 KV Qc c 1 0) (L0 KV Qc c 1 0) v681 (kb KV c 0 0 1 3) (matmul dot_S256x64_S256x64_S256x256_1_1_0_0_n_n none (qb Qc c 0 3) (kb KV c 0 0 0 3) (constant S256x256 .f32 0x00000000#32)) (broadcast S256x256 (Scalar.ofBits .f32 0x3E000000#32))) ⟨(M1 KV Qc c 0 3), (L1 KV Qc c 0 3), (A1 KV Qc c 0 3), (kb KV c 0 1 1 0), (M1 KV Qc c 1 0), (nAl (M0 KV Qc c 1 0) (qb Qc c 1 0) (kb KV c 0 1 0 0)), (wts (qb Qc c 1 0) (kb KV c 0 1 0 0) (M1 KV Qc c 1 0)), (mulf (L0 KV Qc c 1 0) (nAl (M0 KV Qc c 1 0) (qb Qc c 1 0) (kb KV c 0 1 0 0))), (rsum (wts (qb Qc c 1 0) (kb KV c 0 1 0 0) (M1 KV Qc c 1 0)))⟩ 0x80007c1fe0003c60000000000001ffc2fffe0780003fff81e000000000000000000000000100000 := by
  rw [k0_part28_eq_skeleton (F := F)]; unfold k0_part28_skel
  refine Steps.loadQ 1 0 rfl (by decide +kernel) ?_
  refine Steps.loadG 0 1 0 0 (off18_eq c 0) (by decide +kernel) ?_
  refine Steps.loadG 0 1 1 0 (off19_eq c 0) (by decide +kernel) ?_
  exact Steps.pure _ _

theorem part29_run (v681 : BitVec 32) : Steps KV Qc (OVal KV Qc) K c 0x80007c1fe0003c60000000000001ffc2fffe0780003fff81e000000000000000000000000100000 (k0_part29 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (A0 KV Qc c 1 0) (M0 KV Qc c 1 1) (L0 KV Qc c 1 1) (A0 KV Qc c 1 1) v681 (kb KV c 0 1 1 0) (nAl (M0 KV Qc c 1 0) (qb Qc c 1 0) (kb KV c 0 1 0 0)) (wts (qb Qc c 1 0) (kb KV c 0 1 0 0) (M1 KV Qc c 1 0)) (mulf (L0 KV Qc c 1 0) (nAl (M0 KV Qc c 1 0) (qb Qc c 1 0) (kb KV c 0 1 0 0))) (rsum (wts (qb Qc c 1 0) (kb KV c 0 1 0 0) (M1 KV Qc c 1 0)))) ⟨(L1 KV Qc c 1 0), (A1 KV Qc c 1 0), (M1 KV Qc c 1 1), (L1 KV Qc c 1 1), (A1 KV Qc c 1 1), (qb Qc c 1 2)⟩ 0x80007c1fe0003c60000000000001ffc2fffe0780003fff81e000000000000000000000000100000 := by
  rw [k0_part29_eq_skeleton (F := F)]; unfold k0_part29_skel
  refine Steps.loadQ 1 1 rfl (by decide +kernel) ?_
  refine Steps.loadG 0 1 0 1 (off20_eq c 0) (by decide +kernel) ?_
  refine Steps.loadG 0 1 1 1 (off21_eq c 0) (by decide +kernel) ?_
  refine Steps.loadQ 1 2 rfl (by decide +kernel) ?_
  exact Steps.pure _ _

theorem part30_run (v681 : BitVec 32) : Steps KV Qc (OVal KV Qc) K c 0x80007c1fe0003c60000000000001ffc2fffe0780003fff81e000000000000000000000000100000 (k0_part30 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 1 2) (L0 KV Qc c 1 2) (A0 KV Qc c 1 2) v681 (qb Qc c 1 2)) ⟨(M1 KV Qc c 1 2), (L1 KV Qc c 1 2), (A1 KV Qc c 1 2), (qb Qc c 1 3), (kb KV c 0 1 0 3), (kb KV c 0 1 1 3)⟩ 0x80007c1fe0003c60000000000001ffc2fffe0780003fff81e000000000000000000000000100000 := by
  rw [k0_part30_eq_skeleton (F := F)]; unfold k0_part30_skel
  refine Steps.loadG 0 1 0 2 (off22_eq c 0) (by decide +kernel) ?_
  refine Steps.loadG 0 1 1 2 (off23_eq c 0) (by decide +kernel) ?_
  refine Steps.loadQ 1 3 rfl (by decide +kernel) ?_
  refine Steps.loadG 0 1 0 3 (off24_eq c 0) (by decide +kernel) ?_
  refine Steps.loadG 0 1 1 3 (off25_eq c 0) (by decide +kernel) ?_
  exact Steps.pure _ _

theorem part31_run (v681 : BitVec 32) : Steps KV Qc (OVal KV Qc) K c 0x80007c1fe0003c60000000000001ffc2fffe0780003fff81e000000000000000000000000100000 (k0_part31 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 1 3) (L0 KV Qc c 1 3) (A0 KV Qc c 1 3) (M0 KV Qc c 2 0) v681 (qb Qc c 1 3) (kb KV c 0 1 0 3) (kb KV c 0 1 1 3)) ⟨(M1 KV Qc c 1 3), (L1 KV Qc c 1 3), (A1 KV Qc c 1 3), (kb KV c 0 2 1 0), (M1 KV Qc c 2 0), (nAl (M0 KV Qc c 2 0) (qb Qc c 2 0) (kb KV c 0 2 0 0)), (wts (qb Qc c 2 0) (kb KV c 0 2 0 0) (M1 KV Qc c 2 0))⟩ 0x80007c1fe0003c60000000000001ffc2fffe0780003fff81e000000000000000000000000100000 := by
  rw [k0_part31_eq_skeleton (F := F)]; unfold k0_part31_skel
  refine Steps.loadQ 2 0 rfl (by decide +kernel) ?_
  refine Steps.loadG 0 2 0 0 (off26_eq c 0) (by decide +kernel) ?_
  refine Steps.loadG 0 2 1 0 (off27_eq c 0) (by decide +kernel) ?_
  exact Steps.pure _ _

theorem part32_run (v681 : BitVec 32) : Steps KV Qc (OVal KV Qc) K c 0x80007c1fe0003c60000000000001ffc2fffe0780003fff81e000000000000000000000000100000 (k0_part32 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L0 KV Qc c 2 0) (A0 KV Qc c 2 0) (M0 KV Qc c 2 1) (L0 KV Qc c 2 1) (A0 KV Qc c 2 1) v681 (kb KV c 0 2 1 0) (nAl (M0 KV Qc c 2 0) (qb Qc c 2 0) (kb KV c 0 2 0 0)) (wts (qb Qc c 2 0) (kb KV c 0 2 0 0) (M1 KV Qc c 2 0))) ⟨(L1 KV Qc c 2 0), (A1 KV Qc c 2 0), (M1 KV Qc c 2 1), (L1 KV Qc c 2 1), (A1 KV Qc c 2 1)⟩ 0x80007c1fe0003c60000000000001ffc2fffe0780003fff81e000000000000000000000000100000 := by
  rw [k0_part32_eq_skeleton (F := F)]; unfold k0_part32_skel
  refine Steps.loadQ 2 1 rfl (by decide +kernel) ?_
  refine Steps.loadG 0 2 0 1 (off28_eq c 0) (by decide +kernel) ?_
  refine Steps.loadG 0 2 1 1 (off29_eq c 0) (by decide +kernel) ?_
  exact Steps.pure _ _

theorem part33_run (v681 : BitVec 32) : Steps KV Qc (OVal KV Qc) K c 0x80007c1fe0003c60000000000001ffc2fffe0780003fff81e000000000000000000000000100000 (k0_part33 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 2 2) (L0 KV Qc c 2 2) (A0 KV Qc c 2 2) v681) ⟨(M1 KV Qc c 2 2), (L1 KV Qc c 2 2), (A1 KV Qc c 2 2), (qb Qc c 2 3), (kb KV c 0 2 0 3)⟩ 0x80007c1fe0003c60000000000001ffc2fffe0780003fff81e000000000000000000000000100000 := by
  rw [k0_part33_eq_skeleton (F := F)]; unfold k0_part33_skel
  refine Steps.loadQ 2 2 rfl (by decide +kernel) ?_
  refine Steps.loadG 0 2 0 2 (off30_eq c 0) (by decide +kernel) ?_
  refine Steps.loadG 0 2 1 2 (off31_eq c 0) (by decide +kernel) ?_
  refine Steps.loadQ 2 3 rfl (by decide +kernel) ?_
  refine Steps.loadG 0 2 0 3 (off32_eq c 0) (by decide +kernel) ?_
  exact Steps.pure _ _

theorem part34_run (v681 : BitVec 32) : Steps KV Qc (OVal KV Qc) K c 0x80007c1fe0003c60000000000001ffc2fffe0780003fff81e000000000000000000000000100000 (k0_part34 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 2 3) (L0 KV Qc c 2 3) (A0 KV Qc c 2 3) (M0 KV Qc c 3 0) v681 (qb Qc c 2 3) (kb KV c 0 2 0 3)) ⟨(M1 KV Qc c 2 3), (L1 KV Qc c 2 3), (A1 KV Qc c 2 3), (kb KV c 0 3 1 0), (sc (qb Qc c 3 0) (kb KV c 0 3 0 0)), (M1 KV Qc c 3 0), (subf (M0 KV Qc c 3 0) (M1 KV Qc c 3 0))⟩ 0x80007c1fe0003c60000000000001ffc2fffe0780003fff81e000000000000000000000000100000 := by
  rw [k0_part34_eq_skeleton (F := F)]; unfold k0_part34_skel
  refine Steps.loadG 0 2 1 3 (off33_eq c 0) (by decide +kernel) ?_
  refine Steps.loadQ 3 0 rfl (by decide +kernel) ?_
  refine Steps.loadG 0 3 0 0 (off34_eq c 0) (by decide +kernel) ?_
  refine Steps.loadG 0 3 1 0 (off35_eq c 0) (by decide +kernel) ?_
  exact Steps.pure _ _

theorem part35_run (v681 : BitVec 32) : Steps KV Qc (OVal KV Qc) K c 0x80007c1fe0003c60000000000001ffc2fffe0780003fff81e000000000000000000000000100000 (k0_part35 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L0 KV Qc c 3 0) (A0 KV Qc c 3 0) (M0 KV Qc c 3 1) (L0 KV Qc c 3 1) (A0 KV Qc c 3 1) v681 (kb KV c 0 3 1 0) (sc (qb Qc c 3 0) (kb KV c 0 3 0 0)) (M1 KV Qc c 3 0) (subf (M0 KV Qc c 3 0) (M1 KV Qc c 3 0))) ⟨(L1 KV Qc c 3 0), (A1 KV Qc c 3 0), (M1 KV Qc c 3 1), (L1 KV Qc c 3 1), (mulf (A0 KV Qc c 3 1) (broadcastTo S256x64 (nAl (M0 KV Qc c 3 1) (qb Qc c 3 1) (kb KV c 0 3 0 1)) broadcasts_S256x1_S256x64)), (wv (truncf .bf16 (wts (qb Qc c 3 1) (kb KV c 0 3 0 1) (M1 KV Qc c 3 1)) bitsLt_bf16_f32) (kb KV c 0 3 1 1))⟩ 0x80007c1fe0003c60000000000001ffc2fffe0780003fff81e000000000000000000000000100000 := by
  rw [k0_part35_eq_skeleton (F := F)]; unfold k0_part35_skel
  refine Steps.loadQ 3 1 rfl (by decide +kernel) ?_
  refine Steps.loadG 0 3 0 1 (off36_eq c 0) (by decide +kernel) ?_
  refine Steps.loadG 0 3 1 1 (off37_eq c 0) (by decide +kernel) ?_
  exact Steps.pure _ _

theorem part36_run (v681 : BitVec 32) : Steps KV Qc (OVal KV Qc) K c 0x80007c1fe0003c60000000000001ffc2fffe0780003fff81e000000000000000000000000100000 (k0_part36 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M0 KV Qc c 3 2) (L0 KV Qc c 3 2) (A0 KV Qc c 3 2) v681 (mulf (A0 KV Qc c 3 1) (broadcastTo S256x64 (nAl (M0 KV Qc c 3 1) (qb Qc c 3 1) (kb KV c 0 3 0 1)) broadcasts_S256x1_S256x64)) (wv (truncf .bf16 (wts (qb Qc c 3 1) (kb KV c 0 3 0 1) (M1 KV Qc c 3 1)) bitsLt_bf16_f32) (kb KV c 0 3 1 1))) ⟨(A1 KV Qc c 3 1), (M1 KV Qc c 3 2), (L1 KV Qc c 3 2), (A1 KV Qc c 3 2), (qb Qc c 3 3), (kb KV c 0 3 0 3)⟩ 0x80007c1fe0003c60000000000001ffc2fffe0780003fff81e000000000000000000000000100000 := by
  rw [k0_part36_eq_skeleton (F := F)]; unfold k0_part36_skel
  refine Steps.loadQ 3 2 rfl (by decide +kernel) ?_
  refine Steps.loadG 0 3 0 2 (off38_eq c 0) (by decide +kernel) ?_
  refine Steps.loadG 0 3 1 2 (off39_eq c 0) (by decide +kernel) ?_
  refine Steps.loadQ 3 3 rfl (by decide +kernel) ?_
  refine Steps.loadG 0 3 0 3 (off40_eq c 0) (by decide +kernel) ?_
  exact Steps.pure _ _

theorem part37_run (v5 v8 v17 v681 : BitVec 32) : ∃ v1155' : BitVec 32, Steps KV Qc (OVal KV Qc) K c 0x80007c1fe0003c60000000000001ffc2fffe0780003fff81e000000000000000000000000100000 (k0_part37 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17 (M0 KV Qc c 3 3) (L0 KV Qc c 3 3) (A0 KV Qc c 3 3) v681 (qb Qc c 3 3) (kb KV c 0 3 0 3)) ⟨(M1 KV Qc c 3 3), (L1 KV Qc c 3 3), (A1 KV Qc c 3 3), v1155'⟩ 0x80007c1fe0003c60000000000001ffc2fffe0780003fff81e000000000000000000000000100000 := by
  apply Exists.intro
  rw [k0_part37_eq_skeleton (F := F)]; unfold k0_part37_skel
  refine Steps.loadG 0 3 1 3 (off41_eq c 0) (by decide +kernel) ?_
  exact Steps.pure _ _

theorem part38_run (v5 v8 v17 v1155 : BitVec 32) : Steps KV Qc (OVal KV Qc) K c 0x80007c1fe0003c60000000000001ffc2fffe0780003fff81e000000000000000000000000100000 (k0_part38 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17 v1155) ⟨(kb KV c 1 0 1 0), (sc (qb Qc c 0 0) (kb KV c 1 0 0 0)), (iM (qb Qc c 0 0) (kb KV c 1 0 0 0))⟩ 0x8000fc7fe0003020000000000007ffc2fffe0600003fff818000000000000000000000000100000 := by
  rw [k0_part38_eq_skeleton (F := F)]; unfold k0_part38_skel
  refine Steps.recvWait 17 (by decide) 20 (by decide) (by rfl) (cR1 17 (by decide)) (by decide) (S₁ := 0x80007c1fe0003c60100000000005ffc2fffe0680003fff81a000000000000000000000000100000) (by decide +kernel) ?_
  refine Steps.ghost (S₁ := 0x80007c5fe0023c60000000000005ffc2fffe0680003fff81a000000000000000000000000100000) (by decide +kernel) (gh 17 (by decide)) ?_
  refine Steps.recvWait 16 (by decide) 20 (by decide) (by rfl) (cR1 16 (by decide)) (by decide) (S₁ := 0x80007c5fe0023c60080000000007ffc2fffe0600003fff818000000000000000000000000100000) (by decide +kernel) ?_
  refine Steps.ghost (S₁ := 0x80007c7fe0033c60000000000007ffc2fffe0600003fff818000000000000000000000000100000) (by decide +kernel) (gh 16 (by decide)) ?_
  refine Steps.ghost (S₁ := 0x8000fc7fe0003020000000000007ffc2fffe0600003fff818000000000000000000000000100000) (by decide +kernel) slab_join2 ?_
  refine Steps.loadQ 0 0 rfl (by decide +kernel) ?_
  refine Steps.loadG 1 0 0 0 (off10_eq c 1) (by decide +kernel) ?_
  refine Steps.loadG 1 0 1 0 (off11_eq c 1) (by decide +kernel) ?_
  exact Steps.pure _ _

end Cert.MeshAttn

end
-- ==== Proof.Parts3.lean ====
/-
The second gathered block.
-/
module

public import proofs.«01_k».proof.Proof.Parts0

@[expose] public section

noncomputable section

namespace Cert.MeshAttn

open Cert.KernelIdeal Cert.KernelIdeal.Gen

open Idealize.ShloMosaic
open Idealize.ShloMosaic.TcCoe
open Idealize.SL Idealize.SL.RA Idealize.SL.BI

variable {F : FTy → Type} [FloatOps F]
variable {KV : (c : Dev nD) → (cc0_stg1_0 : Ref sig .tc).ty.Contents (Elt F)}
  {Qc : (c : Dev nD) → (cc0_stg0_0 : Ref sig .tc).ty.Contents (Elt F)}
  {K : Dev nD × Fin 41 → ℕ} {c : Dev nD}

theorem part39_run (v1155 : BitVec 32) : Steps KV Qc (OVal KV Qc) K c 0x8000fc7fe0003020000000000007ffc2fffe0600003fff818000000000000000000000000100000 (k0_part39 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 0 0) (L1 KV Qc c 0 0) (A1 KV Qc c 0 0) (M1 KV Qc c 0 1) (L1 KV Qc c 0 1) (A1 KV Qc c 0 1) v1155 (kb KV c 1 0 1 0) (sc (qb Qc c 0 0) (kb KV c 1 0 0 0)) (iM (qb Qc c 0 0) (kb KV c 1 0 0 0))) ⟨(M2 KV Qc c 0 0), (L2 KV Qc c 0 0), (A2 KV Qc c 0 0), (kb KV c 1 0 1 1), (M2 KV Qc c 0 1), (L2 KV Qc c 0 1), (mulf (A1 KV Qc c 0 1) (broadcastTo S256x64 (nAl (M1 KV Qc c 0 1) (qb Qc c 0 1) (kb KV c 1 0 0 1)) broadcasts_S256x1_S256x64)), (truncf .bf16 (wts (qb Qc c 0 1) (kb KV c 1 0 0 1) (M2 KV Qc c 0 1)) bitsLt_bf16_f32)⟩ 0x8000fc7fe0003020000000000007ffc2fffe0600003fff818000000000000000000000000100000 := by
  rw [k0_part39_eq_skeleton (F := F)]; unfold k0_part39_skel
  refine Steps.loadQ 0 1 rfl (by decide +kernel) ?_
  refine Steps.loadG 1 0 0 1 (off12_eq c 1) (by decide +kernel) ?_
  refine Steps.loadG 1 0 1 1 (off13_eq c 1) (by decide +kernel) ?_
  exact Steps.pure _ _

theorem part40_run (v1155 : BitVec 32) : Steps KV Qc (OVal KV Qc) K c 0x8000fc7fe0003020000000000007ffc2fffe0600003fff818000000000000000000000000100000 (k0_part40 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 0 2) (L1 KV Qc c 0 2) (A1 KV Qc c 0 2) v1155 (kb KV c 1 0 1 1) (mulf (A1 KV Qc c 0 1) (broadcastTo S256x64 (nAl (M1 KV Qc c 0 1) (qb Qc c 0 1) (kb KV c 1 0 0 1)) broadcasts_S256x1_S256x64)) (truncf .bf16 (wts (qb Qc c 0 1) (kb KV c 1 0 0 1) (M2 KV Qc c 0 1)) bitsLt_bf16_f32)) ⟨(A2 KV Qc c 0 1), (M2 KV Qc c 0 2), (L2 KV Qc c 0 2), (A2 KV Qc c 0 2), (qb Qc c 0 3)⟩ 0x8000fc7fe0003020000000000007ffc2fffe0600003fff818000000000000000000000000100000 := by
  rw [k0_part40_eq_skeleton (F := F)]; unfold k0_part40_skel
  refine Steps.loadQ 0 2 rfl (by decide +kernel) ?_
  refine Steps.loadG 1 0 0 2 (off14_eq c 1) (by decide +kernel) ?_
  refine Steps.loadG 1 0 1 2 (off15_eq c 1) (by decide +kernel) ?_
  refine Steps.loadQ 0 3 rfl (by decide +kernel) ?_
  exact Steps.pure _ _

theorem part41_run (v1155 : BitVec 32) : Steps KV Qc (OVal KV Qc) K c 0x8000fc7fe0003020000000000007ffc2fffe0600003fff818000000000000000000000000100000 (k0_part41 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 0 3) (L1 KV Qc c 0 3) (A1 KV Qc c 0 3) v1155 (qb Qc c 0 3)) ⟨(M2 KV Qc c 0 3), (L2 KV Qc c 0 3), (A2 KV Qc c 0 3), (kb KV c 1 1 1 0), (matmul dot_S256x64_S256x64_S256x256_1_1_0_0_n_n none (qb Qc c 1 0) (kb KV c 1 1 0 0) (constant S256x256 .f32 0x00000000#32)), (broadcast S256x256 (Scalar.ofBits .f32 0x3E000000#32))⟩ 0x8000fc7fe0003020000000000007ffc2fffe0600003fff818000000000000000000000000100000 := by
  rw [k0_part41_eq_skeleton (F := F)]; unfold k0_part41_skel
  refine Steps.loadG 1 0 0 3 (off16_eq c 1) (by decide +kernel) ?_
  refine Steps.loadG 1 0 1 3 (off17_eq c 1) (by decide +kernel) ?_
  refine Steps.loadQ 1 0 rfl (by decide +kernel) ?_
  refine Steps.loadG 1 1 0 0 (off18_eq c 1) (by decide +kernel) ?_
  refine Steps.loadG 1 1 1 0 (off19_eq c 1) (by decide +kernel) ?_
  exact Steps.pure _ _

theorem part42_run (v1155 : BitVec 32) : Steps KV Qc (OVal KV Qc) K c 0x8000fc7fe0003020000000000007ffc2fffe0600003fff818000000000000000000000000100000 (k0_part42 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 1 0) (L1 KV Qc c 1 0) (A1 KV Qc c 1 0) (M1 KV Qc c 1 1) (L1 KV Qc c 1 1) v1155 (kb KV c 1 1 1 0) (matmul dot_S256x64_S256x64_S256x256_1_1_0_0_n_n none (qb Qc c 1 0) (kb KV c 1 1 0 0) (constant S256x256 .f32 0x00000000#32)) (broadcast S256x256 (Scalar.ofBits .f32 0x3E000000#32))) ⟨(M2 KV Qc c 1 0), (L2 KV Qc c 1 0), (A2 KV Qc c 1 0), (kb KV c 1 1 1 1), (M2 KV Qc c 1 1), (nAl (M1 KV Qc c 1 1) (qb Qc c 1 1) (kb KV c 1 1 0 1)), (wts (qb Qc c 1 1) (kb KV c 1 1 0 1) (M2 KV Qc c 1 1)), (mulf (L1 KV Qc c 1 1) (nAl (M1 KV Qc c 1 1) (qb Qc c 1 1) (kb KV c 1 1 0 1))), (rsum (wts (qb Qc c 1 1) (kb KV c 1 1 0 1) (M2 KV Qc c 1 1)))⟩ 0x8000fc7fe0003020000000000007ffc2fffe0600003fff818000000000000000000000000100000 := by
  rw [k0_part42_eq_skeleton (F := F)]; unfold k0_part42_skel
  refine Steps.loadQ 1 1 rfl (by decide +kernel) ?_
  refine Steps.loadG 1 1 0 1 (off20_eq c 1) (by decide +kernel) ?_
  refine Steps.loadG 1 1 1 1 (off21_eq c 1) (by decide +kernel) ?_
  exact Steps.pure _ _

theorem part43_run (v1155 : BitVec 32) : Steps KV Qc (OVal KV Qc) K c 0x8000fc7fe0003020000000000007ffc2fffe0600003fff818000000000000000000000000100000 (k0_part43 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (A1 KV Qc c 1 1) (M1 KV Qc c 1 2) (L1 KV Qc c 1 2) (A1 KV Qc c 1 2) v1155 (kb KV c 1 1 1 1) (nAl (M1 KV Qc c 1 1) (qb Qc c 1 1) (kb KV c 1 1 0 1)) (wts (qb Qc c 1 1) (kb KV c 1 1 0 1) (M2 KV Qc c 1 1)) (mulf (L1 KV Qc c 1 1) (nAl (M1 KV Qc c 1 1) (qb Qc c 1 1) (kb KV c 1 1 0 1))) (rsum (wts (qb Qc c 1 1) (kb KV c 1 1 0 1) (M2 KV Qc c 1 1)))) ⟨(L2 KV Qc c 1 1), (A2 KV Qc c 1 1), (M2 KV Qc c 1 2), (L2 KV Qc c 1 2), (A2 KV Qc c 1 2), (qb Qc c 1 3)⟩ 0x8000fc7fe0003020000000000007ffc2fffe0600003fff818000000000000000000000000100000 := by
  rw [k0_part43_eq_skeleton (F := F)]; unfold k0_part43_skel
  refine Steps.loadQ 1 2 rfl (by decide +kernel) ?_
  refine Steps.loadG 1 1 0 2 (off22_eq c 1) (by decide +kernel) ?_
  refine Steps.loadG 1 1 1 2 (off23_eq c 1) (by decide +kernel) ?_
  refine Steps.loadQ 1 3 rfl (by decide +kernel) ?_
  exact Steps.pure _ _

theorem part44_run (v1155 : BitVec 32) : Steps KV Qc (OVal KV Qc) K c 0x8000fc7fe0003020000000000007ffc2fffe0600003fff818000000000000000000000000100000 (k0_part44 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 1 3) (L1 KV Qc c 1 3) (A1 KV Qc c 1 3) v1155 (qb Qc c 1 3)) ⟨(M2 KV Qc c 1 3), (L2 KV Qc c 1 3), (A2 KV Qc c 1 3), (qb Qc c 2 0), (kb KV c 1 2 0 0), (kb KV c 1 2 1 0)⟩ 0x8000fc7fe0003020000000000007ffc2fffe0600003fff818000000000000000000000000100000 := by
  rw [k0_part44_eq_skeleton (F := F)]; unfold k0_part44_skel
  refine Steps.loadG 1 1 0 3 (off24_eq c 1) (by decide +kernel) ?_
  refine Steps.loadG 1 1 1 3 (off25_eq c 1) (by decide +kernel) ?_
  refine Steps.loadQ 2 0 rfl (by decide +kernel) ?_
  refine Steps.loadG 1 2 0 0 (off26_eq c 1) (by decide +kernel) ?_
  refine Steps.loadG 1 2 1 0 (off27_eq c 1) (by decide +kernel) ?_
  exact Steps.pure _ _

theorem part45_run (v1155 : BitVec 32) : Steps KV Qc (OVal KV Qc) K c 0x8000fc7fe0003020000000000007ffc2fffe0600003fff818000000000000000000000000100000 (k0_part45 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 2 0) (L1 KV Qc c 2 0) (A1 KV Qc c 2 0) (M1 KV Qc c 2 1) v1155 (qb Qc c 2 0) (kb KV c 1 2 0 0) (kb KV c 1 2 1 0)) ⟨(M2 KV Qc c 2 0), (L2 KV Qc c 2 0), (A2 KV Qc c 2 0), (kb KV c 1 2 1 1), (M2 KV Qc c 2 1), (nAl (M1 KV Qc c 2 1) (qb Qc c 2 1) (kb KV c 1 2 0 1)), (wts (qb Qc c 2 1) (kb KV c 1 2 0 1) (M2 KV Qc c 2 1))⟩ 0x8000fc7fe0003020000000000007ffc2fffe0600003fff818000000000000000000000000100000 := by
  rw [k0_part45_eq_skeleton (F := F)]; unfold k0_part45_skel
  refine Steps.loadQ 2 1 rfl (by decide +kernel) ?_
  refine Steps.loadG 1 2 0 1 (off28_eq c 1) (by decide +kernel) ?_
  refine Steps.loadG 1 2 1 1 (off29_eq c 1) (by decide +kernel) ?_
  exact Steps.pure _ _

theorem part46_run (v1155 : BitVec 32) : Steps KV Qc (OVal KV Qc) K c 0x8000fc7fe0003020000000000007ffc2fffe0600003fff818000000000000000000000000100000 (k0_part46 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L1 KV Qc c 2 1) (A1 KV Qc c 2 1) (M1 KV Qc c 2 2) (L1 KV Qc c 2 2) (A1 KV Qc c 2 2) v1155 (kb KV c 1 2 1 1) (nAl (M1 KV Qc c 2 1) (qb Qc c 2 1) (kb KV c 1 2 0 1)) (wts (qb Qc c 2 1) (kb KV c 1 2 0 1) (M2 KV Qc c 2 1))) ⟨(L2 KV Qc c 2 1), (A2 KV Qc c 2 1), (M2 KV Qc c 2 2), (L2 KV Qc c 2 2), (A2 KV Qc c 2 2)⟩ 0x8000fc7fe0003020000000000007ffc2fffe0600003fff818000000000000000000000000100000 := by
  rw [k0_part46_eq_skeleton (F := F)]; unfold k0_part46_skel
  refine Steps.loadQ 2 2 rfl (by decide +kernel) ?_
  refine Steps.loadG 1 2 0 2 (off30_eq c 1) (by decide +kernel) ?_
  refine Steps.loadG 1 2 1 2 (off31_eq c 1) (by decide +kernel) ?_
  exact Steps.pure _ _

theorem part47_run (v1155 : BitVec 32) : Steps KV Qc (OVal KV Qc) K c 0x8000fc7fe0003020000000000007ffc2fffe0600003fff818000000000000000000000000100000 (k0_part47 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 2 3) (L1 KV Qc c 2 3) (A1 KV Qc c 2 3) v1155) ⟨(M2 KV Qc c 2 3), (L2 KV Qc c 2 3), (A2 KV Qc c 2 3), (qb Qc c 3 0), (kb KV c 1 3 0 0)⟩ 0x8000fc7fe0003020000000000007ffc2fffe0600003fff818000000000000000000000000100000 := by
  rw [k0_part47_eq_skeleton (F := F)]; unfold k0_part47_skel
  refine Steps.loadQ 2 3 rfl (by decide +kernel) ?_
  refine Steps.loadG 1 2 0 3 (off32_eq c 1) (by decide +kernel) ?_
  refine Steps.loadG 1 2 1 3 (off33_eq c 1) (by decide +kernel) ?_
  refine Steps.loadQ 3 0 rfl (by decide +kernel) ?_
  refine Steps.loadG 1 3 0 0 (off34_eq c 1) (by decide +kernel) ?_
  exact Steps.pure _ _

theorem part48_run (v1155 : BitVec 32) : Steps KV Qc (OVal KV Qc) K c 0x8000fc7fe0003020000000000007ffc2fffe0600003fff818000000000000000000000000100000 (k0_part48 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M1 KV Qc c 3 0) (L1 KV Qc c 3 0) (A1 KV Qc c 3 0) (M1 KV Qc c 3 1) v1155 (qb Qc c 3 0) (kb KV c 1 3 0 0)) ⟨(M2 KV Qc c 3 0), (L2 KV Qc c 3 0), (A2 KV Qc c 3 0), (kb KV c 1 3 1 1), (sc (qb Qc c 3 1) (kb KV c 1 3 0 1)), (M2 KV Qc c 3 1), (subf (M1 KV Qc c 3 1) (M2 KV Qc c 3 1))⟩ 0x8000fc7fe0003020000000000007ffc2fffe0600003fff818000000000000000000000000100000 := by
  rw [k0_part48_eq_skeleton (F := F)]; unfold k0_part48_skel
  refine Steps.loadG 1 3 1 0 (off35_eq c 1) (by decide +kernel) ?_
  refine Steps.loadQ 3 1 rfl (by decide +kernel) ?_
  refine Steps.loadG 1 3 0 1 (off36_eq c 1) (by decide +kernel) ?_
  refine Steps.loadG 1 3 1 1 (off37_eq c 1) (by decide +kernel) ?_
  exact Steps.pure _ _

theorem part49_run (v1155 : BitVec 32) : Steps KV Qc (OVal KV Qc) K c 0x8000fc7fe0003020000000000007ffc2fffe0600003fff818000000000000000000000000100000 (k0_part49 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L1 KV Qc c 3 1) (A1 KV Qc c 3 1) (M1 KV Qc c 3 2) (L1 KV Qc c 3 2) (A1 KV Qc c 3 2) v1155 (kb KV c 1 3 1 1) (sc (qb Qc c 3 1) (kb KV c 1 3 0 1)) (M2 KV Qc c 3 1) (subf (M1 KV Qc c 3 1) (M2 KV Qc c 3 1))) ⟨(L2 KV Qc c 3 1), (A2 KV Qc c 3 1), (M2 KV Qc c 3 2), (L2 KV Qc c 3 2), (mulf (A1 KV Qc c 3 2) (broadcastTo S256x64 (nAl (M1 KV Qc c 3 2) (qb Qc c 3 2) (kb KV c 1 3 0 2)) broadcasts_S256x1_S256x64)), (wv (truncf .bf16 (wts (qb Qc c 3 2) (kb KV c 1 3 0 2) (M2 KV Qc c 3 2)) bitsLt_bf16_f32) (kb KV c 1 3 1 2))⟩ 0x8000fc7fe0003020000000000007ffc2fffe0600003fff818000000000000000000000000100000 := by
  rw [k0_part49_eq_skeleton (F := F)]; unfold k0_part49_skel
  refine Steps.loadQ 3 2 rfl (by decide +kernel) ?_
  refine Steps.loadG 1 3 0 2 (off38_eq c 1) (by decide +kernel) ?_
  refine Steps.loadG 1 3 1 2 (off39_eq c 1) (by decide +kernel) ?_
  exact Steps.pure _ _

theorem part50_run (v8 v17 v1155 : BitVec 32) : ∃ v1629' v1631' c4_i32_1307' : BitVec 32, Steps KV Qc (OVal KV Qc) K c 0x8000fc7fe0003020000000000007ffc2fffe0600003fff818000000000000000000000000100000 (k0_part50 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v8 v17 (M1 KV Qc c 3 3) (L1 KV Qc c 3 3) (A1 KV Qc c 3 3) v1155 (mulf (A1 KV Qc c 3 2) (broadcastTo S256x64 (nAl (M1 KV Qc c 3 2) (qb Qc c 3 2) (kb KV c 1 3 0 2)) broadcasts_S256x1_S256x64)) (wv (truncf .bf16 (wts (qb Qc c 3 2) (kb KV c 1 3 0 2) (M2 KV Qc c 3 2)) bitsLt_bf16_f32) (kb KV c 1 3 1 2))) ⟨(A2 KV Qc c 3 2), (M2 KV Qc c 3 3), (L2 KV Qc c 3 3), (A2 KV Qc c 3 3), v1629', v1631', c4_i32_1307'⟩ 0x8000fc7fe0003020000000000007ffc2fffe0600003fff818000000000000000000000000100000 := by
  apply Exists.intro; apply Exists.intro; apply Exists.intro
  rw [k0_part50_eq_skeleton (F := F)]; unfold k0_part50_skel
  refine Steps.loadQ 3 3 rfl (by decide +kernel) ?_
  refine Steps.loadG 1 3 0 3 (off40_eq c 1) (by decide +kernel) ?_
  refine Steps.loadG 1 3 1 3 (off41_eq c 1) (by decide +kernel) ?_
  exact Steps.pure _ _

theorem part51_run (v5 v8 v17 v1629 v1631 c4_i32_1307 : BitVec 32) : Steps KV Qc (OVal KV Qc) K c 0x8000fc7fe0003020000000000007ffc2fffe0600003fff818000000000000000000000000100000 (k0_part51 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c v5 v8 v17 v1629 v1631 c4_i32_1307) ⟨(qb Qc c 0 0), (kb KV c 2 0 0 0)⟩ 0x8001fdffe000000000000000001fffc2fffe0000003fff800000000000000000000000000100000 := by
  rw [k0_part51_eq_skeleton (F := F)]; unfold k0_part51_skel
  refine Steps.recvWait 19 (by decide) 20 (by decide) (by rfl) (cR1 19 (by decide)) (by decide) (S₁ := 0x8000fc7fe0003020400000000017ffc2fffe0200003fff808000000000000000000000000100000) (by decide +kernel) ?_
  refine Steps.ghost (S₁ := 0x8000fd7fe0083020000000000017ffc2fffe0200003fff808000000000000000000000000100000) (by decide +kernel) (gh 19 (by decide)) ?_
  refine Steps.recvWait 18 (by decide) 20 (by decide) (by rfl) (cR1 18 (by decide)) (by decide) (S₁ := 0x8000fd7fe008302020000000001fffc2fffe0000003fff800000000000000000000000000100000) (by decide +kernel) ?_
  refine Steps.ghost (S₁ := 0x8000fdffe00c302000000000001fffc2fffe0000003fff800000000000000000000000000100000) (by decide +kernel) (gh 18 (by decide)) ?_
  refine Steps.ghost (S₁ := 0x8001fdffe000000000000000001fffc2fffe0000003fff800000000000000000000000000100000) (by decide +kernel) slab_join3 ?_
  refine Steps.loadQ 0 0 rfl (by decide +kernel) ?_
  refine Steps.loadG 2 0 0 0 (off10_eq c 2) (by decide +kernel) ?_
  exact Steps.pure _ _

end Cert.MeshAttn

end
-- ==== Proof.Parts4.lean ====
/-
The last gathered block, the stores and the closing waits.
-/
module

public import proofs.«01_k».proof.Proof.Parts0

@[expose] public section

noncomputable section

namespace Cert.MeshAttn

open Cert.KernelIdeal Cert.KernelIdeal.Gen

open Idealize.ShloMosaic
open Idealize.ShloMosaic.TcCoe
open Idealize.SL Idealize.SL.RA Idealize.SL.BI

variable {F : FTy → Type} [FloatOps F]
variable {KV : (c : Dev nD) → (cc0_stg1_0 : Ref sig .tc).ty.Contents (Elt F)}
  {Qc : (c : Dev nD) → (cc0_stg0_0 : Ref sig .tc).ty.Contents (Elt F)}
  {K : Dev nD × Fin 41 → ℕ} {c : Dev nD}

theorem part52_run (v1629 : BitVec 32) : Steps KV Qc (OVal KV Qc) K c 0x8001fdffe000000000000000001fffc2fffe0000003fff800000000000000000000000000100000 (k0_part52 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 0 0) (L2 KV Qc c 0 0) (A2 KV Qc c 0 0) v1629 (qb Qc c 0 0) (kb KV c 2 0 0 0)) ⟨(L3 KV Qc c 0 0), (A3 KV Qc c 0 0), (kb KV c 2 0 1 1), (sc (qb Qc c 0 1) (kb KV c 2 0 0 1)), (iM (qb Qc c 0 1) (kb KV c 2 0 0 1))⟩ 0x8001fdffe000000000000000001fffc2fffe0000003fff800000000000000000000000000100000 := by
  rw [k0_part52_eq_skeleton (F := F)]; unfold k0_part52_skel
  refine Steps.loadG 2 0 1 0 (off11_eq c 2) (by decide +kernel) ?_
  refine Steps.loadQ 0 1 rfl (by decide +kernel) ?_
  refine Steps.loadG 2 0 0 1 (off12_eq c 2) (by decide +kernel) ?_
  refine Steps.loadG 2 0 1 1 (off13_eq c 2) (by decide +kernel) ?_
  exact Steps.pure _ _

theorem part53_run (v1629 : BitVec 32) : Steps KV Qc (OVal KV Qc) K c 0x8001fdffe000000000000000001fffc2fffe0000003fff800000000000000000000000000100000 (k0_part53 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 0 1) (L2 KV Qc c 0 1) (A2 KV Qc c 0 1) (M2 KV Qc c 0 2) (L2 KV Qc c 0 2) (A2 KV Qc c 0 2) v1629 (kb KV c 2 0 1 1) (sc (qb Qc c 0 1) (kb KV c 2 0 0 1)) (iM (qb Qc c 0 1) (kb KV c 2 0 0 1))) ⟨(L3 KV Qc c 0 1), (A3 KV Qc c 0 1), (kb KV c 2 0 1 2), (L3 KV Qc c 0 2), (mulf (A2 KV Qc c 0 2) (broadcastTo S256x64 (nAl (M2 KV Qc c 0 2) (qb Qc c 0 2) (kb KV c 2 0 0 2)) broadcasts_S256x1_S256x64)), (truncf .bf16 (wts (qb Qc c 0 2) (kb KV c 2 0 0 2) (M3 KV Qc c 0 2)) bitsLt_bf16_f32)⟩ 0x8001fdffe000000000000000001fffc2fffe0000003fff800000000000000000000000000100000 := by
  rw [k0_part53_eq_skeleton (F := F)]; unfold k0_part53_skel
  refine Steps.loadQ 0 2 rfl (by decide +kernel) ?_
  refine Steps.loadG 2 0 0 2 (off14_eq c 2) (by decide +kernel) ?_
  refine Steps.loadG 2 0 1 2 (off15_eq c 2) (by decide +kernel) ?_
  exact Steps.pure _ _

theorem part54_run (v1629 : BitVec 32) : Steps KV Qc (OVal KV Qc) K c 0x8001fdffe000000000000000001fffc2fffe0000003fff800000000000000000000000000100000 (k0_part54 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 0 3) (L2 KV Qc c 0 3) (A2 KV Qc c 0 3) v1629 (kb KV c 2 0 1 2) (mulf (A2 KV Qc c 0 2) (broadcastTo S256x64 (nAl (M2 KV Qc c 0 2) (qb Qc c 0 2) (kb KV c 2 0 0 2)) broadcasts_S256x1_S256x64)) (truncf .bf16 (wts (qb Qc c 0 2) (kb KV c 2 0 0 2) (M3 KV Qc c 0 2)) bitsLt_bf16_f32)) ⟨(A3 KV Qc c 0 2), (L3 KV Qc c 0 3), (A3 KV Qc c 0 3), (qb Qc c 1 0)⟩ 0x8001fdffe000000000000000001fffc2fffe0000003fff800000000000000000000000000100000 := by
  rw [k0_part54_eq_skeleton (F := F)]; unfold k0_part54_skel
  refine Steps.loadQ 0 3 rfl (by decide +kernel) ?_
  refine Steps.loadG 2 0 0 3 (off16_eq c 2) (by decide +kernel) ?_
  refine Steps.loadG 2 0 1 3 (off17_eq c 2) (by decide +kernel) ?_
  refine Steps.loadQ 1 0 rfl (by decide +kernel) ?_
  exact Steps.pure _ _

theorem part55_run (v1629 : BitVec 32) : Steps KV Qc (OVal KV Qc) K c 0x8001fdffe000000000000000001fffc2fffe0000003fff800000000000000000000000000100000 (k0_part55 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 1 0) (L2 KV Qc c 1 0) (A2 KV Qc c 1 0) v1629 (qb Qc c 1 0)) ⟨(L3 KV Qc c 1 0), (A3 KV Qc c 1 0), (kb KV c 2 1 1 1), (matmul dot_S256x64_S256x64_S256x256_1_1_0_0_n_n none (qb Qc c 1 1) (kb KV c 2 1 0 1) (constant S256x256 .f32 0x00000000#32)), (broadcast S256x256 (Scalar.ofBits .f32 0x3E000000#32))⟩ 0x8001fdffe000000000000000001fffc2fffe0000003fff800000000000000000000000000100000 := by
  rw [k0_part55_eq_skeleton (F := F)]; unfold k0_part55_skel
  refine Steps.loadG 2 1 0 0 (off18_eq c 2) (by decide +kernel) ?_
  refine Steps.loadG 2 1 1 0 (off19_eq c 2) (by decide +kernel) ?_
  refine Steps.loadQ 1 1 rfl (by decide +kernel) ?_
  refine Steps.loadG 2 1 0 1 (off20_eq c 2) (by decide +kernel) ?_
  refine Steps.loadG 2 1 1 1 (off21_eq c 2) (by decide +kernel) ?_
  exact Steps.pure _ _

theorem part56_run (v1629 : BitVec 32) : Steps KV Qc (OVal KV Qc) K c 0x8001fdffe000000000000000001fffc2fffe0000003fff800000000000000000000000000100000 (k0_part56 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 1 1) (L2 KV Qc c 1 1) (A2 KV Qc c 1 1) (M2 KV Qc c 1 2) (L2 KV Qc c 1 2) v1629 (kb KV c 2 1 1 1) (matmul dot_S256x64_S256x64_S256x256_1_1_0_0_n_n none (qb Qc c 1 1) (kb KV c 2 1 0 1) (constant S256x256 .f32 0x00000000#32)) (broadcast S256x256 (Scalar.ofBits .f32 0x3E000000#32))) ⟨(L3 KV Qc c 1 1), (A3 KV Qc c 1 1), (kb KV c 2 1 1 2), (nAl (M2 KV Qc c 1 2) (qb Qc c 1 2) (kb KV c 2 1 0 2)), (wts (qb Qc c 1 2) (kb KV c 2 1 0 2) (M3 KV Qc c 1 2)), (mulf (L2 KV Qc c 1 2) (nAl (M2 KV Qc c 1 2) (qb Qc c 1 2) (kb KV c 2 1 0 2))), (rsum (wts (qb Qc c 1 2) (kb KV c 2 1 0 2) (M3 KV Qc c 1 2)))⟩ 0x8001fdffe000000000000000001fffc2fffe0000003fff800000000000000000000000000100000 := by
  rw [k0_part56_eq_skeleton (F := F)]; unfold k0_part56_skel
  refine Steps.loadQ 1 2 rfl (by decide +kernel) ?_
  refine Steps.loadG 2 1 0 2 (off22_eq c 2) (by decide +kernel) ?_
  refine Steps.loadG 2 1 1 2 (off23_eq c 2) (by decide +kernel) ?_
  exact Steps.pure _ _

theorem part57_run (v1629 : BitVec 32) : Steps KV Qc (OVal KV Qc) K c 0x8001fdffe000000000000000001fffc2fffe0000003fff800000000000000000000000000100000 (k0_part57 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (A2 KV Qc c 1 2) (M2 KV Qc c 1 3) (L2 KV Qc c 1 3) (A2 KV Qc c 1 3) v1629 (kb KV c 2 1 1 2) (nAl (M2 KV Qc c 1 2) (qb Qc c 1 2) (kb KV c 2 1 0 2)) (wts (qb Qc c 1 2) (kb KV c 2 1 0 2) (M3 KV Qc c 1 2)) (mulf (L2 KV Qc c 1 2) (nAl (M2 KV Qc c 1 2) (qb Qc c 1 2) (kb KV c 2 1 0 2))) (rsum (wts (qb Qc c 1 2) (kb KV c 2 1 0 2) (M3 KV Qc c 1 2)))) ⟨(L3 KV Qc c 1 2), (A3 KV Qc c 1 2), (L3 KV Qc c 1 3), (A3 KV Qc c 1 3), (qb Qc c 2 0)⟩ 0x8001fdffe000000000000000001fffc2fffe0000003fff800000000000000000000000000100000 := by
  rw [k0_part57_eq_skeleton (F := F)]; unfold k0_part57_skel
  refine Steps.loadQ 1 3 rfl (by decide +kernel) ?_
  refine Steps.loadG 2 1 0 3 (off24_eq c 2) (by decide +kernel) ?_
  refine Steps.loadG 2 1 1 3 (off25_eq c 2) (by decide +kernel) ?_
  refine Steps.loadQ 2 0 rfl (by decide +kernel) ?_
  exact Steps.pure _ _

theorem part58_run (v1629 : BitVec 32) : Steps KV Qc (OVal KV Qc) K c 0x8001fdffe000000000000000001fffc2fffe0000003fff800000000000000000000000000100000 (k0_part58 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 2 0) (L2 KV Qc c 2 0) (A2 KV Qc c 2 0) v1629 (qb Qc c 2 0)) ⟨(L3 KV Qc c 2 0), (A3 KV Qc c 2 0), (qb Qc c 2 1), (kb KV c 2 2 0 1), (kb KV c 2 2 1 1)⟩ 0x8001fdffe000000000000000001fffc2fffe0000003fff800000000000000000000000000100000 := by
  rw [k0_part58_eq_skeleton (F := F)]; unfold k0_part58_skel
  refine Steps.loadG 2 2 0 0 (off26_eq c 2) (by decide +kernel) ?_
  refine Steps.loadG 2 2 1 0 (off27_eq c 2) (by decide +kernel) ?_
  refine Steps.loadQ 2 1 rfl (by decide +kernel) ?_
  refine Steps.loadG 2 2 0 1 (off28_eq c 2) (by decide +kernel) ?_
  refine Steps.loadG 2 2 1 1 (off29_eq c 2) (by decide +kernel) ?_
  exact Steps.pure _ _

theorem part59_run (v1629 : BitVec 32) : Steps KV Qc (OVal KV Qc) K c 0x8001fdffe000000000000000001fffc2fffe0000003fff800000000000000000000000000100000 (k0_part59 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 2 1) (L2 KV Qc c 2 1) (A2 KV Qc c 2 1) (M2 KV Qc c 2 2) v1629 (qb Qc c 2 1) (kb KV c 2 2 0 1) (kb KV c 2 2 1 1)) ⟨(L3 KV Qc c 2 1), (A3 KV Qc c 2 1), (kb KV c 2 2 1 2), (nAl (M2 KV Qc c 2 2) (qb Qc c 2 2) (kb KV c 2 2 0 2)), (wts (qb Qc c 2 2) (kb KV c 2 2 0 2) (M3 KV Qc c 2 2))⟩ 0x8001fdffe000000000000000001fffc2fffe0000003fff800000000000000000000000000100000 := by
  rw [k0_part59_eq_skeleton (F := F)]; unfold k0_part59_skel
  refine Steps.loadQ 2 2 rfl (by decide +kernel) ?_
  refine Steps.loadG 2 2 0 2 (off30_eq c 2) (by decide +kernel) ?_
  refine Steps.loadG 2 2 1 2 (off31_eq c 2) (by decide +kernel) ?_
  exact Steps.pure _ _

theorem part60_run (v1629 : BitVec 32) : Steps KV Qc (OVal KV Qc) K c 0x8001fdffe000000000000000001fffc2fffe0000003fff800000000000000000000000000100000 (k0_part60 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L2 KV Qc c 2 2) (A2 KV Qc c 2 2) (M2 KV Qc c 2 3) (L2 KV Qc c 2 3) (A2 KV Qc c 2 3) v1629 (kb KV c 2 2 1 2) (nAl (M2 KV Qc c 2 2) (qb Qc c 2 2) (kb KV c 2 2 0 2)) (wts (qb Qc c 2 2) (kb KV c 2 2 0 2) (M3 KV Qc c 2 2))) ⟨(L3 KV Qc c 2 2), (A3 KV Qc c 2 2), (L3 KV Qc c 2 3), (A3 KV Qc c 2 3)⟩ 0x8001fdffe000000000000000001fffc2fffe0000003fff800000000000000000000000000100000 := by
  rw [k0_part60_eq_skeleton (F := F)]; unfold k0_part60_skel
  refine Steps.loadQ 2 3 rfl (by decide +kernel) ?_
  refine Steps.loadG 2 2 0 3 (off32_eq c 2) (by decide +kernel) ?_
  refine Steps.loadG 2 2 1 3 (off33_eq c 2) (by decide +kernel) ?_
  exact Steps.pure _ _

theorem part61_run (v1629 : BitVec 32) : Steps KV Qc (OVal KV Qc) K c 0x8001fdffe000000000000000001fffc2fffe0000003fff800000000000000000000000000100000 (k0_part61 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 3 0) (L2 KV Qc c 3 0) (A2 KV Qc c 3 0) v1629) ⟨(L3 KV Qc c 3 0), (A3 KV Qc c 3 0), (qb Qc c 3 1), (kb KV c 2 3 0 1)⟩ 0x8001fdffe000000000000000001fffc2fffe0000003fff800000000000000000000000000100000 := by
  rw [k0_part61_eq_skeleton (F := F)]; unfold k0_part61_skel
  refine Steps.loadQ 3 0 rfl (by decide +kernel) ?_
  refine Steps.loadG 2 3 0 0 (off34_eq c 2) (by decide +kernel) ?_
  refine Steps.loadG 2 3 1 0 (off35_eq c 2) (by decide +kernel) ?_
  refine Steps.loadQ 3 1 rfl (by decide +kernel) ?_
  refine Steps.loadG 2 3 0 1 (off36_eq c 2) (by decide +kernel) ?_
  exact Steps.pure _ _

theorem part62_run (v1629 : BitVec 32) : Steps KV Qc (OVal KV Qc) K c 0x8001fdffe000000000000000001fffc2fffe0000003fff800000000000000000000000000100000 (k0_part62 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 3 1) (L2 KV Qc c 3 1) (A2 KV Qc c 3 1) (M2 KV Qc c 3 2) v1629 (qb Qc c 3 1) (kb KV c 2 3 0 1)) ⟨(L3 KV Qc c 3 1), (A3 KV Qc c 3 1), (kb KV c 2 3 1 2), (sc (qb Qc c 3 2) (kb KV c 2 3 0 2)), (M3 KV Qc c 3 2), (subf (M2 KV Qc c 3 2) (M3 KV Qc c 3 2))⟩ 0x8001fdffe000000000000000001fffc2fffe0000003fff800000000000000000000000000100000 := by
  rw [k0_part62_eq_skeleton (F := F)]; unfold k0_part62_skel
  refine Steps.loadG 2 3 1 1 (off37_eq c 2) (by decide +kernel) ?_
  refine Steps.loadQ 3 2 rfl (by decide +kernel) ?_
  refine Steps.loadG 2 3 0 2 (off38_eq c 2) (by decide +kernel) ?_
  refine Steps.loadG 2 3 1 2 (off39_eq c 2) (by decide +kernel) ?_
  exact Steps.pure _ _

theorem part63_run (v1629 : BitVec 32) : Steps KV Qc (OVal KV Qc) K c 0x8001fdffe000000000000000001fffc2fffe0000003fff800000000000000000000000000100000 (k0_part63 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L2 KV Qc c 3 2) (A2 KV Qc c 3 2) (M2 KV Qc c 3 3) (L2 KV Qc c 3 3) (A2 KV Qc c 3 3) v1629 (kb KV c 2 3 1 2) (sc (qb Qc c 3 2) (kb KV c 2 3 0 2)) (M3 KV Qc c 3 2) (subf (M2 KV Qc c 3 2) (M3 KV Qc c 3 2))) ⟨(L3 KV Qc c 3 2), (A3 KV Qc c 3 2), (L3 KV Qc c 3 3), (mulf (A2 KV Qc c 3 3) (broadcastTo S256x64 (nAl (M2 KV Qc c 3 3) (qb Qc c 3 3) (kb KV c 2 3 0 3)) broadcasts_S256x1_S256x64)), (wv (truncf .bf16 (wts (qb Qc c 3 3) (kb KV c 2 3 0 3) (M3 KV Qc c 3 3)) bitsLt_bf16_f32) (kb KV c 2 3 1 3))⟩ 0x8001fdffe000000000000000001fffc2fffe0000003fff800000000000000000000000000100000 := by
  rw [k0_part63_eq_skeleton (F := F)]; unfold k0_part63_skel
  refine Steps.loadQ 3 3 rfl (by decide +kernel) ?_
  refine Steps.loadG 2 3 0 3 (off40_eq c 2) (by decide +kernel) ?_
  refine Steps.loadG 2 3 1 3 (off41_eq c 2) (by decide +kernel) ?_
  exact Steps.pure _ _

theorem part64_run : Steps KV Qc (OVal KV Qc) K c 0x8001fdffe000000000000000001fffc2fffe0000003fff800000000000000000000000000100000 (k0_part64 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (L3 KV Qc c 0 0) (A3 KV Qc c 0 0) (L3 KV Qc c 0 1) (A3 KV Qc c 0 1) (L3 KV Qc c 0 2) (A3 KV Qc c 0 2) (L3 KV Qc c 0 3) (A3 KV Qc c 0 3) (L3 KV Qc c 1 0) (A3 KV Qc c 1 0) (L3 KV Qc c 1 1) (A3 KV Qc c 1 1) (L3 KV Qc c 1 2) (A3 KV Qc c 1 2) (mulf (A2 KV Qc c 3 3) (broadcastTo S256x64 (nAl (M2 KV Qc c 3 3) (qb Qc c 3 3) (kb KV c 2 3 0 3)) broadcasts_S256x1_S256x64)) (wv (truncf .bf16 (wts (qb Qc c 3 3) (kb KV c 2 3 0 3) (M3 KV Qc c 3 3)) bitsLt_bf16_f32) (kb KV c 2 3 1 3))) ⟨(A3 KV Qc c 3 3), (divf (A3 KV Qc c 1 2) (broadcastTo S256x64 (L3 KV Qc c 1 2) broadcasts_S256x1_S256x64))⟩ 0x200001fdffe000000000000000001fffc2fffe0000003fff800000000000000000000000000100000 := by
  rw [k0_part64_eq_skeleton (F := F)]; unfold k0_part64_skel
  refine Steps.row 0 0 0 (by decide) rfl rfl rfl (S₁ := 0x10001fdffe000000000000000001fffc2fffe0000003fff800000000000000000000000000100000) (by decide +kernel) ?_
  refine Steps.row 0 1 1 (by decide) rfl rfl rfl (S₁ := 0x20001fdffe000000000000000001fffc2fffe0000003fff800000000000000000000000000100000) (by decide +kernel) ?_
  refine Steps.row 0 2 2 (by decide) rfl rfl rfl (S₁ := 0x40001fdffe000000000000000001fffc2fffe0000003fff800000000000000000000000000100000) (by decide +kernel) ?_
  refine Steps.row 0 3 3 (by decide) rfl rfl rfl (S₁ := 0x80001fdffe000000000000000001fffc2fffe0000003fff800000000000000000000000000100000) (by decide +kernel) ?_
  refine Steps.row 1 0 4 (by decide) rfl rfl rfl (S₁ := 0x100001fdffe000000000000000001fffc2fffe0000003fff800000000000000000000000000100000) (by decide +kernel) ?_
  refine Steps.row 1 1 5 (by decide) rfl rfl rfl (S₁ := 0x200001fdffe000000000000000001fffc2fffe0000003fff800000000000000000000000000100000) (by decide +kernel) ?_
  exact Steps.pure _ _

theorem part65_run : Steps KV Qc (OVal KV Qc) K c 0x200001fdffe000000000000000001fffc2fffe0000003fff800000000000000000000000000100000 (k0_part65 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 (L3 KV Qc c 1 3) (A3 KV Qc c 1 3) (L3 KV Qc c 2 0) (A3 KV Qc c 2 0) (L3 KV Qc c 2 1) (A3 KV Qc c 2 1) (L3 KV Qc c 2 2) (A3 KV Qc c 2 2) (L3 KV Qc c 2 3) (A3 KV Qc c 2 3) (L3 KV Qc c 3 0) (A3 KV Qc c 3 0) (L3 KV Qc c 3 1) (A3 KV Qc c 3 1) (divf (A3 KV Qc c 1 2) (broadcastTo S256x64 (L3 KV Qc c 1 2) broadcasts_S256x1_S256x64))) (divf (A3 KV Qc c 3 1) (broadcastTo S256x64 (L3 KV Qc c 3 1) broadcasts_S256x1_S256x64)) 0x10000001fdffe000000000000000001fffc2fffe0000003fff800000000000000000000000000100000 := by
  rw [k0_part65_eq_skeleton (F := F)]; unfold k0_part65_skel
  refine Steps.row 1 2 6 (by decide) rfl rfl rfl (S₁ := 0x400001fdffe000000000000000001fffc2fffe0000003fff800000000000000000000000000100000) (by decide +kernel) ?_
  refine Steps.row 1 3 7 (by decide) rfl rfl rfl (S₁ := 0x800001fdffe000000000000000001fffc2fffe0000003fff800000000000000000000000000100000) (by decide +kernel) ?_
  refine Steps.row 2 0 8 (by decide) rfl rfl rfl (S₁ := 0x1000001fdffe000000000000000001fffc2fffe0000003fff800000000000000000000000000100000) (by decide +kernel) ?_
  refine Steps.row 2 1 9 (by decide) rfl rfl rfl (S₁ := 0x2000001fdffe000000000000000001fffc2fffe0000003fff800000000000000000000000000100000) (by decide +kernel) ?_
  refine Steps.row 2 2 10 (by decide) rfl rfl rfl (S₁ := 0x4000001fdffe000000000000000001fffc2fffe0000003fff800000000000000000000000000100000) (by decide +kernel) ?_
  refine Steps.row 2 3 11 (by decide) rfl rfl rfl (S₁ := 0x8000001fdffe000000000000000001fffc2fffe0000003fff800000000000000000000000000100000) (by decide +kernel) ?_
  refine Steps.row 3 0 12 (by decide) rfl rfl rfl (S₁ := 0x10000001fdffe000000000000000001fffc2fffe0000003fff800000000000000000000000000100000) (by decide +kernel) ?_
  exact Steps.pure _ _

theorem part66_run : Steps KV Qc (OVal KV Qc) K c 0x10000001fdffe000000000000000001fffc2fffe0000003fff800000000000000000000000000100000 (k0_part66 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (L3 KV Qc c 3 2) (A3 KV Qc c 3 2) (L3 KV Qc c 3 3) (A3 KV Qc c 3 3) (divf (A3 KV Qc c 3 1) (broadcastTo S256x64 (L3 KV Qc c 3 1) broadcasts_S256x1_S256x64))) ⟨⟩ 0x80000001fdffe000000000000000081fffc2fffc0000003fff000000000020000000000000000100000 := by
  rw [k0_part66_eq_skeleton (F := F)]; unfold k0_part66_skel
  refine Steps.row 3 1 13 (by decide) rfl rfl rfl (S₁ := 0x20000001fdffe000000000000000001fffc2fffe0000003fff800000000000000000000000000100000) (by decide +kernel) ?_
  refine Steps.row 3 2 14 (by decide) rfl rfl rfl (S₁ := 0x40000001fdffe000000000000000001fffc2fffe0000003fff800000000000000000000000000100000) (by decide +kernel) ?_
  refine Steps.row 3 3 15 (by decide) rfl rfl rfl (S₁ := 0x80000001fdffe000000000000000001fffc2fffe0000003fff800000000000000000000000000100000) (by decide +kernel) ?_
  refine Steps.sendWait 5 (by decide) (by rfl) (cS0 5 (by decide)) (S₁ := 0x80000001fdffe000000000000000081fffc2fffc0000003fff000000000020000000000000000100000) (by decide +kernel) ?_
  exact Steps.pure _ _

theorem part67_run : Steps KV Qc (OVal KV Qc) K c 0x80000001fdffe000000000000000081fffc2fffc0000003fff000000000020000000000000000100000 (k0_part67 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c) ⟨⟩ 0x80000001fdffe000000000000000f81fffc2ffc00000003ff00000000003e0000000000000000100000 := by
  rw [k0_part67_eq_skeleton (F := F)]; unfold k0_part67_skel
  refine Steps.sendWait 6 (by decide) (by rfl) (cS0 6 (by decide)) (S₁ := 0x80000001fdffe000000000000000181fffc2fff80000003ffe000000000060000000000000000100000) (by decide +kernel) ?_
  refine Steps.sendWait 7 (by decide) (by rfl) (cS0 7 (by decide)) (S₁ := 0x80000001fdffe000000000000000381fffc2fff00000003ffc0000000000e0000000000000000100000) (by decide +kernel) ?_
  refine Steps.sendWait 8 (by decide) (by rfl) (cS2 8 (by decide)) (S₁ := 0x80000001fdffe000000000000000781fffc2ffe00000003ff80000000001e0000000000000000100000) (by decide +kernel) ?_
  refine Steps.sendWait 9 (by decide) (by rfl) (cS2 9 (by decide)) (S₁ := 0x80000001fdffe000000000000000f81fffc2ffc00000003ff00000000003e0000000000000000100000) (by decide +kernel) ?_
  exact Steps.pure _ _

theorem part68_run : Steps KV Qc (OVal KV Qc) K c 0x80000001fdffe000000000000000f81fffc2ffc00000003ff00000000003e0000000000000000100000 (k0_part68 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c) ⟨⟩ 0x80000001fdffe000000000000007f81fffc2fe000000003f80000000001fe0000000000000000100000 := by
  rw [k0_part68_eq_skeleton (F := F)]; unfold k0_part68_skel
  refine Steps.sendWait 10 (by decide) (by rfl) (cS2 10 (by decide)) (S₁ := 0x80000001fdffe000000000000001f81fffc2ff800000003fe00000000007e0000000000000000100000) (by decide +kernel) ?_
  refine Steps.sendWait 11 (by decide) (by rfl) (cS2 11 (by decide)) (S₁ := 0x80000001fdffe000000000000003f81fffc2ff000000003fc0000000000fe0000000000000000100000) (by decide +kernel) ?_
  refine Steps.sendWait 12 (by decide) (by rfl) (cS2 12 (by decide)) (S₁ := 0x80000001fdffe000000000000007f81fffc2fe000000003f80000000001fe0000000000000000100000) (by decide +kernel) ?_
  exact Steps.pure _ _

theorem part69_run : Steps KV Qc (OVal KV Qc) K c 0x80000001fdffe000000000000007f81fffc2fe000000003f80000000001fe0000000000000000100000 (k0_part69 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c) ⟨⟩ 0x80000001fdffe00000000000003ff81fffc2f0000000003c0000000000ffe0000000000000000100000 := by
  rw [k0_part69_eq_skeleton (F := F)]; unfold k0_part69_skel
  refine Steps.sendWait 13 (by decide) (by rfl) (cS2 13 (by decide)) (S₁ := 0x80000001fdffe00000000000000ff81fffc2fc000000003f00000000003fe0000000000000000100000) (by decide +kernel) ?_
  refine Steps.sendWait 14 (by decide) (by rfl) (cS1 14 (by decide)) (S₁ := 0x80000001fdffe00000000000001ff81fffc2f8000000003e00000000007fe0000000000000000100000) (by decide +kernel) ?_
  refine Steps.sendWait 15 (by decide) (by rfl) (cS1 15 (by decide)) (S₁ := 0x80000001fdffe00000000000003ff81fffc2f0000000003c0000000000ffe0000000000000000100000) (by decide +kernel) ?_
  exact Steps.pure _ _

end Cert.MeshAttn

end
-- ==== Proof.BodyRun.lean ====
/-
The stretches of the body joined.
-/
module

public import proofs.«01_k».proof.Proof.Parts1
public import proofs.«01_k».proof.Proof.Parts2
public import proofs.«01_k».proof.Proof.Parts3
public import proofs.«01_k».proof.Proof.Parts4

@[expose] public section

noncomputable section

namespace Cert.MeshAttn

open Cert.KernelIdeal Cert.KernelIdeal.Gen

open Idealize.ShloMosaic
open Idealize.ShloMosaic.TcCoe
open Idealize.SL Idealize.SL.RA Idealize.SL.BI

variable {F : FTy → Type} [FloatOps F]
variable {KV : (c : Dev nD) → (cc0_stg1_0 : Ref sig .tc).ty.Contents (Elt F)}
  {Qc : (c : Dev nD) → (cc0_stg0_0 : Ref sig .tc).ty.Contents (Elt F)}
  {K : Dev nD × Fin 41 → ℕ} {c : Dev nD}

/-- The first sixty stretches. -/
theorem part70_run : ∃ v1629 : BitVec 32, Steps KV Qc (OVal KV Qc) K c 0x80003c00000000000000000000000000fffe07fff0800001fffc2000e00000fbfff81ffffe00001 (k0_part70 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10) ⟨c, (M2 KV Qc c 3 0), (L2 KV Qc c 3 0), (A2 KV Qc c 3 0), (M2 KV Qc c 3 1), (L2 KV Qc c 3 1), (A2 KV Qc c 3 1), (M2 KV Qc c 3 2), (L2 KV Qc c 3 2), (A2 KV Qc c 3 2), (M2 KV Qc c 3 3), (L2 KV Qc c 3 3), (A2 KV Qc c 3 3), v1629, (L3 KV Qc c 0 0), (A3 KV Qc c 0 0), (L3 KV Qc c 0 1), (A3 KV Qc c 0 1), (L3 KV Qc c 0 2), (A3 KV Qc c 0 2), (L3 KV Qc c 0 3), (A3 KV Qc c 0 3), (L3 KV Qc c 1 0), (A3 KV Qc c 1 0), (L3 KV Qc c 1 1), (A3 KV Qc c 1 1), (L3 KV Qc c 1 2), (A3 KV Qc c 1 2), (L3 KV Qc c 1 3), (A3 KV Qc c 1 3), (L3 KV Qc c 2 0), (A3 KV Qc c 2 0), (L3 KV Qc c 2 1), (A3 KV Qc c 2 1), (L3 KV Qc c 2 2), (A3 KV Qc c 2 2), (L3 KV Qc c 2 3), (A3 KV Qc c 2 3)⟩ 0x8001fdffe000000000000000001fffc2fffe0000003fff800000000000000000000000000100000 := by
  obtain ⟨v2, v5, v8, v17, v18, v29, v31, c4_i32_20, h1⟩ := part1_run (F := F) (KV := KV) (Qc := Qc) (K := K) (c := c)
  obtain ⟨v57, v59, c4_i32_44, h2⟩ := part2_run (F := F) (KV := KV) (Qc := Qc) (K := K) (c := c) v2 v5 v8 v17 v18 v29 v31 c4_i32_20
  obtain ⟨v89, h3⟩ := part3_run (F := F) (KV := KV) (Qc := Qc) (K := K) (c := c) v2 v5 v8 v57 v59 c4_i32_44
  have h4 := part4_run (F := F) (KV := KV) (Qc := Qc) (K := K) (c := c) v2 v5 v8 v89
  obtain ⟨v146, c4_i32_131, h5⟩ := part5_run (F := F) (KV := KV) (Qc := Qc) (K := K) (c := c) v2 v5 v8 v17 v18
  obtain ⟨c8_i32_162, h6⟩ := part6_run (F := F) (KV := KV) (Qc := Qc) (K := K) (c := c) v2 v5 v8 v17 v146 c4_i32_131
  obtain ⟨c8_i32_192, h7⟩ := part7_run (F := F) (KV := KV) (Qc := Qc) (K := K) (c := c) v2 v5 v8 v18 c8_i32_162
  have h8 := part8_run (F := F) (KV := KV) (Qc := Qc) (K := K) (c := c) v2 v5 v8 v17 v18 c8_i32_192
  obtain ⟨v258, c0_i32_251, h9⟩ := part9_run (F := F) (KV := KV) (Qc := Qc) (K := K) (c := c) v2 v5 v8 v17 v18
  have h10 := part10_run (F := F) (KV := KV) (Qc := Qc) (K := K) (c := c) v5 v8 v17 v18 v258 c0_i32_251
  have h11 := part11_run (F := F) (KV := KV) (Qc := Qc) (K := K) (c := c)
  have h12 := part12_run (F := F) (KV := KV) (Qc := Qc) (K := K) (c := c)
  have h13 := part13_run (F := F) (KV := KV) (Qc := Qc) (K := K) (c := c) v2 v5 v8 v17 v18
  have h14 := part14_run (F := F) (KV := KV) (Qc := Qc) (K := K) (c := c) v2 v5 v8 v17 v18
  have h15 := part15_run (F := F) (KV := KV) (Qc := Qc) (K := K) (c := c)
  have h16 := part16_run (F := F) (KV := KV) (Qc := Qc) (K := K) (c := c)
  have h17 := part17_run (F := F) (KV := KV) (Qc := Qc) (K := K) (c := c) v5 v8 v17
  have h18 := part18_run (F := F) (KV := KV) (Qc := Qc) (K := K) (c := c) v2 v8 v18
  have h19 := part19_run (F := F) (KV := KV) (Qc := Qc) (K := K) (c := c) v5 v8 v17
  have h20 := part20_run (F := F) (KV := KV) (Qc := Qc) (K := K) (c := c)
  have h21 := part21_run (F := F) (KV := KV) (Qc := Qc) (K := K) (c := c)
  have h22 := part22_run (F := F) (KV := KV) (Qc := Qc) (K := K) (c := c)
  have h23 := part23_run (F := F) (KV := KV) (Qc := Qc) (K := K) (c := c)
  obtain ⟨v681, v695, v696, h24⟩ := part24_run (F := F) (KV := KV) (Qc := Qc) (K := K) (c := c) v5 v8 v17
  have h25 := part25_run (F := F) (KV := KV) (Qc := Qc) (K := K) (c := c) v8 v681 v695 v696
  have h26 := part26_run (F := F) (KV := KV) (Qc := Qc) (K := K) (c := c) v681
  have h27 := part27_run (F := F) (KV := KV) (Qc := Qc) (K := K) (c := c) v681
  have h28 := part28_run (F := F) (KV := KV) (Qc := Qc) (K := K) (c := c) v681
  have h29 := part29_run (F := F) (KV := KV) (Qc := Qc) (K := K) (c := c) v681
  have h30 := part30_run (F := F) (KV := KV) (Qc := Qc) (K := K) (c := c) v681
  have h31 := part31_run (F := F) (KV := KV) (Qc := Qc) (K := K) (c := c) v681
  have h32 := part32_run (F := F) (KV := KV) (Qc := Qc) (K := K) (c := c) v681
  have h33 := part33_run (F := F) (KV := KV) (Qc := Qc) (K := K) (c := c) v681
  have h34 := part34_run (F := F) (KV := KV) (Qc := Qc) (K := K) (c := c) v681
  have h35 := part35_run (F := F) (KV := KV) (Qc := Qc) (K := K) (c := c) v681
  have h36 := part36_run (F := F) (KV := KV) (Qc := Qc) (K := K) (c := c) v681
  obtain ⟨v1155, h37⟩ := part37_run (F := F) (KV := KV) (Qc := Qc) (K := K) (c := c) v5 v8 v17 v681
  have h38 := part38_run (F := F) (KV := KV) (Qc := Qc) (K := K) (c := c) v5 v8 v17 v1155
  have h39 := part39_run (F := F) (KV := KV) (Qc := Qc) (K := K) (c := c) v1155
  have h40 := part40_run (F := F) (KV := KV) (Qc := Qc) (K := K) (c := c) v1155
  have h41 := part41_run (F := F) (KV := KV) (Qc := Qc) (K := K) (c := c) v1155
  have h42 := part42_run (F := F) (KV := KV) (Qc := Qc) (K := K) (c := c) v1155
  have h43 := part43_run (F := F) (KV := KV) (Qc := Qc) (K := K) (c := c) v1155
  have h44 := part44_run (F := F) (KV := KV) (Qc := Qc) (K := K) (c := c) v1155
  have h45 := part45_run (F := F) (KV := KV) (Qc := Qc) (K := K) (c := c) v1155
  have h46 := part46_run (F := F) (KV := KV) (Qc := Qc) (K := K) (c := c) v1155
  have h47 := part47_run (F := F) (KV := KV) (Qc := Qc) (K := K) (c := c) v1155
  have h48 := part48_run (F := F) (KV := KV) (Qc := Qc) (K := K) (c := c) v1155
  have h49 := part49_run (F := F) (KV := KV) (Qc := Qc) (K := K) (c := c) v1155
  obtain ⟨v1629, v1631, c4_i32_1307, h50⟩ := part50_run (F := F) (KV := KV) (Qc := Qc) (K := K) (c := c) v8 v17 v1155
  have h51 := part51_run (F := F) (KV := KV) (Qc := Qc) (K := K) (c := c) v5 v8 v17 v1629 v1631 c4_i32_1307
  have h52 := part52_run (F := F) (KV := KV) (Qc := Qc) (K := K) (c := c) v1629
  have h53 := part53_run (F := F) (KV := KV) (Qc := Qc) (K := K) (c := c) v1629
  have h54 := part54_run (F := F) (KV := KV) (Qc := Qc) (K := K) (c := c) v1629
  have h55 := part55_run (F := F) (KV := KV) (Qc := Qc) (K := K) (c := c) v1629
  have h56 := part56_run (F := F) (KV := KV) (Qc := Qc) (K := K) (c := c) v1629
  have h57 := part57_run (F := F) (KV := KV) (Qc := Qc) (K := K) (c := c) v1629
  have h58 := part58_run (F := F) (KV := KV) (Qc := Qc) (K := K) (c := c) v1629
  have h59 := part59_run (F := F) (KV := KV) (Qc := Qc) (K := K) (c := c) v1629
  have h60 := part60_run (F := F) (KV := KV) (Qc := Qc) (K := K) (c := c) v1629
  refine ⟨v1629, ?_⟩
  rw [k0_part70_eq_skeleton (F := F)]; unfold k0_part70_skel
  refine Steps.bind h1 ?_
  refine Steps.bind h2 ?_
  refine Steps.bind h3 ?_
  refine Steps.bind h4 ?_
  refine Steps.bind h5 ?_
  refine Steps.bind h6 ?_
  refine Steps.bind h7 ?_
  refine Steps.bind h8 ?_
  refine Steps.bind h9 ?_
  refine Steps.bind h10 ?_
  refine Steps.bind h11 ?_
  refine Steps.bind h12 ?_
  refine Steps.bind h13 ?_
  refine Steps.bind h14 ?_
  refine Steps.bind h15 ?_
  refine Steps.bind h16 ?_
  refine Steps.bind h17 ?_
  refine Steps.bind h18 ?_
  refine Steps.bind h19 ?_
  refine Steps.bind h20 ?_
  refine Steps.bind h21 ?_
  refine Steps.bind h22 ?_
  refine Steps.bind h23 ?_
  refine Steps.bind h24 ?_
  refine Steps.bind h25 ?_
  refine Steps.bind h26 ?_
  refine Steps.bind h27 ?_
  refine Steps.bind h28 ?_
  refine Steps.bind h29 ?_
  refine Steps.bind h30 ?_
  refine Steps.bind h31 ?_
  refine Steps.bind h32 ?_
  refine Steps.bind h33 ?_
  refine Steps.bind h34 ?_
  refine Steps.bind h35 ?_
  refine Steps.bind h36 ?_
  refine Steps.bind h37 ?_
  refine Steps.bind h38 ?_
  refine Steps.bind h39 ?_
  refine Steps.bind h40 ?_
  refine Steps.bind h41 ?_
  refine Steps.bind h42 ?_
  refine Steps.bind h43 ?_
  refine Steps.bind h44 ?_
  refine Steps.bind h45 ?_
  refine Steps.bind h46 ?_
  refine Steps.bind h47 ?_
  refine Steps.bind h48 ?_
  refine Steps.bind h49 ?_
  refine Steps.bind h50 ?_
  refine Steps.bind h51 ?_
  refine Steps.bind h52 ?_
  refine Steps.bind h53 ?_
  refine Steps.bind h54 ?_
  refine Steps.bind h55 ?_
  refine Steps.bind h56 ?_
  refine Steps.bind h57 ?_
  refine Steps.bind h58 ?_
  refine Steps.bind h59 ?_
  refine Steps.bind h60 ?_
  exact Steps.pure _ _

/-- The last nine stretches. -/
theorem part71_run (v1629 : BitVec 32) : Steps KV Qc (OVal KV Qc) K c 0x8001fdffe000000000000000001fffc2fffe0000003fff800000000000000000000000000100000 (k0_part71 (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 c (M2 KV Qc c 3 0) (L2 KV Qc c 3 0) (A2 KV Qc c 3 0) (M2 KV Qc c 3 1) (L2 KV Qc c 3 1) (A2 KV Qc c 3 1) (M2 KV Qc c 3 2) (L2 KV Qc c 3 2) (A2 KV Qc c 3 2) (M2 KV Qc c 3 3) (L2 KV Qc c 3 3) (A2 KV Qc c 3 3) v1629 (L3 KV Qc c 0 0) (A3 KV Qc c 0 0) (L3 KV Qc c 0 1) (A3 KV Qc c 0 1) (L3 KV Qc c 0 2) (A3 KV Qc c 0 2) (L3 KV Qc c 0 3) (A3 KV Qc c 0 3) (L3 KV Qc c 1 0) (A3 KV Qc c 1 0) (L3 KV Qc c 1 1) (A3 KV Qc c 1 1) (L3 KV Qc c 1 2) (A3 KV Qc c 1 2) (L3 KV Qc c 1 3) (A3 KV Qc c 1 3) (L3 KV Qc c 2 0) (A3 KV Qc c 2 0) (L3 KV Qc c 2 1) (A3 KV Qc c 2 1) (L3 KV Qc c 2 2) (A3 KV Qc c 2 2) (L3 KV Qc c 2 3) (A3 KV Qc c 2 3)) ⟨⟩ 0x80000001fdffe0000000000001fff81fffc28000000000200000000007ffe0000000000000000100000 := by
  have h61 := part61_run (F := F) (KV := KV) (Qc := Qc) (K := K) (c := c) v1629
  have h62 := part62_run (F := F) (KV := KV) (Qc := Qc) (K := K) (c := c) v1629
  have h63 := part63_run (F := F) (KV := KV) (Qc := Qc) (K := K) (c := c) v1629
  have h64 := part64_run (F := F) (KV := KV) (Qc := Qc) (K := K) (c := c)
  have h65 := part65_run (F := F) (KV := KV) (Qc := Qc) (K := K) (c := c)
  have h66 := part66_run (F := F) (KV := KV) (Qc := Qc) (K := K) (c := c)
  have h67 := part67_run (F := F) (KV := KV) (Qc := Qc) (K := K) (c := c)
  have h68 := part68_run (F := F) (KV := KV) (Qc := Qc) (K := K) (c := c)
  have h69 := part69_run (F := F) (KV := KV) (Qc := Qc) (K := K) (c := c)
  rw [k0_part71_eq_skeleton (F := F)]; unfold k0_part71_skel
  refine Steps.bind h61 ?_
  refine Steps.bind h62 ?_
  refine Steps.bind h63 ?_
  refine Steps.bind h64 ?_
  refine Steps.bind h65 ?_
  refine Steps.bind h66 ?_
  refine Steps.bind h67 ?_
  refine Steps.bind h68 ?_
  refine Steps.bind h69 ?_
  refine Steps.sendWait 16 (by decide) (by rfl) (cS1 16 (by decide)) (S₁ := 0x80000001fdffe00000000000007ff81fffc2e000000000380000000001ffe0000000000000000100000) (by decide +kernel) ?_
  refine Steps.sendWait 17 (by decide) (by rfl) (cS1 17 (by decide)) (S₁ := 0x80000001fdffe0000000000000fff81fffc2c000000000300000000003ffe0000000000000000100000) (by decide +kernel) ?_
  refine Steps.sendWait 18 (by decide) (by rfl) (cS1 18 (by decide)) (S₁ := 0x80000001fdffe0000000000001fff81fffc28000000000200000000007ffe0000000000000000100000) (by decide +kernel) ?_
  exact Steps.pure _ _

/-- The whole body: from the resources of the start to those of the end. -/
theorem body_run : Steps KV Qc (OVal KV Qc) K c 0x80003c00000000000000000000000000fffe07fff0800001fffc2000e00000fbfff81ffffe00001 (cc0_body (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10) ⟨⟩ 0x80000006040000000000000003fff81fffc200000000000000000000000000000000000000000100000 := by
  obtain ⟨v1629, h70⟩ := part70_run (F := F) (KV := KV) (Qc := Qc) (K := K) (c := c)
  have h71 := part71_run (F := F) (KV := KV) (Qc := Qc) (K := K) (c := c) v1629
  rw [cc0_body_eq_skeleton (F := F)]; unfold cc0_body_skel
  refine Steps.bind h70 ?_
  refine Steps.bind h71 ?_
  refine Steps.sendWait 19 (by decide) (by rfl) (cS1 19 (by decide)) (S₁ := 0x80000001fdffe0000000000003fff81fffc2000000000000000000000fffe0000000000000000100000) (by decide +kernel) ?_
  refine Steps.ghost (S₁ := 0x80000009bde780000000000003fff81fffc2000000000000000000000f3ce0000000000000000100000) (by decide +kernel) slab_back1 ?_
  refine Steps.ghost (S₁ := 0x800000193d8600000000000003fff81fffc2000000000000000000000c30e0000000000000000100000) (by decide +kernel) slab_back2 ?_
  refine Steps.ghost (S₁ := 0x800000383c0000000000000003fff81fffc2000000000000000000000000e0000000000000000100000) (by decide +kernel) slab_back3 ?_
  refine Steps.ghost (S₁ := 0x800000042c0000000000000003fff81fffc2000000000000000000000000e0000000000000000100000) (by decide +kernel) all_back ?_
  refine Steps.ghost (S₁ := 0x80000006040000000000000003fff81fffc200000000000000000000000000000000000000000100000) (by decide +kernel) own_back ?_
  exact Steps.pure _ _

end Cert.MeshAttn

end
-- ==== Proof.Start.lean ====
/-
How a device's resources of the start come out of what the launch deals, and how its counters come back at the end.
-/
module

public import proofs.«01_k».proof.Proof.Pieces
public import Idealize.ShloMosaic.Harness.Basic

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of resources -/

omit [FloatOps F] in
/-- A family over `Fin (n + 1)` is its first member and the rest. -/
theorem bigSep_first {n : ℕ} (Φ : Fin (n + 1) → sProp 𝕄) :
    bigSep Finset.univ Φ = iprop(Φ 0 ∗ bigSep Finset.univ fun k : Fin n => Φ k.succ) := by
  have h : (Finset.univ : Finset (Fin (n + 1))).erase 0 = Finset.univ.map (Fin.succEmb n) := by
    ext i; simp only [Finset.mem_erase, Finset.mem_univ, and_true, Finset.mem_map, true_and, Fin.coe_succEmb]
    exact ⟨fun h => ⟨i.pred h, Fin.succ_pred i h⟩, fun ⟨j, hj⟩ => hj ▸ Fin.succ_ne_zero j⟩
  rw [bigSep_univ_at _ (0 : Fin (n + 1)), h, bigSep_map]
  rfl

section Families

variable (KV : (c : Dev nD) → (cc0_stg1_0 : Ref sig .tc).ty.Contents (Elt F))
  (Qc : (c : Dev nD) → (cc0_stg0_0 : Ref sig .tc).ty.Contents (Elt F))
  (OV : (c : Dev nD) → (cc0_stg2_0 : Ref sig .tc).ty.Contents (Elt F))
  (K : Dev nD × Fin 41 → ℕ) (c : Dev nD)

omit [FloatOps F] in
/-- A listed family of resources is the resources of its list. -/
theorem resL_family : ∀ {n : ℕ} (g : Fin n → Item), resL KV Qc OV c (List.ofFn g) = bigSep Finset.univ fun k => res KV Qc OV c (g k)
  | 0, g => by
    rw [List.ofFn_zero, show (Finset.univ : Finset (Fin 0)) = ∅ from rfl, BI.bigSep_empty]; rfl
  | n + 1, g => by rw [List.ofFn_succ, resL, resL_family fun k => g k.succ, bigSep_first]

omit [FloatOps F] in
/-- A listed family joins a set of resources. -/
theorem Inv_family {n : ℕ} (g : Fin n → Item) {S S' : ℕ} (h : putL (List.ofFn g) S = some S') :
    iprop((bigSep Finset.univ fun k => res KV Qc OV c (g k)) ∗ Inv KV Qc OV c S) ⊢ Inv KV Qc OV c S' := by
  rw [← resL_family]; exact Inv_put KV Qc OV c _ S S' h

omit [FloatOps F] in
/-- A listed family leaves a set of resources. -/
theorem Inv_unfamily {n : ℕ} (g : Fin n → Item) {S S' : ℕ} (h : takeL (List.ofFn g) S = some S') :
    Inv KV Qc OV c S ⊢ iprop((bigSep Finset.univ fun k => res KV Qc OV c (g k)) ∗ Inv KV Qc OV c S') := by
  rw [← resL_family]; exact Inv_take KV Qc OV c _ S S' h

omit [FloatOps F] in
/-- The empty set of resources. -/
theorem Inv_none : (iprop(emp) : sProp 𝕄) ⊢ Inv KV Qc OV c 0 := by
  have e : Inv KV Qc OV c 0 = bigSep Finset.univ fun _ : Item => (BI.emp : sProp 𝕄) :=
    bigSep_congr fun x _ => if_neg (by rw [Nat.zero_testBit]; decide)
  rw [e, BI.bigSep_emp_const]; exact BI.Entails.refl _

end Families

/-- The payment number of a cell that is waited for: the barrier, the fifteen receive cells, the fifteen send cells. -/
def pn (k : Fin 31) : Fin 21 := if k.val = 0 then 0 else if h : k.val < 16 then ⟨k.val + 4, by omega⟩ else ⟨k.val - 11, by have := k.isLt; omega⟩
/-- The cells that are waited for. -/
def posC (k : Fin 31) : Fin 41 := if k.val < 16 then evR (ev (pn k)) else evS (ev (pn k))
/-- The cells of the unused first semaphore of each array. -/
def idleC (k : Fin 10) : Fin 41 := ⟨4 * k.val + 1, by have := k.isLt; omega⟩
/-- The positions on the cells that are waited for, at the start and at the end. -/
def posI (k : Fin 31) : Item := if k.val < 16 then (7, pn k) else (8, pn k)
def donI (k : Fin 31) : Item := if k.val < 16 then (9, pn k) else (10, pn k)
/-- The tokens of a device's twenty payments and fifteen sends. -/
def tokI (k : Fin 35) : Item := if h : k.val < 20 then (1, ⟨k.val, by omega⟩) else (2, ⟨k.val - 15, by have := k.isLt; omega⟩)
/-- The credits of a device's barrier and its fifteen receive cells. -/
def creN (k : Fin 16) : Fin 21 := if k.val = 0 then 0 else ⟨k.val + 4, by have := k.isLt; omega⟩
def creI (k : Fin 16) : Item := (5, creN k)

theorem posC_injective : Function.Injective posC := by decide
theorem idleC_injective : Function.Injective idleC := by decide
theorem cells_disjoint : Disjoint (Finset.univ.map ⟨posC, posC_injective⟩) (Finset.univ.map ⟨idleC, idleC_injective⟩) := by decide
theorem cells_univ : (Finset.univ : Finset (Fin 41)) = Finset.univ.map ⟨posC, posC_injective⟩ ∪ Finset.univ.map ⟨idleC, idleC_injective⟩ := by decide
theorem idle_dset : ∀ k : Fin 10, dset (idleC k) = ∅ := by decide

omit [FloatOps F] in
/-- The forty-one cells are those waited for and the idle ones. -/
theorem bigSep_cells (Φ : Fin 41 → sProp 𝕄) :
    bigSep Finset.univ Φ = iprop((bigSep Finset.univ fun k : Fin 31 => Φ (posC k)) ∗ bigSep Finset.univ fun k : Fin 10 => Φ (idleC k)) := by
  rw [cells_univ, BI.bigSep_union cells_disjoint, bigSep_map, bigSep_map]
  rfl

section Launch

variable (KV : (c : Dev nD) → (cc0_stg1_0 : Ref sig .tc).ty.Contents (Elt F))
  (Qc : (c : Dev nD) → (cc0_stg0_0 : Ref sig .tc).ty.Contents (Elt F))
  (OV : (c : Dev nD) → (cc0_stg2_0 : Ref sig .tc).ty.Contents (Elt F))
  (K : Dev nD × Fin 41 → ℕ) (c : Dev nD)

omit [FloatOps F] in
theorem res_posI (k : Fin 31) : res KV Qc OV c (posI k) = atPos ER (cell (c, posC k)) 0 ∅ 0 := by
  unfold posI posC; split <;> rfl
omit [FloatOps F] in
theorem res_donI (k : Fin 31) : res KV Qc OV c (donI k) = atPos ER (cell (c, posC k)) 1 ∅ 0 := by
  unfold donI posC; split <;> rfl

/-- The positions on the idle cells. -/
def idle : sProp 𝕄 := bigSep Finset.univ fun k : Fin 10 => atPos ER (cell (c, idleC k)) 0 ∅ 0
/-- The invariants of all cells of all devices. -/
def invs : sProp 𝕄 := bigSep Finset.univ fun x : Dev nD × Fin 41 => cellInv ER (Rd KV) (K x) (cell x)
/-- The first round of every barrier has begun. -/
def bars : sProp 𝕄 := bigSep Finset.univ fun d : Dev nD => reached ER (cell (d, 0)) 0
instance invs_persistent : BI.Persistent (invs (F := F) KV K) := by unfold invs; infer_instance
instance bars_persistent : BI.Persistent (bars (F := F)) := by unfold bars; infer_instance
omit [FloatOps F] in
theorem invs_at (x : Dev nD × Fin 41) : invs (F := F) KV K ⊢ cellInv ER (Rd KV) (K x) (cell x) := by
  unfold invs; exact bigSep_elim (Finset.mem_univ x)
omit [FloatOps F] in
theorem bars_at (d : Dev nD) : bars (F := F) ⊢ reached ER (cell (d, 0)) 0 := by
  unfold bars; exact bigSep_elim (Finset.mem_univ d)

omit [FloatOps F] in
/-- A device opens its forty cells that the region brought: every first round has begun and it holds every position. -/
theorem open_cells : iprop(invs KV K ∗ bars ∗ atPos ER (cell (c, 0)) 0 ∅ 0
      ∗ (bigSep Finset.univ fun k : Fin 40 => openTok ER (cell (c, k.succ))) ∗ (bigSep Finset.univ fun k : Fin 40 => semVal (cell (c, k.succ)) 0))
    ⊢ (|={Set.univ}=> iprop(begun c ∗ (bigSep Finset.univ fun k => res KV Qc OV c (posI k)) ∗ idle c) : sProp 𝕄) := by
  have h1 : iprop(invs KV K ∗ bigSep Finset.univ fun k : Fin 40 => iprop(openTok ER (cell (c, k.succ)) ∗ semVal (cell (c, k.succ)) 0))
      ⊢ (|={Set.univ}=> bigSep Finset.univ fun k : Fin 40 => iprop(atPos ER (cell (c, k.succ)) 0 ∅ 0 ∗ reached ER (cell (c, k.succ)) 0) : sProp 𝕄) := by
    refine BI.Entails.trans (bigSep_with_persistent (R := invs KV K)
      (Ψ := fun k : Fin 40 => iprop(|={Set.univ}=> (atPos ER (cell (c, k.succ)) 0 ∅ 0 ∗ reached ER (cell (c, k.succ)) 0))) fun k _ => ?_) (bigSep_fupd _ _)
    iintro ⟨#HI, Ho, Hs⟩
    iapply (Rounds.cell_open ER (Rd KV) (κ := K (c, k.succ)) (g := cell (c, k.succ)) (Set.mem_univ _))
    isplitr; · iapply (invs_at KV K (c, k.succ)); iexact HI
    isplitl [Ho] <;> iassumption
  iintro ⟨#HI, #HB, Hat, Ho, Hs⟩
  imod h1 $$ [Ho Hs] with H
  · isplitr; · iexact HI
    iapply Idealize.ShloMosaic.Smoke.bigSep_pair
    isplitl [Ho] <;> iassumption
  imodintro
  ihave H' := Idealize.ShloMosaic.Smoke.bigSep_unpair $$ H
  icases H' with ⟨Hp, #Hr⟩
  isplitr
  · unfold begun; iapply (Entails.of_eq (bigSep_first fun i : Fin 41 => (reached ER (cell (c, i)) 0 : sProp 𝕄)).symm)
    isplitr; · iapply (bars_at c); iexact HB
    iexact Hr
  · have e : iprop((bigSep Finset.univ fun k => res KV Qc OV c (posI k)) ∗ idle c) = (bigSep Finset.univ fun i : Fin 41 => (atPos ER (cell (c, i)) 0 ∅ 0 : sProp 𝕄)) := by
      rw [bigSep_cells]; unfold idle; simp only [res_posI]
    rw [e]; iapply (Entails.of_eq (bigSep_first fun i : Fin 41 => (atPos ER (cell (c, i)) 0 ∅ 0 : sProp 𝕄)).symm)
    isplitl [Hat] <;> iassumption

omit [FloatOps F] in
/-- At the end a device closes all its cells and holds every counter at zero. -/
theorem close_cells : iprop(invs KV K ∗ (bigSep Finset.univ fun k => res KV Qc OV c (donI k)) ∗ idle c)
    ⊢ (|={Set.univ}=> iprop(semVal (cell (c, 0)) 0 ∗ bigSep Finset.univ fun k : Fin 40 => semVal (cell (c, k.succ)) 0) : sProp 𝕄) := by
  have h1 : iprop(invs KV K ∗ bigSep Finset.univ fun k : Fin 31 => res KV Qc OV c (donI k))
      ⊢ (|={Set.univ}=> bigSep Finset.univ fun k : Fin 31 => semVal (cell (c, posC k)) 0 : sProp 𝕄) := by
    refine BI.Entails.trans (bigSep_with_persistent (R := invs KV K) (Ψ := fun k : Fin 31 => iprop(|={Set.univ}=> semVal (cell (c, posC k)) 0)) fun k _ => ?_) (bigSep_fupd _ _)
    rw [res_donI]
    iintro ⟨#HI, Hp⟩
    iapply (Rounds.cell_close ER (Rd KV) (κ := K (c, posC k)) (g := cell (c, posC k)) (Set.mem_univ _) (fun h => h) (R := 1) (duties_later KV (cell (c, posC k))))
    isplitr; · iapply (invs_at KV K (c, posC k)); iexact HI
    iexact Hp
  have h2 : iprop(invs KV K ∗ idle c)
      ⊢ (|={Set.univ}=> bigSep Finset.univ fun k : Fin 10 => semVal (cell (c, idleC k)) 0 : sProp 𝕄) := by
    unfold idle
    refine BI.Entails.trans (bigSep_with_persistent (R := invs KV K) (Ψ := fun k : Fin 10 => iprop(|={Set.univ}=> semVal (cell (c, idleC k)) 0)) fun k _ => ?_) (bigSep_fupd _ _)
    iintro ⟨#HI, Hp⟩
    iapply (Rounds.cell_close ER (Rd KV) (κ := K (c, idleC k)) (g := cell (c, idleC k)) (Set.mem_univ _) (fun h => h) (R := 0) (fun r hr => by
      rcases Nat.eq_zero_or_pos r with rfl | h
      · rw [duties_cell, idle_dset]
      · exact duties_later KV (cell (c, idleC k)) r h))
    isplitr; · iapply (invs_at KV K (c, idleC k)); iexact HI
    iexact Hp
  iintro ⟨#HI, Hp, Hi⟩
  imod h1 $$ [Hp] with H1
  · isplitr; · iexact HI
    iexact Hp
  imod h2 $$ [Hi] with H2
  · isplitr; · iexact HI
    iexact Hi
  imodintro
  have e : iprop((bigSep Finset.univ fun k : Fin 31 => (semVal (cell (c, posC k)) 0 : sProp 𝕄)) ∗ bigSep Finset.univ fun k : Fin 10 => (semVal (cell (c, idleC k)) 0 : sProp 𝕄))
      = iprop(semVal (cell (c, 0)) 0 ∗ bigSep Finset.univ fun k : Fin 40 => semVal (cell (c, k.succ)) 0) := by
    rw [← bigSep_first (fun i : Fin 41 => (semVal (cell (c, i)) 0 : sProp 𝕄)), bigSep_cells]
  rw [← e]
  isplitl [H1] <;> iassumption

/-- What a device brings from the launch besides its buffers and positions: the tokens of its payments, the credits of its cells. -/
def dealt : sProp 𝕄 :=
  iprop((bigSep Finset.univ fun k => res KV Qc OV c (tokI k)) ∗ (bigSep Finset.univ fun k => res KV Qc OV c (creI k)))

theorem op1 : ∀ (c : Dev nD) (o r : Fin 4) (k : Fin 2), (slP (zc c) o r k && !(fun _ _ _ => true : Fin 4 → Fin 4 → Fin 2 → Bool) o r k) = false := by decide +kernel
theorem op2 : ∀ (c : Dev nD) (o r : Fin 4) (k : Fin 2), (gotP c 0 o r k && !dif (fun _ _ _ => true) (slP (zc c)) o r k) = false := by decide +kernel
theorem op3 : ∀ (c : Dev nD) (o r : Fin 4) (k : Fin 2), (gotP c 1 o r k && !dif (dif (fun _ _ _ => true) (slP (zc c))) (gotP c 0) o r k) = false := by decide +kernel
theorem op4 : ∀ (c : Dev nD) (o r : Fin 4) (k : Fin 2), (gotP c 2 o r k && !dif (dif (dif (fun _ _ _ => true) (slP (zc c))) (gotP c 0)) (gotP c 1) o r k) = false := by decide +kernel
theorem op5 : ∀ (c : Dev nD) (o r : Fin 4) (k : Fin 2), (gotP c 3 o r k && !dif (dif (dif (dif (fun _ _ _ => true) (slP (zc c))) (gotP c 0)) (gotP c 1)) (gotP c 2) o r k) = false := by decide +kernel
theorem op6 : ∀ (c : Dev nD) (o r : Fin 4) (k : Fin 2), dif (dif (dif (dif (dif (fun _ _ _ => true) (slP (zc c))) (gotP c 0)) (gotP c 1)) (gotP c 2)) (gotP c 3) o r k = gotP c 4 o r k := by decide +kernel

omit [FloatOps F] in
/-- The gathered buffer as the device's own slab and the parts it opens with its five signals. -/
theorem opened_split (q : PosShare TreeShare) (f : (cc0_scratch0 : Ref sig .tc).ty.Contents (Elt F)) : kvP (F := F) c (fun _ _ _ => true) q f
    = iprop(kvP c (slP (zc c)) q f ∗ kvP c (gotP c 0) q f ∗ kvP c (gotP c 1) q f ∗ kvP c (gotP c 2) q f ∗ kvP c (gotP c 3) q f ∗ kvP c (gotP c 4) q f) := by
  rw [kvP_peel (op1 c), kvP_peel (op2 c), kvP_peel (op3 c), kvP_peel (op4 c), kvP_peel (op5 c), kvP_same (op6 c)]

omit [FloatOps F] in
/-- The resources of the start, gathered from what the launch deals, the positions, and the buffers. -/
theorem start_inv : iprop(begun c ∗ dealt KV Qc OV c ∗ (bigSep Finset.univ fun k => res KV Qc OV c (posI k))
      ∗ (∃ W, owes (c : Thread nD τ) (osum c 0) W)
      ∗ (qM.view.loc (c : Thread nD τ) ↦[Finset.univ]{fullShare} Qc c) ∗ (sM.view.loc (c : Thread nD τ) ↦[Finset.univ]{fullShare} KV c)
      ∗ (∃ f, oM.view.loc (c : Thread nD τ) ↦[Finset.univ]{fullShare} f) ∗ (∃ f, kvP c (fun _ _ _ => true) fullShare f))
    ⊢ (Inv KV Qc OV c 0x80003c00000000000000000000000000fffe07fff0800001fffc2000e00000fbfff81ffffe00001 : sProp 𝕄) := by
  rw [own_parts]
  unfold dealt
  have e : resL KV Qc OV c [(0, 0), (3, 0), (3, 1), (3, 2), (3, 3), (3, 4), (4, 5), (4, 6), (4, 7), (14, 0), (14, 1), (14, 2), (14, 3), (15, 0)] = iprop((∃ W, owes (c : Thread nD τ) (osum c 0) W) ∗ opn c 0 ∗ opn c 1 ∗ opn c 2 ∗ opn c 3 ∗ opn c 4
      ∗ ownP KV c (me c) (fullShare : PosShare TreeShare).right.left ∗ ownP KV c (me c) (fullShare : PosShare TreeShare).right.right.left ∗ ownP KV c (me c) (fullShare : PosShare TreeShare).right.right.right
      ∗ (qM.view.loc (c : Thread nD τ) ↦[Finset.univ]{fullShare} Qc c) ∗ (sM.view.loc (c : Thread nD τ) ↦[Finset.univ]{(fullShare : PosShare TreeShare).left} KV c)
      ∗ (∃ f, kvP c (slP (zc c)) fullShare f) ∗ (sM.view.loc (c : Thread nD τ) ↦[Finset.univ \ R1 (me c)]{(fullShare : PosShare TreeShare).right} KV c)
      ∗ (∃ f, ⌜∀ i : S16x256x64.Idx, (i (0 : Fin 3)).val < 0 → f i = OV c i⌝ ∗ (oM.view.loc (c : Thread nD τ) ↦[Finset.univ]{fullShare} f)) ∗ emp) := rfl
  iintro ⟨#Hbg, ⟨Ht, Hc⟩, Hp, HO, Hq, ⟨Hl, ⟨H5, H6, H7⟩, Hr⟩, ⟨%fo, Ho⟩, ⟨%fk, Hk⟩⟩
  ihave Hk' := (Entails.of_eq (opened_split c fullShare fk)) $$ Hk
  icases Hk' with ⟨K0, K1, K2, K3, K4, K5⟩
  iapply (Inv_family KV Qc OV c tokI (S := 0x80003c00000000000000000000000000fffe07fff0800001fffc2000e00000f8000000000000001) (by decide +kernel))
  isplitl [Ht]; · iexact Ht
  iapply (Inv_family KV Qc OV c creI (S := 0x80003c00000000000000000000000000fffe07fff080000000000000e00000f8000000000000001) (by decide +kernel))
  isplitl [Hc]; · iexact Hc
  iapply (Inv_family KV Qc OV c posI (S := 0x80003c00000000000000000000000000000000000000000000000000e00000f8000000000000001) (by decide +kernel))
  isplitl [Hp]; · iexact Hp
  iapply (Inv_put KV Qc OV c [(0, 0), (3, 0), (3, 1), (3, 2), (3, 3), (3, 4), (4, 5), (4, 6), (4, 7), (14, 0), (14, 1), (14, 2), (14, 3), (15, 0)] 0 0x80003c00000000000000000000000000000000000000000000000000e00000f8000000000000001 (by decide +kernel))
  isplitl
  · rw [e]
    unfold opn
    isplitl [HO]; · iexact HO
    isplitl [K1]; · isplitl [K1]; · iexists fk; iexact K1
                    iexact Hbg
    isplitl [K2]; · isplitl [K2]; · iexists fk; iexact K2
                    iexact Hbg
    isplitl [K3]; · isplitl [K3]; · iexists fk; iexact K3
                    iexact Hbg
    isplitl [K4]; · isplitl [K4]; · iexists fk; iexact K4
                    iexact Hbg
    isplitl [K5]; · isplitl [K5]; · iexists fk; iexact K5
                    iexact Hbg
    isplitl [H5]; · iexact H5
    isplitl [H6]; · iexact H6
    isplitl [H7]; · iexact H7
    isplitl [Hq]; · iexact Hq
    isplitl [Hl]; · iexact Hl
    isplitl [K0]; · iexists fk; iexact K0
    isplitl [Hr]; · iexact Hr
    isplitl [Ho]
    · iexists fo; isplitr; · ipureintro; exact fun i h => absurd h (Nat.not_lt_zero _)
      iexact Ho
    iempintro
  · iapply (Inv_none KV Qc OV c); iempintro

omit [FloatOps F] in
/-- What a device has at the end: it owes nothing, its positions are past the first round, its buffers are back. -/
theorem end_inv : (Inv KV Qc OV c 0x80000006040000000000000003fff81fffc200000000000000000000000000000000000000000100000 : sProp 𝕄)
    ⊢ iprop((bigSep Finset.univ fun k => res KV Qc OV c (donI k)) ∗ (∃ W, owes (c : Thread nD τ) 0 W)
      ∗ (qM.view.loc (c : Thread nD τ) ↦[Finset.univ]{fullShare} Qc c) ∗ (sM.view.loc (c : Thread nD τ) ↦[Finset.univ]{fullShare} KV c)
      ∗ (oM.view.loc (c : Thread nD τ) ↦[Finset.univ]{fullShare} OV c) ∗ (∃ f, kvP c (fun _ _ _ => true) fullShare f)) := by
  iintro H
  ihave H1 := (Inv_unfamily KV Qc OV c donI (S := 0x80000006040000000000000003fff81fffc200000000000000000000000000000000000000000100000) (S' := 0x80000006040000000000000000000000000000000000000000000000000000000000000000000100000) (by decide +kernel)) $$ H
  icases H1 with ⟨Hd, H⟩
  ihave H2 := (Inv_take KV Qc OV c [(0, 20), (14, 0), (14, 7), (14, 8), (15, 16)] 0x80000006040000000000000000000000000000000000000000000000000000000000000000000100000 0 (by decide +kernel)) $$ H
  have e : resL KV Qc OV c [(0, 20), (14, 0), (14, 7), (14, 8), (15, 16)] = iprop((∃ W, owes (c : Thread nD τ) 0 W)
      ∗ (qM.view.loc (c : Thread nD τ) ↦[Finset.univ]{fullShare} Qc c) ∗ (sM.view.loc (c : Thread nD τ) ↦[Finset.univ]{fullShare} KV c)
      ∗ (∃ f, kvP c (fun _ _ _ => true) fullShare f)
      ∗ (∃ f, ⌜∀ i : S16x256x64.Idx, (i (0 : Fin 3)).val < 16 → f i = OV c i⌝ ∗ (oM.view.loc (c : Thread nD τ) ↦[Finset.univ]{fullShare} f)) ∗ emp) := rfl
  icases H2 with ⟨H2, -⟩
  ihave H3 := (Entails.of_eq e) $$ H2
  icases H3 with ⟨HO, Hq, Hs, Hk, ⟨%f, %hf, Ho⟩, -⟩
  have hf' : f = OV c := funext fun i => hf i (i (0 : Fin 3)).isLt
  subst hf'
  isplitl [Hd]; · iexact Hd
  isplitl [HO]; · iexact HO
  isplitl [Hq]; · iexact Hq
  isplitl [Hs]; · iexact Hs
  isplitl [Ho]; · iexact Ho
  iexact Hk

end Launch

end Cert.MeshAttn

end
-- ==== Proof.Launch.lean ====
/-
The whole program on all sixteen devices: the launch deals the tokens, credits and buffers, each device prepares its blocks,
runs the kernel's body, and rearranges the result.
-/
module

public import proofs.«01_k».proof.Proof.BodyRun
public import proofs.«01_k».proof.Proof.Start
public import proofs.«01_k».proof.Proof.Gen.KernelIdeal.Frame
public import Idealize.ShloMosaic.Lib.Pipeline.RegionTalk
public import Idealize.ShloMosaic.Lib.Pipeline.FrameSuffix

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- The query block of a device as the kernel reads it. -/
def Qin (c : Dev nD) : (cc0_stg0_0 : Ref sig .tc).ty.Contents (Elt F) := iblk m c 0 t0_0
/-- The key and value block of a device as the kernel reads it. -/
def KVin (c : Dev nD) : (cc0_stg1_0 : Ref sig .tc).ty.Contents (Elt F) := iblk m c 1 t0_0
/-- The result of a device as the kernel leaves it. -/
abbrev Oout (c : Dev nD) : (cc0_stg2_0 : Ref sig .tc).ty.Contents (Elt F) := OVal (KVin m) (Qin m) c

/-! ## The proof data of the region -/

/-- A device's gathered buffer, whole. -/
def kAny (c : Dev nD) : sProp 𝕄 := iprop(∃ f : Buf (Elt F) ((c : Thread nD τ).loc cc0_scratch0), ((c : Thread nD τ).loc cc0_scratch0) ↦{fullShare} f)
/-- The forty counters of a device that the region brings. -/
def osem (k : Fin 40) : SemLoc sig := csem k.succ

/-- What a device keeps from the launch until the region. -/
def Tk (c : Dev nD) : sProp 𝕄 :=
  iprop((∃ K, invs (KVin m) K ∗ bars) ∗ atPos ER (cell (c, 0)) 0 ∅ 0 ∗ (bigSep Finset.univ fun k : Fin 40 => openTok ER (cell (c, k.succ)))
    ∗ dealt (KVin m) (Qin m) (Oout m) c)
/-- The same once its cells are open. -/
def Xk (c : Dev nD) : sProp 𝕄 :=
  iprop((∃ K, invs (KVin m) K ∗ bars) ∗ begun c ∗ ((bigSep Finset.univ fun k => res (KVin m) (Qin m) (Oout m) c (posI k)) ∗ idle c)
    ∗ dealt (KVin m) (Qin m) (Oout m) c ∗ levAts L lv)

/-- Before the body. -/
def Φs (c : Dev nD) : sProp 𝕄 := iprop(Xk m c ∗ kAny c ∗ ∃ r, prngReg c r)
/-- After the body. -/
def Φe (c : Dev nD) : sProp 𝕄 :=
  iprop((semVal (cell (c, 0)) 0 ∗ bigSep Finset.univ fun k : Fin 40 => semVal (cell (c, k.succ)) 0) ∗ kAny c ∗ ∃ r, prngReg c r)

abbrev adm : (p : Fin 1) → (pcfgs (F := F) p).Adm := fun p => (cfgs p).toPCfg_adm

/-- The region's proof data: the blocks it reads, the block it writes, what it owes before and after. -/
def dat0 (c : Dev nD) : Dat τ (Elt F) Unit ℕ UU ℕ cfg0 c where
  A w := V m c (Pipeline.arrRef spec0 w)
  after w _ := match w with
    | ⟨0, _⟩ => Qin m c
    | ⟨1, _⟩ => KVin m c
    | ⟨2, _⟩ => Oout m c
  Φ t := match t with
    | ⟨0, _⟩ => Φs m c
    | ⟨_ + 1, _⟩ => Φe c
  q _ := fullShare
  owed t := match t with
    | ⟨0, _⟩ => osum c 0
    | ⟨_ + 1, _⟩ => 0

def pdats : (p : Fin 1) → (c : Dev nD) → Dat τ (Elt F) Unit ℕ UU ℕ (Pipeline.pin (pcfgs (F := F)) adm p) c
  | 0 => dat0 m

theorem Φ_first (c : Dev nD) : (dat0 m c).Φ t0_0.castSucc = Φs m c := rfl
theorem Φ_last (c : Dev nD) : (dat0 m c).Φ t0_0.succ = Φe c := rfl
theorem owed_first (c : Dev nD) : (dat0 m c).owed t0_0.castSucc = osum c 0 := rfl
theorem owed_last (c : Dev nD) : (dat0 m c).owed t0_0.succ = 0 := rfl
theorem last_eq : (Fin.last cfg0.N) = t0_0.succ := Fin.ext N_0

/-! ## The body -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem kAny_eq (c : Dev nD) : (kAny c : sProp 𝕄) = iprop(∃ f, kvP c (fun _ _ _ => true) fullShare f) := by
  unfold kAny kvP
  rw [show R3 (fun _ _ _ => true) = Finset.univ from by unfold R3; exact Finset.filter_true_of_mem fun _ _ => rfl]

/-- The staged block of a window, whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- An update may be left to the end of a program. -/
theorem wp_update (c : Dev nD) (p : Prog (TpuEff nD τ sig (Elt F) Λ₀ .tc) PUnit) (Kt : PUnit → sProp 𝕄) {P : sProp 𝕄}
    (h : P ⊢ wp frame (wpE (defs₀ (F := F)) 𝒱₀ c none) Set.univ p (fun v => iprop(|={Set.univ}=> Kt v))) :
    P ⊢ wp frame (wpE (defs₀ (F := F)) 𝒱₀ c none) Set.univ p Kt :=
  BI.Entails.trans h (wp_fupd frame (wpE (defs₀ (F := F)) 𝒱₀ c none) Set.univ p Kt)

/-- The body with its windows: from the blocks read to the block written. -/
theorem body_windows (c : Dev nD) (Kt : PUnit → sProp 𝕄) :
    iprop((Φs m c ∗ (dat0 m c).owesAt () t0_0.castSucc
        ∗ (∃ d, stg c cc0_stg0_0 ((dat0 m c).before (0 : Fin 3) t0_0 d)) ∗ (∃ d, stg c cc0_stg1_0 ((dat0 m c).before (1 : Fin 3) t0_0 d))
        ∗ (∃ d, stg c cc0_stg2_0 ((dat0 m c).before (2 : Fin 3) t0_0 d)))
      ∗ (iprop(Φe c ∗ (dat0 m c).owesAt () t0_0.succ ∗ stg c cc0_stg0_0 (Qin m c) ∗ stg c cc0_stg1_0 (KVin m c) ∗ stg c cc0_stg2_0 (Oout m c)) -∗ Kt ⟨⟩))
      ⊢ wp frame (wpE (defs₀ (F := F)) 𝒱₀ c none) Set.univ
          (cc0_body (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10) Kt := by
  refine wp_update c _ Kt ?_
  unfold Φs Φe Xk
  rw [kAny_eq]
  iintro ⟨⟨⟨⟨⟨%K, #HI, #HB⟩, #Hbg, ⟨Hp, Hid⟩, Hd, #Hlev⟩, Hk, Hreg⟩, Ho, ⟨%d0, %g0, %hg0, Hq⟩, ⟨%d1, %g1, %hg1, Hs⟩, ⟨%d2, %g2, %hg2, Hout⟩⟩, Hcont⟩
  have h0 : g0 = Qin m c := by rw [hg0]; unfold Dat.before; rw [if_pos (fetch0_0 t0_0)]; rfl
  have h1 : g1 = KVin m c := by rw [hg1]; unfold Dat.before; rw [if_pos (fetch0_1 t0_0)]; rfl
  subst h0 h1
  unfold Dat.owesAt Pipeline.owesWithin
  icases Ho with ⟨%W, %hW, HO⟩
  rw [owed_first, owed_last]
  have hb := body_run (F := F) (KV := KVin m) (Qc := Qin m) (K := K) (c := c)
  iapply ((show _ ⊢ _ from hb (fun v => iprop(|={Set.univ}=> Kt v)))) $$ [Hp Hd Hk Hq Hs Hout HO]
  · isplitr
    · unfold world
      isplitr; · iapply (Entails.of_eq (show invs (KVin m) K = bigSep Finset.univ fun x : Dev nD × Fin 41 => cellInv ER (Rd (KVin m)) (K x) (cell x) from rfl)); iexact HI
      isplitr
      · isplitr; · iapply (Entails.of_eq (show (bars : sProp 𝕄) = bigSep Finset.univ fun d : Dev nD => reached ER (cell (d, 0)) 0 from rfl)); iexact HB
        iexact Hbg
      iexact Hlev
    iapply (start_inv (KVin m) (Qin m) (Oout m) c)
    isplitr; · iexact Hbg
    isplitl [Hd]; · iexact Hd
    isplitl [Hp]; · iexact Hp
    isplitl [HO]; · iexists W; iexact HO
    isplitl [Hq]; · iexact Hq
    isplitl [Hs]; · iexact Hs
    isplitl [Hout]; · iexists g2; iexact Hout
    iexact Hk
  iintro HE
  ihave HE' := (end_inv (KVin m) (Qin m) (Oout m) c) $$ HE
  icases HE' with ⟨Hd, HO, Hq, Hs, Hout, Hk⟩
  imod (close_cells (KVin m) (Qin m) (Oout m) K c) $$ [Hd Hid] with Hsem
  · isplitr; · iexact HI
    isplitl [Hd] <;> iassumption
  imodintro
  iapply Hcont
  isplitl [Hsem Hk Hreg]
  · isplitl [Hsem]; · iexact Hsem
    isplitl [Hk] <;> iassumption
  isplitl [HO]
  · icases HO with ⟨%W', HO⟩
    iexists W'; isplitr; · ipureintro; exact fun _ _ => Or.inl trivial
    iexact HO
  isplitl [Hq]
  · iexists (Qin m c); isplitr; · ipureintro; rfl
    iexact Hq
  isplitl [Hs]
  · iexists (KVin m c); isplitr; · ipureintro; rfl
    iexact Hs
  · iexists (Oout m c); isplitr; · ipureintro; rfl
    iexact Hout

/-- The pipeline runs the kernel's body on the staged blocks. -/
theorem body_row : (defs₀ (F := F)) Proc.tc 0 (t0_0, cfg0.slots t0_0) =
    cc0_body (F := F) qM (Memref.isWhole_whole _) sM (Memref.isWhole_whole _) oM (Memref.isWhole_whole _) kM (Memref.isWhole_whole _) cc0_scratch1 cc0_scratch2 cc0_scratch3 cc0_scratch4 cc0_scratch5 cc0_scratch6 cc0_scratch7 cc0_scratch8 cc0_scratch9 cc0_scratch10 := by
  have h : (defs₀ (F := F)) Proc.tc 0 (t0_0, cfg0.slots t0_0) = bodyAt0 t0_0 := rfl
  rw [h]

/-- What the body enters with. -/
def bodyPre (c : Dev nD) : sProp 𝕄 :=
  iprop(Φs m c ∗ (dat0 m c).owesAt () t0_0.castSucc
    ∗ (∃ d, stg c cc0_stg0_0 ((dat0 m c).before (0 : Fin 3) t0_0 d)) ∗ (∃ d, stg c cc0_stg1_0 ((dat0 m c).before (1 : Fin 3) t0_0 d))
    ∗ (∃ d, stg c cc0_stg2_0 ((dat0 m c).before (2 : Fin 3) t0_0 d)))
/-- What the body leaves. -/
def bodyPost (c : Dev nD) : sProp 𝕄 :=
  iprop(Φe c ∗ (dat0 m c).owesAt () t0_0.succ ∗ stg c cc0_stg0_0 (Qin m c) ∗ stg c cc0_stg1_0 (KVin m c) ∗ stg c cc0_stg2_0 (Oout m c))

attribute [local irreducible] cc0_body in
set_option maxRecDepth 8000 in
/-- The body obligation of the region. -/
theorem body_obligation (c : Dev nD) : BodyObligation (dat0 (F := F) m c) (defs₀ (F := F)) 𝒱₀ () Set.univ := fun t => by
  rw [show t = t0_0 from fin_N0 t, Φ_first, Φ_last]
  rw [bigSep_W0, bigSep_W0]
  simp only [owns_whole (F := F)]
  rw [body_row]
  rw [show (dat0 m c).after 0 t0_0 = Qin m c from rfl, show (dat0 m c).after 1 t0_0 = KVin m c from rfl, show (dat0 m c).after 2 t0_0 = Oout m c from rfl]
  have h := body_windows m c (fun _ => bodyPost m c)
  have k : bodyPre m c ⊢ iprop(bodyPre m c ∗ (bodyPost m c -∗ bodyPost m c)) := by
    iintro H
    isplitl [H]; · iexact H
    iintro H; iexact H
  exact BI.Entails.trans k h

end Cert.MeshAttn

end
-- ==== Proof.Deal.lean ====
/-
What the launch deals the sixteen devices: the invariants of every cell, the positions, the rights to open, the tokens of the
payments and the credits of the waits.
-/
module

public import proofs.«01_k».proof.Proof.Launch

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def barEmb : Dev nD ↪ GSem nD τ sig := ⟨fun c => cell (c, 0), fun _ _ h => congrArg Prod.fst (cell_injective h)⟩
def ownEmb : Dev nD × Fin 40 ↪ GSem nD τ sig := ⟨fun x => cell (x.1, x.2.succ), fun x y h => by
  have h' := cell_injective h
  exact Prod.ext (congrArg (fun p : Dev nD × Fin 41 => p.1) h') (Fin.succ_injective _ (congrArg (fun p : Dev nD × Fin 41 => p.2) h'))⟩
def cellEmb : Dev nD × Fin 41 ↪ GSem nD τ sig := ⟨cell, cell_injective⟩

abbrev barCells : Finset (GSem nD τ sig) := Finset.univ.map barEmb
abbrev ownCells : Finset (GSem nD τ sig) := Finset.univ.map ownEmb

/-- No barrier cell is one of the cells the region brings. -/
theorem bar_own_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact Fin.succ_ne_zero x.2 (congrArg (fun p : Dev nD × Fin 41 => p.2) (cell_injective h))

/-- Together they are all the cells. -/
theorem bar_own_union : (barCells ∪ ownCells : Finset (GSem nD τ sig)) = Finset.univ.map cellEmb := by
  ext g
  simp only [Finset.mem_union, Finset.mem_map, Finset.mem_univ, true_and]
  constructor
  · rintro (⟨c, h⟩ | ⟨x, h⟩)
    · exact ⟨(c, 0), h⟩
    · exact ⟨(x.1, x.2.succ), h⟩
  · rintro ⟨⟨c, i⟩, h⟩
    induction i using Fin.cases with
    | zero => exact Or.inl ⟨c, h⟩
    | succ k => exact Or.inr ⟨(c, k), h⟩

/-- The receiver, the cell and the contributor of a device's token `k`. -/
def tokT (c : Dev nD) (k : Fin 35) : Dev nD := if h : k.val < 20 then evT c ⟨k.val, h⟩ else c
def tokC (k : Fin 35) : Fin 41 := if h : k.val < 20 then evR ⟨k.val, h⟩ else evS ⟨k.val - 15, by have := k.isLt; omega⟩
def tokD (k : Fin 35) : Fin 5 := if h : k.val < 20 then evD ⟨k.val, h⟩ else 0

theorem tok_key : ∀ k l : Fin 35, tokC k = tokC l → tokD k = tokD l → k = l := by decide +kernel
theorem tok_dev : ∀ (k : Fin 35) (c d : Dev nD), tokT c k = tokT d k → c = d := by decide +kernel

def tokEmb : Dev nD × Fin 35 ↪ GSem nD τ sig × ℕ × Fin 5 := ⟨fun x => (cell (tokT x.1 x.2, tokC x.2), 0, tokD x.2), by
  rintro ⟨c, k⟩ ⟨d, l⟩ h
  have h1 := cell_injective (congrArg (fun t : GSem nD τ sig × ℕ × Fin 5 => t.1) h)
  have h2 : tokD k = tokD l := congrArg (fun t : GSem nD τ sig × ℕ × Fin 5 => t.2.2) h
  have hk : k = l := tok_key k l (congrArg (fun p : Dev nD × Fin 41 => p.2) h1) h2
  subst hk
  have hc : c = d := tok_dev k c d (congrArg (fun p : Dev nD × Fin 41 => p.1) h1)
  subst hc
  rfl⟩
abbrev toks : Finset (GSem nD τ sig × ℕ × Fin 5) := Finset.univ.map tokEmb

theorem res_tokI (c : Dev nD) (k : Fin 35) : res (KVin m) (Qin m) (Oout m) c (tokI k) = dutyTok ER (cell (tokT c k, tokC k)) 0 (tokD k) := by
  have h : ∀ k : Fin 35, (k.val < 20 → ∃ h : k.val < 20, ev (tokI k).2 = ⟨k.val, h⟩ ∧ (tokI k).1 = 1)
      ∧ (¬ k.val < 20 → ev (tokI k).2 = ⟨k.val - 15, by have := k.isLt; omega⟩ ∧ (tokI k).1 = 2) := by decide +kernel
  by_cases hk : k.val < 20
  · obtain ⟨h', he, h1⟩ := (h k).1 hk
    unfold res tokT tokC tokD
    rw [h1, dif_pos h', dif_pos h', dif_pos h', ← he]; rfl
  · obtain ⟨he, h1⟩ := (h k).2 hk
    unfold res tokT tokC tokD
    rw [h1, dif_neg hk, dif_neg hk, dif_neg hk, ← he]; rfl

/-- The tokens, dealt to the devices that pay with them. -/
theorem toks_eq : bigSep toks (fun x => (dutyTok ER x.1 x.2.1 x.2.2 : sProp 𝕄))
    = bigSep Finset.univ fun c : Dev nD => bigSep Finset.univ fun k => res (KVin m) (Qin m) (Oout m) c (tokI k) := by
  unfold toks; rw [bigSep_map, bigSep_univ_prod]
  exact bigSep_congr fun c _ => bigSep_congr fun k _ => (res_tokI m c k).symm

/-! ## The credits -/

/-- What a list of payments owes one cell. -/
theorem osumL_cell (d c : Dev nD) (i : Fin 41) : ∀ l : List (Fin 20),
    osumL d l (cell (c, i)) () = (l.countP fun e => decide (evT d e = c ∧ evR e = i)) * amt i
  | [] => by rw [List.countP_nil, Nat.zero_mul]; rfl
  | e :: l => by
    rw [osumL, Pi.add_apply, Finsupp.add_apply, osumL_cell d c i l, tallyAt_apply, List.countP_cons, Nat.add_mul]
    congr 1
    by_cases h : evT d e = c ∧ evR e = i
    · rw [if_pos ⟨by rw [h.1, h.2], rfl⟩, if_pos (by simpa using h), Nat.one_mul, h.2]
    · rw [if_neg (fun h' => h (by
        have := cell_injective h'.1
        exact ⟨(congrArg (fun p : Dev nD × Fin 41 => p.1) this).symm, (congrArg (fun p : Dev nD × Fin 41 => p.2) this).symm⟩)),
        if_neg (by simpa using h), Nat.zero_mul]

theorem paid_count : ∀ (c : Dev nD) (k : Fin 16), (∑ d : Dev nD, ((List.finRange 20).countP fun e => decide (evT d e = c ∧ evR e = evR (ev (creN k)))))
    = if k.val = 0 then 5 else 1 := by decide +kernel

/-- A device's launch credit at one of the cells it waits for. -/
theorem launch_cell (c : Dev nD) (k : Fin 16) :
    tallyOn (cell (c, evR (ev (creN k)))) (launchCredit (Pipeline.owing fun d => osum d 0) 0 (cell (c, evR (ev (creN k)))))
      = (tallyAt (cell (c, evR (ev (creN k)))) () (if (creN k).val = 0 then 5 else amt (evR (ev (creN k)))) : CellTallies nD τ sig Unit) := by
  unfold tallyAt; refine congrArg _ (Finsupp.ext fun u => ?_); cases u
  rw [Pipeline.launchCredit_owing, Finsupp.single_eq_same, Finset.sum_congr rfl fun d _ => (show osum d 0 (cell (c, evR (ev (creN k)))) PUnit.unit = _ from osumL_cell d c (evR (ev (creN k))) ((List.finRange 20).drop 0)), ← Finset.sum_mul]
  have hk : ∀ k : Fin 16, ((creN k).val = 0 ↔ k.val = 0) ∧ (k.val = 0 → evR (ev (creN k)) = 0) := by decide
  have hs := paid_count c k
  have hd : (List.finRange 20).drop 0 = List.finRange 20 := rfl
  rw [hd, hs]
  by_cases h0 : k.val = 0
  · rw [if_pos h0, if_pos ((hk k).1.mpr h0), (hk k).2 h0]; rfl
  · rw [if_neg h0, if_neg (fun h => h0 ((hk k).1.mp h)), Nat.one_mul]

theorem creC_injective : Function.Injective fun k : Fin 16 => csem (evR (ev (creN k))) := by decide
/-- The launch credit holds the credits of a device's sixteen waits. -/
theorem creds (c : Dev nD) :
    (Pipeline.launchCred (fun d => osum d 0) c : sProp 𝕄) ⊢ bigSep Finset.univ fun k => res (KVin m) (Qin m) (Oout m) c (creI k) := by
  unfold Pipeline.launchCred
  refine BI.Entails.trans (BI.bigSep_subset (Finset.subset_univ (Finset.univ.map ⟨_, creC_injective⟩))) ?_
  rw [bigSep_map]
  refine Entails.of_eq (bigSep_congr fun k _ => ?_)
  exact (congrArg cred (launch_cell c k)).trans rfl

/-! ## The launch -/

/-- The launch's protocol state, all of it parked on the first device until the launch deals it. -/
def G₀ (c : Dev nD) : sProp 𝕄 := if c = 0 then BI.own (ER (launchOf barCells ownCells toks)) else iprop(emp)
omit [FloatOps F] in
theorem bigSep_G₀ : bigSep Finset.univ (G₀ (F := F)) = BI.own (ER (launchOf barCells ownCells toks)) := by
  rw [bigSep_univ_at _ (0 : Dev nD), bigSep_congr (s := Finset.univ.erase 0) (Ψ := fun _ => (BI.emp : sProp 𝕄))
      fun c hc => by unfold G₀; rw [if_neg (Finset.ne_of_mem_erase hc)]; rfl, BI.bigSep_emp_const]
  unfold G₀; rw [if_pos rfl]
  exact BI.equiv_iff.mp sep_emp

/-- The records every device may consult. -/
def records (κ : GSem nD τ sig → ℕ) : sProp 𝕄 := iprop(invs (KVin m) (fun x => κ (cell x)) ∗ bars)
instance records_persistent (κ : GSem nD τ sig → ℕ) : BI.Persistent (records m κ) := by unfold records; infer_instance

/-- What a device's launch holdings are besides the protocol's shares. -/
def bundle (c : Dev nD) : sProp 𝕄 :=
  iprop(StableHlo.held (c : Thread nD τ) (Pipeline.ucRefs τ sig) (fun b => m (c, b)) ∗ (bigSep Finset.univ fun k => res (KVin m) (Qin m) (Oout m) c (creI k))
    ∗ owes (c : Thread nD τ) (osum c 0) ∅ ∗ ∃ r, prngReg c r)
/-- What the launch deals a device of the protocol. -/
def share (c : Dev nD) : sProp 𝕄 :=
  iprop(atPos ER (cell (c, 0)) 0 ∅ 0 ∗ (bigSep Finset.univ fun k : Fin 40 => openTok ER (cell (c, k.succ)))
    ∗ bigSep Finset.univ fun k => res (KVin m) (Qin m) (Oout m) c (tokI k))

/-- What rides beside the buffers into the region. -/
def R₀ (c : Dev nD) : sProp 𝕄 := iprop((∃ r, prngReg c r) ∗ Tk m c ∗ ∃ W, owes (c : Thread nD τ) (osum c 0) W)
/-- What a device starts its program with. -/
abbrev T₀ (c : Dev nD) : sProp 𝕄 := iprop(StableHlo.held (c : Thread nD τ) (Pipeline.ucRefs τ sig) (fun b => m (c, b)) ∗ R₀ m c)

theorem T₀_intro (κ : GSem nD τ sig → ℕ) (c : Dev nD) : iprop(records m κ ∗ (share m c ∗ bundle m c)) ⊢ T₀ m c := by
  unfold records share bundle T₀ R₀ Tk dealt
  iintro ⟨⟨#HI, #HB⟩, ⟨Hat, Hop, Htk⟩, Hh, Hcr, HO, Hp⟩
  isplitl [Hh]; · iexact Hh
  isplitl [Hp]; · iexact Hp
  isplitr [HO]
  · isplitr
    · iexists (fun x => κ (cell x)); isplitr; · iexact HI
      iexact HB
    isplitl [Hat]; · iexact Hat
    isplitl [Hop]; · iexact Hop
    isplitl [Htk] <;> iassumption
  · iexists ∅; iexact HO

theorem unscopedSems0_eq (c : Dev nD) : (unscopedSems0 c : sProp 𝕄) = semVal (cell (c, 0)) 0 := by
  unfold unscopedSems0
  rw [show (Finset.univ.filter fun sm : SemLoc sig => ¬ sm.isScoped .tc) = {csem 0} from by decide, bigSep_singleton]

/-- From what the launch holds to what every device starts with. -/
theorem init :
    iprop((bigSep Finset.univ fun c : Dev nD => iprop(unscopedBufs c (fun b => m ((c : Thread nD τ).loc b)) ∗ unscopedSems0 c
          ∗ owes (c : Thread nD τ) (osum c 0) ∅ ∗ Pipeline.launchCred (fun d => osum d 0) c ∗ prngReg c (ρ c) ∗ G₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (osum c 0) ∅ ∗ Pipeline.launchCred (fun d => osum d 0) c ∗ prngReg c (ρ c) ∗ G₀ c)
      ⊢ (iprop(bundle m c ∗ (semVal (cell (c, 0)) 0 ∗ G₀ c)) : sProp 𝕄) := by
    rw [show unscopedBufs c (fun b => m ((c : Thread nD τ).loc b)) = StableHlo.held (c : Thread nD τ) (Pipeline.ucRefs τ sig) (fun b => m (c, b)) from
        Pipeline.unscopedBufs_held c (fun b => m (c, b)), unscopedSems0_eq]
    unfold bundle
    iintro ⟨Hh, Hus, HO, Hcr, Hp, HG⟩
    ihave Hc := (creds m c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell (c, 0)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bars :=
    Entails.of_eq (bigSep_map (s := Finset.univ) barEmb (Φ := fun g : GSem nD τ sig => (reached ER g 0 : sProp 𝕄)))
  have hi (κ : GSem nD τ sig → ℕ) : bigSep (barCells ∪ ownCells) (fun g => (cellInv ER (Rd (KVin m)) (κ g) g : sProp 𝕄)) ⊢ invs (KVin m) (fun x => κ (cell x)) := by
    rw [bar_own_union]
    exact Entails.of_eq (bigSep_map (s := Finset.univ) cellEmb (Φ := fun g : GSem nD τ sig => (cellInv ER (Rd (KVin m)) (κ g) g : sProp 𝕄)))
  have hat : bigSep barCells (fun g => (atPos ER g 0 ∅ 0 : sProp 𝕄)) ⊢ bigSep Finset.univ (fun c : Dev nD => (atPos ER (cell (c, 0)) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 40 => openTok ER (cell (c, k.succ))) :=
    Entails.of_eq (by
      rw [bigSep_map, bigSep_univ_prod]; rfl)
  have hall : (bigSep Finset.univ fun c : Dev nD => iprop(unscopedBufs c (fun b => m ((c : Thread nD τ).loc b)) ∗ unscopedSems0 c
          ∗ owes (c : Thread nD τ) (osum c 0) ∅ ∗ Pipeline.launchCred (fun d => osum d 0) c ∗ prngReg c (ρ c) ∗ G₀ c))
      ⊢ (bigSep Finset.univ fun c : Dev nD => iprop(bundle m c ∗ (semVal (cell (c, 0)) 0 ∗ G₀ c)) : sProp 𝕄) := bigSep_mono fun c _ => hcore c
  iintro ⟨H, -⟩
  ihave H' := hall $$ H
  ihave H2 := bigSep_unpair $$ H'; icases H2 with ⟨HB, H3⟩
  ihave H4 := bigSep_unpair $$ H3; icases H4 with ⟨Hv, HG⟩
  ihave Hu := (Entails.of_eq (bigSep_G₀ (F := F))) $$ HG
  imod (Rounds.fund_launch ER (Rd (KVin m)) bar_own_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share m c ∗ bundle m c)) fun c _ => T₀_intro m κ c)
  isplitr
  · unfold records
    isplitr; · iapply (hi κ); iexact Hinv
    iapply hr; iexact Hr
  iapply bigSep_pair
  isplitr [HB]
  · unfold share
    iapply bigSep_pair; isplitl [Hat]; · iapply hat $$ Hat
    iapply bigSep_pair; isplitl [Hopen]; · iapply hopen $$ Hopen
    iapply (Entails.of_eq (toks_eq m)) $$ Htok
  · iexact HB

end Cert.MeshAttn

end
-- ==== Proof.Run.lean ====
/-
The run: from any memory with zero counters, the program ends on all sixteen devices with its arguments unchanged, its result
rearranged from the kernel's, and every counter at zero.
-/
module

public import proofs.«01_k».proof.Proof.Deal

@[expose] public section

noncomputable section

namespace Cert.MeshAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

/-- The buffers that are no window's array. -/
abbrev Sr : Finset (DevRef τ sig) := Pipeline.ucRefs τ sig \ Pipeline.arrRefs (τ := τ) spec0
/-- The contents after the region. -/
def W' (c : Dev nD) : Valuation τ sig (Elt F) := Pipeline.withArrays spec0 c (V0 m c) (fun w => (dat0 m c).arrAt w cfg0.N)
/-- What the region leaves of the protocol: the barrier's counter at zero. -/
def Yk (c : Dev nD) : sProp 𝕄 := semVal (cell (c, 0)) 0

omit [FloatOps F] in
theorem held_none (c : Dev nD) (W : Valuation τ sig (Elt F)) : (StableHlo.held (c.tc : Thread nD τ) ∅ W : sProp 𝕄) = BI.emp := by
  unfold StableHlo.held; exact BI.bigSep_empty

theorem hopen0 (c : Dev nD) : iprop(Tk m c ∗ Pipeline.ownSems0 osem c ∗ levAts L lv) ⊢ (|={Set.univ}=> Xk m c : sProp 𝕄) := by
  unfold Tk Xk Pipeline.ownSems0 osem
  iintro ⟨⟨⟨%K, #HI, #HB⟩, Hat, Hop, Hd⟩, Hs, #Hlev⟩
  imod (open_cells (KVin m) (Qin m) (Oout m) K c) $$ [Hat Hop Hs] with ⟨#Hbg, Hp, Hid⟩
  · isplitr; · iexact HI
    isplitr; · iexact HB
    isplitl [Hat]; · iexact Hat
    isplitl [Hop]; · iexact Hop
    iexact Hs
  imodintro
  isplitr
  · iexists K; isplitr; · iexact HI
    iexact HB
  isplitr; · iexact Hbg
  isplitl [Hp Hid]; · isplitl [Hp] <;> iassumption
  isplitl [Hd]; · iexact Hd
  iexact Hlev

theorem hin0 (c : Dev nD) : iprop(Pipeline.scopedRest spec0 c ∗ (∃ r, prngReg c r) ∗ StableHlo.held (c.tc : Thread nD τ) ∅ (V0 m c) ∗ Xk m c)
    ⊢ Φs m c := by
  rw [scopedRest0_eq, held_none]
  unfold Φs kAny
  iintro ⟨Hs, Hp, -, HX⟩
  isplitl [HX]; · iexact HX
  isplitl [Hs] <;> iassumption

theorem hout0 (c : Dev nD) : (Φe c : sProp 𝕄)
    ⊢ iprop(Pipeline.scopedRest spec0 c ∗ (∃ r, prngReg c r) ∗ StableHlo.held (c.tc : Thread nD τ) ∅ (W' m c) ∗ Pipeline.ownSems0 osem c ∗ Yk c) := by
  rw [scopedRest0_eq, held_none]
  unfold Φe kAny Yk Pipeline.ownSems0 osem
  iintro ⟨⟨Hb, Hss⟩, Hs, Hp⟩
  isplitl [Hs]; · iexact Hs
  isplitl [Hp]; · iexact Hp
  isplitr; · iempintro
  isplitl [Hss] <;> iassumption

theorem osemFacts : Pipeline.OwnSemFacts spec0 osem := by decide
theorem evR_level : ∀ e : Fin 20, 0 < clv (evR e) := by decide
theorem stage_level : ∀ (w : Fin 3) (s : Fin (win0 w).nbuf), sidx (.dma ((win0 w).sem s)) = none ∨ (sidx (.dma ((win0 w).sem s))).elim 0 clv = 0 := by decide

/-- What a device owes while the region runs lies above the staging copies. -/
theorem cut0 : Pipeline.LevelCutOwed (pcfgs (F := F)) adm (pdats m) () L lv 0 (fun _ => 0) where
  hι _ _ _ := by rw [L_tc]; exact Finset.mem_singleton_self _
  hιb c w s := by
    have h := stage_level w s
    show (sidx (.dma ((win0 w).sem s))).elim 0 clv ≤ 0
    rcases h with h | h
    · rw [h]; exact Nat.le_refl 0
    · rw [h]
  hD c t g i h := by
    have e : 0 < osum c 0 g i → i ∈ L g ∧ (0 : ℕ) < lv g i := fun h => by
      obtain ⟨e, -, rfl⟩ := osumL_pos c _ h
      exact ⟨by rw [L_tc]; exact Finset.mem_singleton_self _, by rw [lv_cell]; exact evR_level e⟩
    obtain ⟨t, ht⟩ := t
    cases t with
    | zero => exact e h
    | succ t => exact absurd h (Nat.lt_irrefl 0)

theorem rest_off (c : Dev nD) : ∀ b ∈ Sr \ ∅, W' m c b = V0 m c b := by
  intro b hb
  rw [Finset.sdiff_empty] at hb
  have hn := (Finset.mem_sdiff.mp hb).2
  unfold W' Pipeline.withArrays
  rw [dif_neg]
  rintro ⟨w, rfl⟩
  exact hn (by
    unfold Pipeline.arrRefs
    exact Finset.mem_map.mpr ⟨_, Finset.mem_image.mpr ⟨w, Finset.mem_univ _, rfl⟩, rfl⟩)

theorem share_full (c : Dev nD) (w : Fin 3) : (dat0 m c).share w = fullShare := by
  unfold Dat.share; split <;> rfl

set_option backward.isDefEq.respectTransparency.types false in
/-- The kernel's region: entered from the prepared blocks, left with the result's array written. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osemFacts
    ∅ Sr (Finset.empty_subset _) launch0.toP rfl (fun c => (body_obligation m c).loose)
    (fun _ => 0) (fun c => osum c 0) (fun c => (zero_add (osum c 0)).symm) (fun c => by
      show (dat0 m c).owed (Fin.last cfg0.N) = 0
      rw [last_eq]; rfl) (fun _ => rfl) (share_full m)
    (V0 m) (W' m) (rest_off m)
    (Tk m) Yk (Xk m) Yk (hopen0 m) (hin0 m) (fun c => by
      show (dat0 m c).Φ (Fin.last cfg0.N) ⊢ _
      rw [last_eq]; exact hout0 m c)
    (fun c => by iintro H; imodintro; iexact H)
    (fun _ => 0) (cut0 m) (fun _ => iprop(emp))
    (fun _ _ => rfl) (fun c w => by
      unfold W'
      exact (Pipeline.withArrays_arr spec0 winFacts0.arr_inj c (V0 m c) (fun w => (dat0 m c).arrAt w cfg0.N) w).symm)

/-! ## The program's segments -/

/-- The host lines before the kernel. -/
def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (List.forall_iff_forall_mem.mp hostOps0_fresh)
    (fun c b => m (c, b)) (R₀ m)
/-- What rides beside the buffers after the region. -/
def R₁ (c : Dev nD) : sProp 𝕄 := iprop(semVal (cell (c, 0)) 0 ∗ ∃ W, owes (c : Thread nD τ) (0 : CellTallies nD τ sig Unit) W)
/-- The host lines after the kernel. -/
def seg1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) (List.forall_iff_forall_mem.mp hostOps1_fresh)
    (W' m) R₁
/-- What a device ends with. -/
abbrev Tₙ (c : Dev nD) : sProp 𝕄 := iprop(StableHlo.held (c : Thread nD τ) (Pipeline.ucRefs τ sig) (StableHlo.after hostOps1 (W' m c)) ∗ semVal (cell (c, 0)) 0)

theorem arr_sub : Pipeline.arrRefs (τ := τ) spec0 ⊆ Pipeline.ucRefs τ sig := Pipeline.arrRefs_sub_ucRefs spec0 winFacts0.arr_unscoped

theorem reg0_pre (c : Dev nD) : iprop(StableHlo.held (c : Thread nD τ) (Pipeline.ucRefs τ sig) (StableHlo.after hostOps0 (fun b => m (c, b))) ∗ R₀ m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + osum c 0) Wd)
  have e : V0 m c = StableHlo.after hostOps0 (fun b => m (c, b)) := by unfold V0; rw [List.flatten_cons, List.flatten_nil, List.append_nil]
  rw [zero_add, e, StableHlo.held_sub_split (c : Thread nD τ) arr_sub (StableHlo.after hostOps0 (fun b => m (c, b)))]
  unfold R₀
  iintro ⟨⟨Ha, Hh⟩, Hp, HT, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c ⊢ iprop(StableHlo.held (c : Thread nD τ) (Pipeline.ucRefs τ sig) (W' m c) ∗ R₁ c) := by
  show iprop(StableHlo.held (c.tc : Thread nD τ) (Pipeline.arrRefs (τ := τ) spec0) (W' m c) ∗ (∃ r, prngReg c r)
    ∗ (StableHlo.held (c.tc : Thread nD τ) Sr (W' m c) ∗ emp) ∗ Yk c ∗ ∃ Wd, owes (c : Thread nD τ) (0 : CellTallies nD τ sig Unit) Wd) ⊢ _
  rw [StableHlo.held_sub_split (c : Thread nD τ) arr_sub (W' m c)]
  unfold R₁ Yk
  iintro ⟨Ha, -, ⟨Hh, -⟩, Hb, HO⟩
  isplitl [Ha Hh]; · isplitl [Ha] <;> iassumption
  isplitl [Hb] <;> iassumption

/-- The program as its segments. -/
def segs : List (Pipeline.Seg (pcfgs (F := F)) adm (pdats m) () defs₀ 𝒱₀ L lv) := [.host (seg0 m), .region (reg0 m), .host (seg1 m)]

/-! ## The run -/

theorem unscoped_bar : ∀ sm : SemLoc sig, sm.isScoped .tc = false → sm = csem 0 := by decide

/-- The buffers a claim reads. -/
abbrev read4 : Finset (DevRef τ sig) :=
  {Proc.devRef .tc main_arg0, Proc.devRef .tc main_arg1, Proc.devRef .tc main_arg2, Proc.devRef .tc main_v14}
theorem read4_sub : read4 ⊆ Pipeline.ucRefs τ sig := by decide

theorem pick (c : Dev nD) (W : Valuation τ sig (Elt F)) : (StableHlo.held (c : Thread nD τ) (Pipeline.ucRefs τ sig) W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v14) ↦{fullShare} W (Proc.devRef .tc main_v14))) := by
  have e : (bigSep read4 (fun b => (((c, b) : Loc nD τ sig) ↦{fullShare} W b : sProp 𝕄)))
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_arg2) ↦{fullShare} W (Proc.devRef .tc main_arg2)) ∗ (((c : Thread nD τ).loc main_v14) ↦{fullShare} W (Proc.devRef .tc main_v14))) :=
    bigSep_eq_bigSepL_of_eq [Proc.devRef .tc main_arg0, Proc.devRef .tc main_arg1, Proc.devRef .tc main_arg2, Proc.devRef .tc main_v14] (by decide) (by decide) _
  rw [StableHlo.held_sub_split (c : Thread nD τ) read4_sub W, ← e]
  iintro ⟨H, -⟩
  unfold StableHlo.held
  iexact H

/-- An argument ends as it began. -/
theorem keeps (c : Dev nD) (b : Ref sig .tc) (h1 : ∀ op ∈ (hostOps1 : List (HloOp τ sig (Elt F))), Proc.devRef .tc b ∉ op.writes)
    (hb : ∀ w, Pipeline.arrRef spec0 w ≠ b) (h0 : V m c b = m ((c : Thread nD τ).loc b)) :
    StableHlo.after hostOps1 (W' m c) (Proc.devRef .tc b) = m ((c : Thread nD τ).loc b) := by
  rw [StableHlo.after_of_forall_not_mem (b := Proc.devRef .tc b) _ _ h1]
  unfold W'
  rw [Pipeline.withArrays_of_ne _ c (V0 m c) _ b hb]
  exact h0

/-- What a device's result holds at the end. -/
def result (c : Dev nD) : Buf (Elt F) ((c : Thread nD τ).loc main_v14) := StableHlo.after hostOps1 (W' m c) (Proc.devRef .tc main_v14)

set_option backward.isDefEq.respectTransparency.types false in
/-- The run: from any memory with zero counters every device ends, its arguments unchanged, its result the rearranged block of
the kernel, every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v14) = result m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg0 m) rfl rfl c]; exact BI.Entails.refl _)
    (by simp only [segs, Pipeline.Seg.pipes_host, Pipeline.Seg.pipes_region, Pipeline.Seg.pipes_nil]; decide)
    (O₀ := fun c => osum c 0) (hL := L_of_ne) (G := G₀)
    (u₀ := (initOf (Pipeline.cells (Pipeline.pin (pcfgs (F := F)) adm) cellOf_inj) (Pipeline.launchToks (Pipeline.pin (pcfgs (F := F)) adm) cellOf_inj),
      launchOf barCells ownCells toks))
    (hu₀ := by
      iintro Hu
      ihave H := (ownU_pair _ _) $$ Hu
      icases H with ⟨HP, HX⟩
      imodintro
      isplitl [HP]; · iexact HP
      rw [bigSep_G₀]; iexact HX)
    (T₀ := T₀ m) (Tₙ := Tₙ m)
    (hch := by
      refine ⟨fun c => .rfl, reg0_pre m, reg0_post m, fun c => ?_⟩
      show iprop(StableHlo.held (c : Thread nD τ) (Pipeline.ucRefs τ sig) (StableHlo.after hostOps1 (W' m c)) ∗ R₁ c)
        ⊢ iprop(Tₙ m c ∗ ∃ W, owes (c : Thread nD τ) (0 : CellTallies nD τ sig Unit) W)
      unfold R₁
      iintro ⟨Hh, Hb0, HO⟩
      isplitr [HO]
      · isplitl [Hh] <;> iassumption
      · iexact HO)
    (hinit := init m ρ)
    (QY := fun c s => (s.mem ((c : Thread nD τ).loc main_arg0) = StableHlo.after hostOps1 (W' m c) (Proc.devRef .tc main_arg0)
        ∧ s.mem ((c : Thread nD τ).loc main_arg1) = StableHlo.after hostOps1 (W' m c) (Proc.devRef .tc main_arg1)
        ∧ s.mem ((c : Thread nD τ).loc main_arg2) = StableHlo.after hostOps1 (W' m c) (Proc.devRef .tc main_arg2)
        ∧ s.mem ((c : Thread nD τ).loc main_v14) = StableHlo.after hostOps1 (W' m c) (Proc.devRef .tc main_v14))
      ∧ s.sem (cell (c, 0)) = 0)
    (hfin := fun c s' => by
      dsimp only [Tₙ]
      iintro ⟨⟨Hh, Hb0⟩, HSI⟩
      ihave H := (pick c (StableHlo.after hostOps1 (W' m c))) $$ Hh
      icases H with ⟨H0, H1, H2, H3⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        have hw : ∀ b : Ref sig .tc, b ≠ main_v13 → b ≠ main_v14 → ∀ op ∈ (hostOps1 : List (HloOp τ sig (Elt F))), Proc.devRef .tc b ∉ op.writes := by
          intro b h13 h14 op hop
          simp only [hostOps1, List.mem_cons, List.mem_nil_iff, _root_.or_false] at hop
          rcases hop with rfl | rfl
          all_goals simp only [StableHlo.unary_writes, StableHlo.reshape_writes, Finset.mem_singleton]
          · exact StableHlo.devRef_ne_of_ne h13
          · exact StableHlo.devRef_ne_of_ne h14
        rw [keeps m c main_arg0 (hw _ (by decide) (by decide)) (by exact (by decide : ∀ w, Pipeline.arrRef spec0 w ≠ main_arg0)) (V_main_arg0 m c)] at h0
        rw [keeps m c main_arg1 (hw _ (by decide) (by decide)) (by exact (by decide : ∀ w, Pipeline.arrRef spec0 w ≠ main_arg1)) (V_main_arg1 m c)] at h1
        rw [keeps m c main_arg2 (hw _ (by decide) (by decide)) (by exact (by decide : ∀ w, Pipeline.arrRef spec0 w ≠ main_arg2)) (V_main_arg2 m c)] at h2
        exact ⟨⟨h0, h1, h2⟩, h3⟩,
      sem_eq_zero hs fun c sm hsm => by
        obtain rfl := unscoped_bar sm hsm
        exact (h c).2⟩)

end Cert.MeshAttn

end
-- ==== Proof.Ref.lean ====
/-
The reference's run: one device, a straight line of host operations over the whole arrays.
-/
module

public import proofs.«01_k».proof.Proof.Gen.ReferenceIdeal
public import Idealize.ShloMosaic.Lib.StableHlo.Run
public import Idealize.ShloMosaic.Lib.Quiescent

@[expose] public section

noncomputable section

namespace Cert.MeshAttn.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S2x1024x8x64_S2x1024x8x64_S2x8x1024x1024_3_3_1_1_02_02 none l r),
    nullary main_cst (constant S_ .f32 0x3E000000#32),
    unary main_cst main_v3 (broadcastInDim S2x8x1024x1024 ![] bcast_S_S2x8x1024x1024),
    binary main_v2 main_v3 main_v4 mulf,
    nullary main_cst_0 (constant S_ .f32 0xFF800000#32),
    binary main_v4 main_cst_0 main_v5 (fun x v => Host.reduce FloatOps.maximumf x v reducesTo_S2x8x1024x1024_S2x8x1024_d3 h_S_),
    unary main_v5 main_v6 (broadcastInDim S2x8x1024x1 ![0, 1, 2] bcast_S2x8x1024_S2x8x1024x1_0_1_2),
    unary main_v6 main_v7 (broadcastInDim S2x8x1024x1024 ![0, 1, 2, 3] bcast_S2x8x1024x1_S2x8x1024x1024_0_1_2_3),
    binary main_v4 main_v7 main_v8 subf,
    unary main_v8 main_v9 Host.exp,
    nullary main_cst_1 (constant S_ .f32 0x00000000#32),
    binary main_v9 main_cst_1 main_v10 (fun x v => Host.reduceAdd x v reducesTo_S2x8x1024x1024_S2x8x1024_d3 h_S_),
    unary main_v10 main_v11 (broadcastInDim S2x8x1024x1 ![0, 1, 2] bcast_S2x8x1024_S2x8x1024x1_0_1_2),
    unary main_v11 main_v12 (broadcastInDim S2x8x1024x1024 ![0, 1, 2, 3] bcast_S2x8x1024x1_S2x8x1024x1024_0_1_2_3),
    binary main_v9 main_v12 main_v13 Host.divf,
    unary main_arg2 main_v14 (extf .f32 · bitsLt_bf16_f32),
    binary main_v14 main_v13 main_v15 (fun l r => Host.dotGeneral dot_S2x1024x8x64_S2x8x1024x1024_S2x8x64x1024_1_3_3_2_02_01 none l r),
    unary main_v15 main_v16 (transpose S2x1024x8x64 [0, 3, 1, 2] · transposes_S2x8x64x1024_S2x1024x8x64_0_3_1_2) ]

/-- The reference's program is that straight line. -/
theorem main_line (c : Dev nD) : main (F := F) c = seq ops := rfl

/-- Scores of every query row against every key row, scaled. -/
def scores (q k : FVec F S2x1024x8x64 .bf16) : FVec F S2x8x1024x1024 .f32 :=
  mulf (Host.dotGeneral dot_S2x1024x8x64_S2x1024x8x64_S2x8x1024x1024_3_3_1_1_02_02 none
      (extf .f32 q bitsLt_bf16_f32) (extf .f32 k bitsLt_bf16_f32))
    (broadcastInDim S2x8x1024x1024 ![] bcast_S_S2x8x1024x1024 (constant S_ .f32 0x3E000000#32))
/-- One number a query row, spread along the keys. -/
def spread (x : FVec F S2x8x1024 .f32) : FVec F S2x8x1024x1024 .f32 :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)
/-- Exponentials of the scores less their row's maximum. -/
def weights (s : FVec F S2x8x1024x1024 .f32) : FVec F S2x8x1024x1024 .f32 :=
  Host.exp (subf s (spread (Host.reduce FloatOps.maximumf s (constant S_ .f32 0xFF800000#32)
    reducesTo_S2x8x1024x1024_S2x8x1024_d3 h_S_)))
/-- Weights divided by their row's sum. -/
def shares (p : FVec F S2x8x1024x1024 .f32) : FVec F S2x8x1024x1024 .f32 :=
  Host.divf p (spread (Host.reduceAdd p (constant S_ .f32 0x00000000#32) reducesTo_S2x8x1024x1024_S2x8x1024_d3 h_S_))
/-- The reference's result of its three arguments. -/
def attn (q k v : FVec F S2x1024x8x64 .bf16) : FVec F S2x1024x8x64 .f32 :=
  transpose S2x1024x8x64 [0, 3, 1, 2]
    (Host.dotGeneral dot_S2x1024x8x64_S2x8x1024x1024_S2x8x64x1024_1_3_3_2_02_01 none
      (extf .f32 v bitsLt_bf16_f32) (shares (weights (scores q k))))
    transposes_S2x8x64x1024_S2x1024x8x64_0_3_1_2

/-- The operations leave the result buffer at `attn` of the arguments. -/
theorem out_at (V : Valuation τ sig (Elt F)) : after ops V (main_v16 : DevRef τ sig)
    = attn (V (main_arg0 : DevRef τ sig)) (V (main_arg1 : DevRef τ sig)) (V (main_arg2 : DevRef τ sig)) := by
  after_results
  rfl
/-- No operation writes the first argument, -/
theorem arg0_at (V : Valuation τ sig (Elt F)) : after ops V (main_arg0 : DevRef τ sig) = V (main_arg0 : DevRef τ sig) := by
  after_results
/-- the second, -/
theorem arg1_at (V : Valuation τ sig (Elt F)) : after ops V (main_arg1 : DevRef τ sig) = V (main_arg1 : DevRef τ sig) := by
  after_results
/-- or the third. -/
theorem arg2_at (V : Valuation τ sig (Elt F)) : after ops V (main_arg2 : DevRef τ sig) = V (main_arg2 : DevRef τ sig) := by
  after_results

/-- No buffer of the program is scoped, -/
theorem no_scoped_refs : (Finset.univ.filter fun b : Ref sig .tc => b.isScoped) = ∅ := by decide
/-- and no semaphore. -/
theorem no_scoped_sems : (Finset.univ.filter fun sm : SemLoc sig => sm.isScoped .tc) = ∅ := by decide

/-- The operations touch the device's own buffers only. -/
theorem ops_within : (ops : List (HloOp τ sig (Elt F))).Forall fun op => op.bufs ⊆ tcRefs τ sig :=
  ⟨unary_bufs_sub .., unary_bufs_sub .., binary_bufs_sub .., nullary_bufs_sub .., unary_bufs_sub ..,
    binary_bufs_sub .., nullary_bufs_sub .., binary_bufs_sub .., unary_bufs_sub .., unary_bufs_sub ..,
    binary_bufs_sub .., unary_bufs_sub .., nullary_bufs_sub .., binary_bufs_sub .., unary_bufs_sub ..,
    unary_bufs_sub .., binary_bufs_sub .., unary_bufs_sub .., binary_bufs_sub .., unary_bufs_sub ..⟩

/-- The reference ends on its one device with `attn` of its arguments, the arguments unchanged and no counter raised. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v16)
          = attn (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v16).trans (out_at _), (h c main_arg0).trans (arg0_at _),
      (h c main_arg1).trans (arg1_at _), (h c main_arg2).trans (arg2_at _)⟩, sem_eq_zero_of_no_sems (by decide) r.2⟩)
    (run_seq no_scoped_refs no_scoped_sems defs main (fun _ => ops) main_line (fun _ => ops_within) m ρ)

end Cert.MeshAttn.Ref

end
-- ==== Proof.Frames.lean ====
/-
The frames: what every run leaves of the arguments and the counters, for the three programs.
-/
module

public import proofs.«01_k».proof.Defs
public import proofs.«01_k».proof.Proof.Gen.Kernel
public import proofs.«01_k».proof.Proof.Run
public import proofs.«01_k».proof.Proof.Ref

@[expose] public section

noncomputable section

namespace Cert.MeshAttn

open Idealize.ShloMosaic Idealize.SL.Sem

/-- The kernel read over the extended reals ends with its arguments unchanged and every counter at zero. -/
theorem frame_ideal : Cert.quiescent_KernelIdeal := fun m ρ _ =>
  (θ_run Cert.KernelIdeal.defs _ _).mono (fun _ h => ⟨fun c => (h.1 c).1, h.2⟩) (run_main (F := Ideal) m ρ)

/-- The kernel's run read over words. -/
theorem run_words (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).1, h.2⟩) (run_main (F := Bits) m ρ)

/-- The two readings call the same body, -/
theorem tables_same : Cert.Kernel.defs₀ (F := Bits) = Cert.KernelIdeal.defs₀ (F := Bits) := by
  refine congrArg Defs.onTc (funext fun ℓ => funext fun x => ?_)
  match ℓ, x with
  | 0, (t, s) => exact rfl
  | ⟨n + 1, h⟩, _ => exact absurd h (Nat.not_lt.2 (Nat.le_add_left _ _))
/-- so they have the same table. -/
theorem defs_same : Cert.Kernel.defs (F := Bits) = Cert.KernelIdeal.defs (F := Bits) :=
  congrArg (Pipeline.defs (Cert.KernelIdeal.pcfgs (F := Bits))) tables_same

/-- The kernel read over words ends likewise: it is the same text. -/
theorem frame_kernel : Cert.quiescent_Kernel := fun m ρ _ =>
  (congrArg (fun d => θ_run d (onTc (τ := Cert.KernelIdeal.τ) (Cert.KernelIdeal.main (F := Bits))) ⟨m, fun _ => 0, ρ⟩ _)
    defs_same).mpr (run_words m ρ)

/-- The reference ends with its arguments unchanged and every counter at zero. -/
theorem frame_reference : Cert.quiescent_ReferenceIdeal := fun m ρ _ =>
  (θ_run Cert.ReferenceIdeal.defs _ _).mono (fun _ h => ⟨fun c => (h.1 c).2, h.2⟩) (Ref.run_ref (F := Ideal) m ρ)

end Cert.MeshAttn

end
-- ==== Proof.Sides.lean ====
/-
The host operations around the kernel, read at one element: which element of an argument each element the kernel loads is, and
which element the kernel stores each element of the result is.
-/
module

public import proofs.«01_k».proof.Proof.Run
public import Idealize.ShloMosaic.Lib.Pipeline.ValueKit
public import Idealize.ShloMosaic.Lib.ValueLayout

@[expose] public section

set_option maxRecDepth 16384

noncomputable section

namespace Cert.MeshAttn

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

/-- An argument of the program on device `c`. -/
def argQ : FVec F S2x256x8x64 .bf16 := m ((c : Thread nD τ).loc main_arg0)
def argK : FVec F S2x256x8x64 .bf16 := m ((c : Thread nD τ).loc main_arg1)
def argV : FVec F S2x256x8x64 .bf16 := m ((c : Thread nD τ).loc main_arg2)

/-- The heads of one batch entry after the other, each a matrix. -/
def heads (x : FVec F S2x256x8x64 .bf16) : FVec F S16x256x64 .bf16 :=
  shapeCast S16x256x64 (transpose S2x8x256x64 [0, 2, 1, 3] x transposes_S2x256x8x64_S2x8x256x64_0_2_1_3) shapeCasts_S2x8x256x64_S16x256x64
/-- The same, in four groups of four. -/
def groups (x : FVec F S2x256x8x64 .bf16) : FVec F S4x1x4x256x64 .bf16 :=
  broadcastInDim S4x1x4x256x64 ![0, 2, 3, 4] bcast_S4x4x256x64_S4x1x4x256x64_0_2_3_4 (shapeCast S4x4x256x64 (heads x) shapeCasts_S16x256x64_S4x4x256x64)

theorem queries_are : V0 m c (Proc.devRef .tc main_v2) = heads (argQ m c) := by
  unfold V0
  simp only [List.flatten_cons, List.flatten_nil, List.append_nil]
  after_results
  rfl

theorem pairs_are : V0 m c (Proc.devRef .tc main_v11) = concatenate S4x2x4x256x64 1 [⟨S4x1x4x256x64, groups (argK m c)⟩, ⟨S4x1x4x256x64, groups (argV m c)⟩]
    concatenates_S4x1x4x256x64_S4x1x4x256x64_S4x2x4x256x64_d1 := by
  unfold V0
  simp only [List.flatten_cons, List.flatten_nil, List.append_nil]
  after_results
  rfl

theorem Qin_eq : Qin m c = heads (argQ m c) := by
  rw [← queries_are]
  unfold Qin iblk
  funext i
  blk_simp
  refine congrArg (V0 m c (Proc.devRef .tc main_v2)) (funext fun a => Fin.ext ?_)
  fin_cases a <;> simp <;> rfl

theorem KVin_eq : KVin m c = concatenate S4x2x4x256x64 1 [⟨S4x1x4x256x64, groups (argK m c)⟩, ⟨S4x1x4x256x64, groups (argV m c)⟩]
    concatenates_S4x1x4x256x64_S4x1x4x256x64_S4x2x4x256x64_d1 := by
  rw [← pairs_are]
  unfold KVin iblk
  funext i
  blk_simp
  refine congrArg (V0 m c (Proc.devRef .tc main_v11)) (funext fun a => Fin.ext ?_)
  fin_cases a <;> simp <;> rfl

theorem stored : (dat0 m c).arrAt 2 cfg0.N = Oout m c := by
  refine (dat0 m c).arrAt_eq_of_after_last 2 t0_0 (by decide +kernel) _ fun j => ?_
  blk_simp
  rfl

theorem result_eq : result m c = transpose S2x256x8x64 [0, 2, 1, 3] (shapeCast S2x8x256x64 (Oout m c : FVec F S16x256x64 .f32) shapeCasts_S16x256x64_S2x8x256x64)
    transposes_S2x8x256x64_S2x256x8x64_0_2_1_3 := by
  unfold result
  after_results
  have h : W' m c (Proc.devRef .tc main_v12) = Oout m c := (Pipeline.withArrays_arr spec0 winFacts0.arr_inj c (V0 m c) _ 2).trans (stored m c)
  rw [h]
  rfl

/-- An element of a head. -/
theorem heads_at (x : FVec F S2x256x8x64 .bf16) (b : Fin 2) (h : Fin 8) (i : Fin 16) (hi : i.val = 8 * b.val + h.val) (r : Fin 256) (d : Fin 64) :
    heads x (ValueIdx.ix3 i r d) = x (ValueIdx.ix4 b r h d) := by
  unfold heads
  refine (shapeCast_apply _ _ (ValueIdx.ix3 i r d) (ValueIdx.ix4 b h r d) ?_).trans (transpose_apply _ _ _ (ValueIdx.ix4 b h r d) (ValueIdx.ix4 b r h d) fun a => by fin_cases a <;> rfl)
  rw [Shape.rowMajor_val_three, Shape.rowMajor_val_four]
  show ((b.val * 8 + h.val) * 256 + r.val) * 64 + d.val = (i.val * 256 + r.val) * 64 + d.val
  rw [hi]; ring

/-- An element of a head, in groups. -/
theorem groups_at (x : FVec F S2x256x8x64 .bf16) (b : Fin 2) (h : Fin 8) (j hh : Fin 4) (hi : 4 * j.val + hh.val = 8 * b.val + h.val) (r : Fin 256) (d : Fin 64)
    (u : Fin 1) : groups x (ValueIdx.ix5 j u hh r d) = x (ValueIdx.ix4 b r h d) := by
  unfold groups
  refine (broadcastInDim_apply _ _ _ (ValueIdx.ix5 j u hh r d) (ValueIdx.ix4 j hh r d) fun a => by fin_cases a <;> rfl).trans ?_
  refine (shapeCast_apply _ _ (ValueIdx.ix4 j hh r d) (ValueIdx.ix3 ⟨4 * j.val + hh.val, by omega⟩ r d) ?_).trans (heads_at x b h _ hi r d)
  rw [Shape.rowMajor_val_three, Shape.rowMajor_val_four]
  show ((4 * j.val + hh.val) * 256 + r.val) * 64 + d.val = ((j.val * 4 + hh.val) * 256 + r.val) * 64 + d.val
  ring

/-- A query element the kernel loads, -/
theorem Qin_at (b : Fin 2) (h : Fin 8) (i : Fin 16) (hi : i.val = 8 * b.val + h.val) (r : Fin 256) (d : Fin 64) :
    Qin m c (iO i r d) = argQ m c (ValueIdx.ix4 b r h d) := by
  rw [Qin_eq]; exact heads_at _ b h i hi r d

/-- a key element, -/
theorem KVin_key (b : Fin 2) (h : Fin 8) (j hh : Fin 4) (hi : 4 * j.val + hh.val = 8 * b.val + h.val) (r : Fin 256) (d : Fin 64) :
    KVin m c (iS j 0 hh r d) = argK m c (ValueIdx.ix4 b r h d) := by
  rw [KVin_eq]
  exact groups_at _ b h j hh hi r d 0

/-- a value element. -/
theorem KVin_value (b : Fin 2) (h : Fin 8) (j hh : Fin 4) (hi : 4 * j.val + hh.val = 8 * b.val + h.val) (r : Fin 256) (d : Fin 64) :
    KVin m c (iS j 1 hh r d) = argV m c (ValueIdx.ix4 b r h d) := by
  rw [KVin_eq]
  exact groups_at _ b h j hh hi r d 0

/-- An element of the result, as stored. -/
theorem result_at (b : Fin 2) (h : Fin 8) (i : Fin 16) (hi : i.val = 8 * b.val + h.val) (r : Fin 256) (d : Fin 64) :
    result m c (ValueIdx.ix4 b r h d) = Oout m c (iO i r d) := by
  rw [result_eq]
  refine (transpose_apply _ _ _ (ValueIdx.ix4 b r h d) (ValueIdx.ix4 b h r d) fun a => by fin_cases a <;> rfl).trans
    (shapeCast_apply _ _ (ValueIdx.ix4 b h r d) (iO i r d) ?_)
  rw [Shape.rowMajor_val_three, Shape.rowMajor_val_four]
  show (i.val * 256 + r.val) * 64 + d.val = ((b.val * 8 + h.val) * 256 + r.val) * 64 + d.val
  rw [hi]; ring

end Cert.MeshAttn

end
-- ==== Proof.Soft.lean ====
/-
Attention of one query row in extended reals: the running maximum, the running sum of weights and the running weighted sum of
values over the blocks of keys seen so far, what one more block does to them, and the weighted mean they end in.
-/
module

public import Idealize.ShloMosaic.PureOps.Ideal.Laws
public import Idealize.ShloMosaic.Lib.IdealHost

@[expose] public section

noncomputable section

namespace Cert.MeshAttn.Soft

open Idealize.ShloMosaic

variable (s : Fin 4 → Fin 256 → ℝ) (v : Fin 4 → Fin 256 → EReal) (B : Finset (Fin 4))

/-- The largest score of one block of keys. -/
def peak (b : Fin 4) : EReal := Finset.univ.sup fun j => ((s b j : ℝ) : EReal)
/-- The largest score of the blocks `B`. -/
def top : EReal := B.sup (peak s)
/-- The weight of a key, relative to `m`. -/
def wt (m : EReal) (b : Fin 4) (j : Fin 256) : EReal := Ideal.exp ((s b j : EReal) - m)
/-- The sum of the weights of the blocks `B`, relative to `m`. -/
def mass (m : EReal) : EReal := ∑ b ∈ B, ∑ j, wt s m b j
/-- The weighted sum of the values of the blocks `B`, relative to `m`. -/
def pull (m : EReal) : EReal := ∑ b ∈ B, ∑ j, wt s m b j * v b j

theorem peak_real (b : Fin 4) : ∃ μ : ℝ, peak s b = μ := by
  obtain ⟨j, -, h⟩ := Finset.exists_mem_eq_sup (Finset.univ : Finset (Fin 256)) ⟨0, Finset.mem_univ _⟩ (fun j => ((s b j : ℝ) : EReal))
  exact ⟨s b j, h⟩

/-- The largest score of some blocks is a real number. -/
theorem top_real (h : B.Nonempty) : ∃ μ : ℝ, top s B = μ := by
  obtain ⟨b, -, e⟩ := Finset.exists_mem_eq_sup B h (peak s)
  obtain ⟨μ, hμ⟩ := peak_real s b
  exact ⟨μ, e.trans hμ⟩

theorem wt_coe (μ : ℝ) (b : Fin 4) (j : Fin 256) : wt s μ b j = ((Real.exp (s b j - μ) : ℝ) : EReal) := by
  unfold wt; rw [← EReal.coe_sub, Ideal.exp_coe]

/-- Weights relative to one maximum become weights relative to another by one common factor. -/
theorem wt_shift (μ ν : ℝ) (b : Fin 4) (j : Fin 256) : wt s μ b j * Ideal.exp ((μ : EReal) - ν) = wt s ν b j := by
  rw [wt_coe, wt_coe, ← EReal.coe_sub, Ideal.exp_coe, ← EReal.coe_mul, ← Real.exp_add]
  congr 2; ring

/-- A real factor that is not negative goes inside a sum. -/
theorem sum_mul_real {ι : Type} (S : Finset ι) (f : ι → EReal) (r : ℝ) (hr : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (EReal.coe_nonneg.mpr hr) (EReal.coe_ne_top r), ih]

/-- A sum of reals, read as an extended real. -/
theorem sum_coe {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem mass_shift (μ ν : ℝ) : mass s B μ * Ideal.exp ((μ : EReal) - ν) = mass s B ν := by
  have he : Ideal.exp ((μ : EReal) - ν) = ((Real.exp (μ - ν) : ℝ) : EReal) := by rw [← EReal.coe_sub, Ideal.exp_coe]
  unfold mass
  rw [he, sum_mul_real _ _ _ (Real.exp_pos _).le]
  refine Finset.sum_congr rfl fun b _ => ?_
  rw [sum_mul_real _ _ _ (Real.exp_pos _).le]
  exact Finset.sum_congr rfl fun j _ => by rw [← he, wt_shift]

theorem pull_shift (μ ν : ℝ) : pull s v B μ * Ideal.exp ((μ : EReal) - ν) = pull s v B ν := by
  have he : Ideal.exp ((μ : EReal) - ν) = ((Real.exp (μ - ν) : ℝ) : EReal) := by rw [← EReal.coe_sub, Ideal.exp_coe]
  unfold pull
  rw [he, sum_mul_real _ _ _ (Real.exp_pos _).le]
  refine Finset.sum_congr rfl fun b _ => ?_
  rw [sum_mul_real _ _ _ (Real.exp_pos _).le]
  exact Finset.sum_congr rfl fun j _ => by rw [← he, mul_right_comm, wt_shift]

variable {B}

/-- One more block: the maximum, -/
theorem top_insert (b : Fin 4) : top s (insert b B) = max (top s B) (peak s b) := by
  unfold top; rw [Finset.sup_insert, sup_comm]

/-- the sum of the weights, -/
theorem mass_insert {b : Fin 4} (hb : b ∉ B) (h : B.Nonempty) :
    mass s (insert b B) (top s (insert b B))
      = mass s B (top s B) * Ideal.exp (top s B - top s (insert b B)) + ∑ j, wt s (top s (insert b B)) b j := by
  obtain ⟨μ, hμ⟩ := top_real s B h
  obtain ⟨ν, hν⟩ := top_real s (insert b B) (Finset.insert_nonempty b B)
  rw [hμ, hν, mass_shift]
  unfold mass
  rw [Finset.sum_insert hb, add_comm]

/-- the weighted sum. -/
theorem pull_insert {b : Fin 4} (hb : b ∉ B) (h : B.Nonempty) :
    pull s v (insert b B) (top s (insert b B))
      = pull s v B (top s B) * Ideal.exp (top s B - top s (insert b B)) + ∑ j, wt s (top s (insert b B)) b j * v b j := by
  obtain ⟨μ, hμ⟩ := top_real s B h
  obtain ⟨ν, hν⟩ := top_real s (insert b B) (Finset.insert_nonempty b B)
  rw [hμ, hν, pull_shift]
  unfold pull
  rw [Finset.sum_insert hb, add_comm]

/-- The sum of the weights is a positive real number. -/
theorem mass_pos (h : B.Nonempty) (μ : ℝ) : ∃ r : ℝ, 0 < r ∧ mass s B μ = r := by
  refine ⟨∑ b ∈ B, ∑ j, Real.exp (s b j - μ), Finset.sum_pos (fun b _ => Finset.sum_pos (fun j _ => Real.exp_pos _) ⟨0, Finset.mem_univ _⟩) h, ?_⟩
  unfold mass
  rw [sum_coe]
  refine Finset.sum_congr rfl fun b _ => ?_
  rw [sum_coe]
  exact Finset.sum_congr rfl fun j _ => wt_coe s μ b j

/-- The weighted sum over the sum of the weights is the mean with every weight first divided by that sum. -/
theorem mean_eq (h : B.Nonempty) : Ideal.div (pull s v B (top s B)) (mass s B (top s B))
    = ∑ b ∈ B, ∑ j, v b j * Ideal.div (wt s (top s B) b j) (mass s B (top s B)) := by
  obtain ⟨μ, hμ⟩ := top_real s B h
  obtain ⟨r, hr, hm⟩ := mass_pos s h μ
  rw [hμ, hm]
  have hd : ∀ x : EReal, Ideal.div x (r : EReal) = x * ((r⁻¹ : ℝ) : EReal) := fun x => by
    unfold Ideal.div; rw [if_neg (by exact_mod_cast hr.ne'), EReal.coe_inv]
  rw [hd]
  simp only [hd]
  unfold pull
  rw [sum_mul_real _ _ _ (inv_nonneg.mpr hr.le)]
  refine Finset.sum_congr rfl fun b _ => ?_
  rw [sum_mul_real _ _ _ (inv_nonneg.mpr hr.le)]
  exact Finset.sum_congr rfl fun j _ => by rw [mul_comm (wt s μ b j), mul_assoc]

end Cert.MeshAttn.Soft

end
-- ==== Proof.Flash.lean ====
/-
The online softmax step of the kernel, read at one query row and one column of the result, in extended reals.
-/
module

public import proofs.«01_k».proof.Proof.Rows
public import proofs.«01_k».proof.Proof.Soft
public import Idealize.ShloMosaic.Lib.MatmulPlain
public import Idealize.ShloMosaic.Lib.ValueLayout
public import Idealize.ShloMosaic.Lib.ValueLayoutCasts

@[expose] public section

noncomputable section

namespace Cert.MeshAttn

open Cert.KernelIdeal Cert.KernelIdeal.Gen
open Idealize.ShloMosaic Idealize.ShloMosaic.ValueIdx

/-- The scale `1/8` of the scores. -/
theorem eighth : Ideal.ofBits .f32 0x3E000000#32 = ((1 / 8 : ℝ) : EReal) := by
  simp [Ideal.ofBits, Ideal.ieee, -EReal.coe_mul]; norm_num
/-- The maximum starts at minus infinity. -/
theorem lowest : Ideal.ofBits .f32 0xFF800000#32 = ⊥ := by
  simp [Ideal.ofBits, Ideal.ieee]

variable (q k v : FVec Ideal S256x64 .bf16)

theorem sc_at (r j : Fin 256) : sc q k (ix2 r j) = (∑ d : Fin 64, q (ix2 r d) * k (ix2 j d)) * Ideal.ofBits .f32 0x3E000000#32 := by
  show (FloatOps.matmul (DotDims.transposedRhs 256 64 256) none q k (constant S256x256 .f32 0x00000000#32) (ix2 r j)) * Ideal.ofBits .f32 0x3E000000#32 = _
  rw [Ideal.matmul_transposedRhs_apply, constant_apply, Ideal.ofBits_zero_f32, zero_add]

theorem iM_at (r : Fin 256) (u : Fin 1) : iM q k (ix2 r u) = Finset.univ.sup fun j => sc q k (ix2 r j) := by
  unfold iM
  refine (shapeCast_a_a1_apply _ _ r u).trans ((Ideal.multiReduction_maximumf_single (a := (1 : Fin S256x256.rank)) (sc q k) _ reduces_S256x256_S256 _ _ (ix1 r)).trans ?_)
  have e : FloatOps.ofBits (F := Ideal) .f32 0xFF800000#32 = ⊥ := lowest
  rw [e]
  refine congrArg (Finset.fold max ⊥ · Finset.univ) (funext fun j => congrArg (sc q k) ?_)
  funext a; fin_cases a <;> rfl

theorem wts_at (m : FVec Ideal S256x1 .f32) (r j : Fin 256) : wts q k m (ix2 r j) = Ideal.exp (sc q k (ix2 r j) - m (ix2 r 0)) := by
  show Ideal.exp (sc q k (ix2 r j) - broadcastTo S256x256 m broadcasts_S256x1_S256x256 (ix2 r j)) = _
  rw [broadcastTo_apply m broadcasts_S256x1_S256x256 (ix2 r j) (ix2 r 0) (fun a => by fin_cases a <;> rfl)]

theorem rsum_at (p : FVec Ideal S256x256 .f32) (r : Fin 256) (u : Fin 1) : rsum p (ix2 r u) = ∑ j : Fin 256, p (ix2 r j) := by
  unfold rsum
  refine (shapeCast_a_a1_apply _ _ r u).trans ((Ideal.multiReduction_add_single (a := (1 : Fin S256x256.rank)) p _ reduces_S256x256_S256 _ _ (ix1 r)).trans ?_)
  refine Finset.sum_congr rfl fun j _ => congrArg p ?_
  funext a; fin_cases a <;> rfl

theorem wv_at (p : FVec Ideal S256x256 .bf16) (r : Fin 256) (d : Fin 64) : wv p v (ix2 r d) = ∑ j : Fin 256, p (ix2 r j) * v (ix2 j d) := by
  show FloatOps.matmul (DotDims.plain 256 256 64) none p v (constant S256x64 .f32 0x00000000#32) (ix2 r d) = _
  rw [Ideal.matmul_plain_apply, constant_apply, Ideal.ofBits_zero_f32, zero_add]

theorem spread_at (x : FVec Ideal S256x1 .f32) (r : Fin 256) (d : Fin 64) : broadcastTo S256x64 x broadcasts_S256x1_S256x64 (ix2 r d) = x (ix2 r 0) :=
  broadcastTo_apply x broadcasts_S256x1_S256x64 (ix2 r d) (ix2 r 0) (fun a => by fin_cases a <;> rfl)

/-- The running state of row `r`, column `d` is that of the blocks `B`. -/
structure Running (s : Fin 4 → Fin 256 → ℝ) (w : Fin 4 → Fin 256 → EReal) (r : Fin 256) (d : Fin 64) (B : Finset (Fin 4))
    (m l : FVec Ideal S256x1 .f32) (a : FVec Ideal S256x64 .f32) : Prop where
  max : m (ix2 r 0) = Soft.top s B
  sum : l (ix2 r 0) = Soft.mass s B (Soft.top s B)
  acc : a (ix2 r d) = Soft.pull s w B (Soft.top s B)

variable {q k v} {s : Fin 4 → Fin 256 → ℝ} {w : Fin 4 → Fin 256 → EReal} {r : Fin 256} {d : Fin 64} {b : Fin 4}
  {B : Finset (Fin 4)} {m l : FVec Ideal S256x1 .f32} {a : FVec Ideal S256x64 .f32}

theorem peak_at (hs : ∀ j, sc q k (ix2 r j) = (s b j : EReal)) (u : Fin 1) : iM q k (ix2 r u) = Soft.peak s b := by
  rw [iM_at]; exact Finset.sup_congr rfl fun j _ => hs j

/-- The first block starts it, -/
theorem Running.first (hs : ∀ j, sc q k (ix2 r j) = (s b j : EReal)) (hv : ∀ j, v (ix2 j d) = w b j) :
    Running s w r d {b} (iM q k) (rsum (wts q k (iM q k))) (wv (truncf .bf16 (wts q k (iM q k)) bitsLt_bf16_f32) v) := by
  have hm : iM q k (ix2 r 0) = Soft.top s {b} := by rw [peak_at hs]; unfold Soft.top; rw [Finset.sup_singleton]
  refine ⟨hm, ?_, ?_⟩
  · rw [rsum_at]; unfold Soft.mass; rw [Finset.sum_singleton]
    exact Finset.sum_congr rfl fun j _ => by rw [wts_at, hm, hs]; rfl
  · rw [wv_at]; unfold Soft.pull; rw [Finset.sum_singleton]
    exact Finset.sum_congr rfl fun j _ => by rw [truncf_apply, wts_at, hm, hs, hv]; rfl

/-- one more block carries it on, -/
theorem Running.next (h : Running s w r d B m l a) (hB : B.Nonempty) (hb : b ∉ B) (hs : ∀ j, sc q k (ix2 r j) = (s b j : EReal))
    (hv : ∀ j, v (ix2 j d) = w b j) : Running s w r d (insert b B) (nM m q k) (nL m l q k) (nA m a q k v) := by
  have hm : nM m q k (ix2 r 0) = Soft.top s (insert b B) := by
    unfold nM; rw [maximumf_apply, h.max, peak_at hs, Soft.top_insert]
  have hal : nAl m q k (ix2 r 0) = Ideal.exp (Soft.top s B - Soft.top s (insert b B)) := by
    show Ideal.exp (m (ix2 r 0) - nM m q k (ix2 r 0)) = _
    rw [hm, h.max]
  refine ⟨hm, ?_, ?_⟩
  · unfold nL; rw [addf_apply, mulf_apply, rsum_at, h.sum, hal, Soft.mass_insert s hb hB]
    exact congrArg _ (Finset.sum_congr rfl fun j _ => by rw [wts_at, hm, hs]; rfl)
  · unfold nA; rw [addf_apply, mulf_apply, wv_at, spread_at, h.acc, hal, Soft.pull_insert s w hb hB]
    exact congrArg _ (Finset.sum_congr rfl fun j _ => by rw [truncf_apply, wts_at, hm, hs, hv]; rfl)

/-- and the mean ends it. -/
theorem Running.mean_at (h : Running s w r d B m l a) (hB : B.Nonempty) (u : Fin 1) : mean l a (ix3 u r d)
    = ∑ b ∈ B, ∑ j, w b j * Ideal.div (Soft.wt s (Soft.top s B) b j) (Soft.mass s B (Soft.top s B)) := by
  obtain rfl : u = 0 := Subsingleton.elim _ _
  unfold mean
  refine (shapeCast_ab_1ab_apply _ _ 0 r d).trans ?_
  rw [divf_apply, spread_at, h.sum, h.acc, Soft.mean_eq s w hB]

end Cert.MeshAttn

end
-- ==== Proof.Heads.lean ====
/-
A finished head of the kernel, read at one element in extended reals: the weighted mean over all four blocks of keys, wherever
the visiting order starts.
-/
module

public import proofs.«01_k».proof.Proof.Flash
public import Idealize.ShloMosaic.Lib.ValueIdxRank6

@[expose] public section

noncomputable section

namespace Cert.MeshAttn

open Cert.KernelIdeal Cert.KernelIdeal.Gen
open Idealize.ShloMosaic Idealize.ShloMosaic.ValueIdx

section Loads

variable {F : FTy → Type} [FloatOps F]
variable (KV : (c : Dev nD) → (cc0_stg1_0 : Ref sig .tc).ty.Contents (Elt F))
  (Qc : (c : Dev nD) → (cc0_stg0_0 : Ref sig .tc).ty.Contents (Elt F)) (c : Dev nD) (j hh : Fin 4)

theorem qb_at (r : Fin 256) (d : Fin 64) : qb Qc c j hh (ix2 r d) = Qc c (iO ⟨4 * j.val + hh.val, by omega⟩ r d) := by
  unfold qb
  exact (shapeCast_1ab_ab_apply _ _ r d).trans rfl

theorem kb0_at (h : Fin 2) (r : Fin 256) (d : Fin 64) : kb0 KV c j h hh (ix2 r d) = KV c (iS j h hh r d) := by
  unfold kb0
  refine (shapeCast_apply _ _ (ix2 r d) (ix5 0 0 0 r d) ?_).trans rfl
  rw [Shape.rowMajor_val_two, Shape.rowMajor_val_five]
  show (((0 * 1 + 0) * 1 + 0) * 256 + r.val) * 64 + d.val = r.val * 64 + d.val
  simp only [Nat.zero_mul, Nat.zero_add]

theorem kb_at (k : Fin 3) (h : Fin 2) (r : Fin 256) (d : Fin 64) : kb KV c k j h hh (ix2 r d) = KV (dv (sl c k) j) (iS j h hh r d) := by
  unfold kb
  refine (shapeCast_apply _ _ (ix2 r d) (ix6 0 0 0 0 r d) ?_).trans ?_
  · rw [Shape.rowMajor_val_two, Shape.rowMajor_val_six]
    simp
  · show KV (dv (sl c k) j) _ = _
    refine congrArg (KV (dv (sl c k) j)) (funext fun a => ?_)
    fin_cases a <;> rfl

end Loads

theorem zc_dv : ∀ o r : Fin 4, zc (dv o r) = o := by decide
theorem first_new : ∀ c : Dev nD, sl c 0 ∉ ({zc c} : Finset (Fin 4)) := by decide
theorem second_new : ∀ c : Dev nD, sl c 1 ∉ (insert (sl c 0) {zc c} : Finset (Fin 4)) := by decide
theorem third_new : ∀ c : Dev nD, sl c 2 ∉ (insert (sl c 1) (insert (sl c 0) {zc c}) : Finset (Fin 4)) := by decide
theorem all_seen : ∀ c : Dev nD, (insert (sl c 2) (insert (sl c 1) (insert (sl c 0) {zc c})) : Finset (Fin 4)) = Finset.univ := by decide

variable (KV : (c : Dev nD) → (cc0_stg1_0 : Ref sig .tc).ty.Contents (Elt Ideal))
  (Qc : (c : Dev nD) → (cc0_stg0_0 : Ref sig .tc).ty.Contents (Elt Ideal)) (c : Dev nD) (j hh : Fin 4)

/-- A finished head at row `r`, column `d`, for the row's real scores `s` against the keys of each block and that column `w` of
each block's values. -/
theorem oRow_at (r : Fin 256) (d : Fin 64) (s : Fin 4 → Fin 256 → ℝ) (w : Fin 4 → Fin 256 → EReal)
    (hs : ∀ (c' : Dev nD) (i : Fin 256), (∑ e : Fin 64, (show EReal from Qc c (iO ⟨4 * j.val + hh.val, by omega⟩ r e)) * (show EReal from KV c' (iS j 0 hh i e)))
      * Ideal.ofBits .f32 0x3E000000#32 = (s (zc c') i : EReal))
    (hw : ∀ (c' : Dev nD) (i : Fin 256), (show EReal from KV c' (iS j 1 hh i d)) = w (zc c') i) :
    oRow KV Qc c j hh (ix3 0 r d) = ∑ b, ∑ i, w b i * Ideal.div (Soft.wt s (Soft.top s Finset.univ) b i) (Soft.mass s Finset.univ (Soft.top s Finset.univ)) := by
  have own : ∀ i, sc (qb Qc c j hh) (kb0 KV c j 0 hh) (ix2 r i) = (s (zc c) i : EReal) := fun i => by
    rw [sc_at, ← hs c i]
    exact congrArg (· * _) (Finset.sum_congr rfl fun e _ => by rw [qb_at, kb0_at])
  have far : ∀ (k : Fin 3) (i), sc (qb Qc c j hh) (kb KV c k j 0 hh) (ix2 r i) = (s (sl c k) i : EReal) := fun k i => by
    have h := hs (dv (sl c k) j) i
    rw [zc_dv] at h
    rw [sc_at, ← h]
    exact congrArg (· * _) (Finset.sum_congr rfl fun e _ => by rw [qb_at, kb_at])
  have farV : ∀ (k : Fin 3) (i), kb KV c k j 1 hh (ix2 i d) = w (sl c k) i := fun k i => by
    have h := hw (dv (sl c k) j) i
    rw [zc_dv] at h
    exact (kb_at KV c j hh k 1 i d).trans h
  have h0 : Running s w r d {zc c} (M0 KV Qc c j hh) (L0 KV Qc c j hh) (A0 KV Qc c j hh) :=
    Running.first own fun i => (kb0_at KV c j hh 1 i d).trans (hw c i)
  have h1 : Running s w r d _ (M1 KV Qc c j hh) (L1 KV Qc c j hh) (A1 KV Qc c j hh) :=
    h0.next (Finset.singleton_nonempty _) (first_new c) (far 0) (farV 0)
  have h2 : Running s w r d _ (M2 KV Qc c j hh) (L2 KV Qc c j hh) (A2 KV Qc c j hh) :=
    h1.next (Finset.insert_nonempty _ _) (second_new c) (far 1) (farV 1)
  have h3 : Running s w r d _ (M3 KV Qc c j hh) (L3 KV Qc c j hh) (A3 KV Qc c j hh) :=
    h2.next (Finset.insert_nonempty _ _) (third_new c) (far 2) (farV 2)
  rw [all_seen] at h3
  exact h3.mean_at Finset.univ_nonempty 0

end Cert.MeshAttn

end
-- ==== Proof.RefAt.lean ====
/-
The reference read at one element, in extended reals.
-/
module

public import proofs.«01_k».proof.Proof.Ref
public import proofs.«01_k».proof.Proof.Soft
public import Idealize.ShloMosaic.Lib.Pipeline.Value
public import Idealize.ShloMosaic.Lib.ValueIdx
public import Idealize.ShloMosaic.Lib.IdealHost

@[expose] public section

noncomputable section

namespace Cert.MeshAttn.Ref

open Cert.ReferenceIdeal Cert.ReferenceIdeal.Gen
open Idealize.ShloMosaic Idealize.ShloMosaic.ValueIdx

abbrev D1 := dot_S2x1024x8x64_S2x1024x8x64_S2x8x1024x1024_3_3_1_1_02_02
abbrev D2 := dot_S2x1024x8x64_S2x8x1024x1024_S2x8x64x1024_1_3_3_2_02_01

theorem D1_rank : D1.contr.rank = 1 := rfl
theorem D1_size : D1.contr.size ⟨0, by rw [D1_rank]; exact Nat.one_pos⟩ = 64 := rfl
theorem D2_rank : D2.contr.rank = 1 := rfl
theorem D2_size : D2.contr.size ⟨0, by rw [D2_rank]; exact Nat.one_pos⟩ = 1024 := rfl

variable (q k v : FVec Ideal S2x1024x8x64 .bf16) (b : Fin 2) (h : Fin 8) (r : Fin 1024) (d : Fin 64)

theorem scores_at (j : Fin 1024) : scores q k (ix4 b h r j)
    = (∑ e : Fin 64, q (ix4 b r h e) * k (ix4 b j h e)) * Ideal.ofBits .f32 0x3E000000#32 := by
  unfold scores
  rw [mulf_apply]
  refine congrArg₂ (· * ·) ?_ ?_
  · show FloatOps.dotGeneral D1 none _ (extf .f32 q bitsLt_bf16_f32) (extf .f32 k bitsLt_bf16_f32) (ix4 b h r j) = _
    rw [Ideal.dotGeneral_apply, ← Equiv.sum_comp (contrEquiv1 D1 64 D1_rank D1_size).symm]
    refine Finset.sum_congr rfl fun e _ => ?_
    have he := contrEquiv1_symm_val D1 64 D1_rank D1_size e
    rw [extf_apply, extf_apply]
    refine congrArg₂ (fun x y => q x * k y) (funext fun a => Fin.ext ?_) (funext fun a => Fin.ext ?_)
    · match a with
      | ⟨0, _⟩ => rfl
      | ⟨1, _⟩ => rfl
      | ⟨2, _⟩ => rfl
      | ⟨3, _⟩ => exact he
    · match a with
      | ⟨0, _⟩ => rfl
      | ⟨1, _⟩ => rfl
      | ⟨2, _⟩ => rfl
      | ⟨3, _⟩ => exact he
  · rw [broadcastInDim_scalar_apply, constant_apply]

theorem spread_at (x : FVec Ideal S2x8x1024 .f32) (j : Fin 1024) : spread x (ix4 b h r j) = x (ix3 b h r) := by
  unfold spread
  refine (broadcastInDim_apply _ _ _ (ix4 b h r j) (ix4 b h r 0) fun a => by fin_cases a <;> rfl).trans
    (broadcastInDim_apply _ _ _ (ix4 b h r 0) (ix3 b h r) fun a => by fin_cases a <;> rfl)

theorem lifts : S2x8x1024x1024.Reduces [3] S2x8x1024 := by decide

theorem rowmax_at (s : FVec Ideal S2x8x1024x1024 .f32) : Host.reduce FloatOps.maximumf s (constant S_ .f32 0xFF800000#32)
    reducesTo_S2x8x1024x1024_S2x8x1024_d3 h_S_ (ix3 b h r) = Finset.univ.sup fun j => s (ix4 b h r j) := by
  rw [Host.reduce_eq_fold_single (FloatOps.maximumf (F := Ideal) (φ := .f32)) s _ _ lifts]
  have e : (constant (F := Ideal) S_ .f32 0xFF800000#32) (Shape.Idx.first h_S_) = ⊥ := by
    rw [constant_apply]; simp [Ideal.ofBits, Ideal.ieee]
  rw [e]
  refine congrArg (Finset.fold max ⊥ · Finset.univ) (funext fun j => congrArg s ?_)
  funext a; fin_cases a <;> rfl

theorem rowsum_at (p : FVec Ideal S2x8x1024x1024 .f32) : Host.reduceAdd p (constant S_ .f32 0x00000000#32)
    reducesTo_S2x8x1024x1024_S2x8x1024_d3 h_S_ (ix3 b h r) = ∑ j : Fin 1024, p (ix4 b h r j) := by
  rw [hostReduceAdd_apply, Ideal.hostReduceAdd_single _ lifts, constant_apply, Ideal.ofBits_zero_f32, zero_add]
  refine Finset.sum_congr rfl fun j _ => congrArg p ?_
  funext a; fin_cases a <;> rfl

theorem attn_at : attn q k v (ix4 b r h d) = ∑ j : Fin 1024, v (ix4 b j h d) * shares (weights (scores q k)) (ix4 b h r j) := by
  unfold attn
  refine (transpose_apply _ _ _ (ix4 b r h d) (ix4 b h d r) fun a => by fin_cases a <;> rfl).trans ?_
  show FloatOps.dotGeneral D2 none _ (extf .f32 v bitsLt_bf16_f32) _ (ix4 b h d r) = _
  rw [Ideal.dotGeneral_apply, ← Equiv.sum_comp (contrEquiv1 D2 1024 D2_rank D2_size).symm]
  refine Finset.sum_congr rfl fun j _ => ?_
  have he := contrEquiv1_symm_val D2 1024 D2_rank D2_size j
  have el : D2.lhsIdx (ix4 b h d r) ((contrEquiv1 D2 1024 D2_rank D2_size).symm j) = ix4 b j h d := by
    funext a; apply Fin.ext
    match a with
    | ⟨0, _⟩ => rfl
    | ⟨1, _⟩ => exact he
    | ⟨2, _⟩ => rfl
    | ⟨3, _⟩ => rfl
  have er : D2.rhsIdx (ix4 b h d r) ((contrEquiv1 D2 1024 D2_rank D2_size).symm j) = ix4 b h r j := by
    funext a; apply Fin.ext
    match a with
    | ⟨0, _⟩ => rfl
    | ⟨1, _⟩ => rfl
    | ⟨2, _⟩ => rfl
    | ⟨3, _⟩ => exact he
  rw [el, er, extf_apply]

theorem exp_at {t : Shape} (x : FVec Ideal t .f32) (i : t.Idx) : Host.exp x i = Ideal.exp (x i) := rfl

theorem weights_at (s : FVec Ideal S2x8x1024x1024 .f32) (j : Fin 1024) : weights s (ix4 b h r j)
    = Ideal.exp (s (ix4 b h r j) - Finset.univ.sup fun i => s (ix4 b h r i)) := by
  unfold weights
  rw [exp_at, subf_apply, spread_at, rowmax_at]

theorem shares_at (p : FVec Ideal S2x8x1024x1024 .f32) (j : Fin 1024) : shares p (ix4 b h r j)
    = Ideal.div (p (ix4 b h r j)) (∑ i : Fin 1024, p (ix4 b h r i)) := by
  unfold shares
  rw [hostDivf_apply, spread_at, rowsum_at]

end Cert.MeshAttn.Ref

end
-- ==== Proof.Whole.lean ====
/-
The kernel's result on a device is that device's block of the reference's result, when every query and key is finite.
-/
module

public import proofs.«01_k».proof.Proof.Sides
public import proofs.«01_k».proof.Proof.Heads
public import proofs.«01_k».proof.Proof.RefAt
public import Idealize.ShloMosaic.Lib.Layout

@[expose] public section

noncomputable section

namespace Cert.MeshAttn

open Cert.KernelIdeal Cert.KernelIdeal.Gen
open Idealize.ShloMosaic Idealize.ShloMosaic.TcCoe

abbrev Arr : Shape := ⟨4, ![2, 1024, 8, 64]⟩

/-- The place in the whole sequence of row `i` of block `o`. -/
def key (o : Fin 4) (i : Fin 256) : Fin 1024 := ⟨256 * o.val + i.val, by omega⟩

theorem key_split (k : Fin 1024) : k = key ⟨k.val / 256, by omega⟩ ⟨k.val % 256, Nat.mod_lt _ (by decide)⟩ :=
  Fin.ext (Nat.div_add_mod k.val 256).symm

/-- A sum over the sequence, block by block, -/
theorem sum_key (f : Fin 1024 → EReal) : ∑ k, f k = ∑ o, ∑ i, f (key o i) := by
  rw [← Equiv.sum_comp (finProdFinEquiv (m := 4) (n := 256)), Fintype.sum_prod_type]
  exact Finset.sum_congr rfl fun o _ => Finset.sum_congr rfl fun i _ => congrArg f (Fin.ext (Nat.add_comm _ _))

/-- and a maximum. -/
theorem sup_key (f : Fin 1024 → EReal) : Finset.univ.sup f = Finset.univ.sup fun o => Finset.univ.sup fun i => f (key o i) := by
  refine le_antisymm (Finset.sup_le fun k _ => ?_) (Finset.sup_le fun o _ => Finset.sup_le fun i _ => Finset.le_sup (f := f) (Finset.mem_univ _))
  rw [key_split k]
  exact le_trans (Finset.le_sup (f := fun i => f (key _ i)) (Finset.mem_univ _))
    (Finset.le_sup (f := fun o => Finset.univ.sup fun i => f (key o i)) (Finset.mem_univ _))

section Reference

variable (Q K V : FVec Ideal Arr .bf16)

/-- The reference's result from the real scores of one query row. -/
theorem attn_real (b : Fin 2) (h : Fin 8) (R : Fin 1024) (d : Fin 64) (s : Fin 4 → Fin 256 → ℝ)
    (hs : ∀ o i, Ref.scores Q K (ValueIdx.ix4 b h R (key o i)) = (s o i : EReal)) :
    Ref.attn Q K V (ValueIdx.ix4 b R h d) = ∑ o, ∑ i, V (ValueIdx.ix4 b (key o i) h d)
      * Ideal.div (Soft.wt s (Soft.top s Finset.univ) o i) (Soft.mass s Finset.univ (Soft.top s Finset.univ)) := by
  have ht : (Finset.univ.sup fun i => Ref.scores Q K (ValueIdx.ix4 b h R i)) = Soft.top s Finset.univ := by
    rw [sup_key]
    exact Finset.sup_congr rfl fun o _ => Finset.sup_congr rfl fun i _ => hs o i
  have hw : ∀ o i, Ref.weights (Ref.scores Q K) (ValueIdx.ix4 b h R (key o i)) = Soft.wt s (Soft.top s Finset.univ) o i := fun o i => by
    rw [Ref.weights_at, ht, hs]; rfl
  have hm : (∑ i, Ref.weights (Ref.scores Q K) (ValueIdx.ix4 b h R i)) = Soft.mass s Finset.univ (Soft.top s Finset.univ) := by
    rw [sum_key]
    exact Finset.sum_congr rfl fun o _ => Finset.sum_congr rfl fun i _ => hw o i
  rw [Ref.attn_at, sum_key]
  refine Finset.sum_congr rfl fun o _ => Finset.sum_congr rfl fun i _ => ?_
  rw [Ref.shares_at, hm, hw]

/-- A score of finite queries and keys is a real number. -/
theorem scores_real (hQ : ∀ i, ∃ x : ℝ, Q i = (x : EReal)) (hK : ∀ i, ∃ x : ℝ, K i = (x : EReal)) (b : Fin 2) (h : Fin 8) (R k : Fin 1024) :
    ∃ x : ℝ, Ref.scores Q K (ValueIdx.ix4 b h R k) = (x : EReal) := by
  choose q hq using hQ
  choose g hg using hK
  refine ⟨(∑ e : Fin 64, q (ValueIdx.ix4 b R h e) * g (ValueIdx.ix4 b k h e)) * (1 / 8), ?_⟩
  rw [Ref.scores_at, eighth, EReal.coe_mul, Soft.sum_coe]
  exact congrArg (· * _) (Finset.sum_congr rfl fun e _ => by rw [hq, hg, EReal.coe_mul])

end Reference

/-- The block of a device, element by element. -/
theorem block_at (c : Dev nD) {α : Type} (v : Arr.Idx → α) (b : Fin 2) (r : Fin 256) (h : Fin 8) (d : Fin 64) :
    (Layout.blockN ⟨4, ![2, 256, 8, 64]⟩ Arr (Layout.meshBlock [2, 2, 4] ![[], [2], [], []] c) v : S2x256x8x64.Idx → α) (ValueIdx.ix4 b r h d)
      = v (ValueIdx.ix4 b (key (zc c) r) h d) := by
  rw [Layout.blockN_apply]
  refine congrArg v (funext fun a => Fin.ext ?_)
  match a with
  | ⟨0, _⟩ => show 0 * 2 + b.val = b.val; omega
  | ⟨1, _⟩ => show (c.val / 1 % 4 * 1 + 0) * 256 + r.val = 256 * (c.val % 4) + r.val; omega
  | ⟨2, _⟩ => show 0 * 8 + h.val = h.val; omega
  | ⟨3, _⟩ => show 0 * 64 + d.val = d.val; omega

variable (m : (ℓ : Loc nD τ sig) → Buf (Elt Ideal) ℓ) (Q K V : FVec Ideal Arr .bf16)

/-- Every device holds its blocks of the three whole arrays. -/
structure Cut : Prop where
  q : ∀ c, argQ m c = Layout.blockN ⟨4, ![2, 256, 8, 64]⟩ Arr (Layout.meshBlock [2, 2, 4] ![[], [2], [], []] c) Q
  k : ∀ c, argK m c = Layout.blockN ⟨4, ![2, 256, 8, 64]⟩ Arr (Layout.meshBlock [2, 2, 4] ![[], [2], [], []] c) K
  v : ∀ c, argV m c = Layout.blockN ⟨4, ![2, 256, 8, 64]⟩ Arr (Layout.meshBlock [2, 2, 4] ![[], [2], [], []] c) V

variable {m Q K V}

theorem zc_all : ∀ o : Fin 4, zc (dv o 0) = o := fun o => zc_dv o 0

/-- An array whose blocks are finite is finite. -/
theorem finite_whole (A : FVec Ideal Arr .bf16) (B : Dev nD → FVec Ideal S2x256x8x64 .bf16)
    (hB : ∀ c, B c = Layout.blockN ⟨4, ![2, 256, 8, 64]⟩ Arr (Layout.meshBlock [2, 2, 4] ![[], [2], [], []] c) A)
    (h : ∀ c i, ∃ x : ℝ, B c i = (x : EReal)) (i : Arr.Idx) : ∃ x : ℝ, A i = (x : EReal) := by
  obtain ⟨b, R, e, d, rfl⟩ : ∃ (b : Fin 2) (R : Fin 1024) (e : Fin 8) (d : Fin 64), i = ValueIdx.ix4 b R e d :=
    ⟨i 0, i 1, i 2, i 3, ValueIdx.eq_ix4 i⟩
  obtain ⟨x, hx⟩ := h (dv ⟨R.val / 256, by omega⟩ 0) (ValueIdx.ix4 b ⟨R.val % 256, Nat.mod_lt _ (by decide)⟩ e d)
  refine ⟨x, ?_⟩
  rw [hB, block_at, zc_all, ← key_split] at hx
  exact hx

/-- The result of the kernel on device `c` is its block of the reference's. -/
theorem result_block (hc : Cut m Q K V) (hQ : ∀ c i, ∃ x : ℝ, argQ m c i = (x : EReal)) (hK : ∀ c i, ∃ x : ℝ, argK m c i = (x : EReal)) (c : Dev nD) :
    result m c = Layout.blockN ⟨4, ![2, 256, 8, 64]⟩ Arr (Layout.meshBlock [2, 2, 4] ![[], [2], [], []] c) (Ref.attn Q K V) := by
  have fQ := finite_whole Q (argQ m) hc.q hQ
  have fK := finite_whole K (argK m) hc.k hK
  funext x
  obtain ⟨b, r, h, d, rfl⟩ : ∃ (b : Fin 2) (r : Fin 256) (h : Fin 8) (d : Fin 64), x = ValueIdx.ix4 b r h d :=
    ⟨x 0, x 1, x 2, x 3, ValueIdx.eq_ix4 x⟩
  have hi : (8 * b.val + h.val) < 16 := by omega
  choose s hs using fun o i => scores_real Q K fQ fK b h (key (zc c) r) (key o i)
  rw [block_at, attn_real Q K V b h (key (zc c) r) d s hs, result_at m c b h ⟨8 * b.val + h.val, hi⟩ rfl]
  have hj : 4 * ((8 * b.val + h.val) / 4) + (8 * b.val + h.val) % 4 = 8 * b.val + h.val := Nat.div_add_mod _ 4
  refine oRow_at (KVin m) (Qin m) c ⟨(8 * b.val + h.val) / 4, by omega⟩ ⟨(8 * b.val + h.val) % 4, by omega⟩ r d s
    (fun o i => V (ValueIdx.ix4 b (key o i) h d)) (fun c' i => ?_) (fun c' i => ?_)
  · rw [← hs, Ref.scores_at]
    refine congrArg (· * _) (Finset.sum_congr rfl fun e _ => congrArg₂ (fun x y : EReal => x * y) ?_ ?_)
    · exact (Qin_at m c b h _ hj r e).trans (by rw [hc.q, block_at])
    · exact (KVin_key m c' b h _ _ hj i e).trans (by rw [hc.k, block_at])
  · exact (KVin_value m c' b h _ _ hj i d).trans (by rw [hc.v, block_at])

end Cert.MeshAttn

end
-- ==== Proof.Value.lean ====
/-
The value claim: with every query and key finite, the kernel's blocks are the blocks of the reference's result.
-/
module

public import proofs.«01_k».proof.Proof.Frames
public import proofs.«01_k».proof.Proof.Whole

@[expose] public section

noncomputable section

namespace Cert.MeshAttn

open Idealize.ShloMosaic Idealize.SL.Sem

/-- The shape facts the precondition states, for one device's blocks and for the whole arrays. -/
theorem pre_facts : Cert.Pre_finite_qk_KernelIdeal.Facts := ⟨by decide⟩
theorem pre_facts_whole : Cert.Pre_finite_qk_ReferenceIdeal.Facts := ⟨by decide⟩

theorem top_word : Ideal.ofBits .bf16 0x7F80#16 = (⊤ : EReal) := by simp [Ideal.ofBits, Ideal.ieee]

/-- A number whose size is below the greatest is real. -/
theorem real_of_size {x : EReal} (h : max x (-x) < ⊤) : ∃ y : ℝ, x = (y : EReal) := by
  obtain ⟨h1, h2⟩ := max_lt_iff.1 h
  exact ⟨x.toReal, (EReal.coe_toReal h1.ne fun hb => by simp [hb] at h2).symm⟩

/-- The comparison answers one exactly when it holds. -/
theorem real_of_cmp {x : EReal} (h : Ideal.cmp .olt (max x (-x)) (Ideal.ofBits .bf16 0x7F80#16) = 1#1) : ∃ y : ℝ, x = (y : EReal) := by
  rw [top_word] at h
  refine real_of_size (of_decide_eq_true ?_)
  cases hd : decide (max x (-x) < ⊤) with
  | true => rfl
  | false =>
    have h' : BitVec.ofBool (decide (max x (-x) < ⊤)) = 1#1 := h
    rw [hd] at h'
    exact absurd h' (by decide)

theorem both_one {a b : BitVec 1} (h : a &&& b = 1#1) : a = 1#1 ∧ b = 1#1 := by
  revert a b; decide

/-- What the precondition says of one device's queries and keys. -/
theorem finite_of_pre [Cert.Pre_finite_qk_KernelIdeal.Facts] {q k v : FVec Ideal Cert.Pre_finite_qk_KernelIdeal.S2x256x8x64 .bf16}
    (h : Cert.Pre_finite_qk_KernelIdeal.fn (F := Ideal) q k v = fun _ => 1#1) (i : Cert.Pre_finite_qk_KernelIdeal.S2x256x8x64.Idx) :
    (∃ x : ℝ, q i = (x : EReal)) ∧ ∃ x : ℝ, k i = (x : EReal) := by
  have e : Ideal.cmp .olt (max (q i : EReal) (-(q i : EReal))) (Ideal.ofBits .bf16 0x7F80#16)
      &&& Ideal.cmp .olt (max (k i : EReal) (-(k i : EReal))) (Ideal.ofBits .bf16 0x7F80#16) = 1#1 := congrFun h i
  exact ⟨real_of_cmp (both_one e).1, real_of_cmp (both_one e).2⟩

/-- The value claim. -/
theorem value [Cert.Pre_finite_qk_KernelIdeal.Facts] : Cert.algebraic_KernelIdeal_ReferenceIdeal_pre_finite_qk_KernelIdeal := fun m g m' g' hp hc => by
  have hcut : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hc c).1, fun c => (hc c).2.1, fun c => (hc c).2.2⟩
  refine ⟨_, (θ_run Cert.KernelIdeal.defs _ _).mono (fun r h c => ?_) (run_main (F := Ideal) m g),
    (θ_run Cert.ReferenceIdeal.defs _ _).mono (fun r h => h.1 0) (Ref.run_ref (F := Ideal) m' g')⟩
  exact ⟨(h.1 c).2.trans (result_block hcut (fun c i => (finite_of_pre (hp c) i).1) (fun c i => (finite_of_pre (hp c) i).2) c), (h.1 c).1⟩

end Cert.MeshAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := by
  have hPre := Cert.MeshAttn.pre_facts
  have hPreWhole := Cert.MeshAttn.pre_facts_whole
  exact ⟨Cert.Kernel.Gen.facts, Cert.KernelIdeal.Gen.facts, Cert.ReferenceIdeal.Gen.facts, hPre, hPreWhole,
    Cert.MeshAttn.frame_kernel,
    Cert.MeshAttn.frame_ideal, fun m g _ => Cert.MeshAttn.frame_ideal m g trivial,
    Cert.MeshAttn.frame_reference, fun m g _ => Cert.MeshAttn.frame_reference m g trivial,
    trivial, Cert.MeshAttn.value⟩

end Cert.Proof

end
